-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384x1 : Shape := ⟨2, ![16384, 1]⟩
abbrev S16384x1x20 : Shape := ⟨3, ![16384, 1, 20]⟩
abbrev S100000x20 : Shape := ⟨2, ![100000, 20]⟩
abbrev S20x8 : Shape := ⟨2, ![20, 8]⟩
abbrev S8 : Shape := ⟨1, ![8]⟩
abbrev S49x128 : Shape := ⟨2, ![49, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x5 : Shape := ⟨2, ![32, 5]⟩
abbrev S5 : Shape := ⟨1, ![5]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel

variable [Facts]

def fn {F : FTy → Type} [FloatOps F] (main_arg0 : IVec S16384x1 32) (main_arg1 : IVec S16384x1 32) (main_arg2 : FVec F S16384x1x20 .f32) (main_arg3 : FVec F S16384x1 .f32) (main_arg4 : FVec F S16384x1 .f32) (main_arg5 : FVec F S100000x20 .f32) (main_arg6 : FVec F S100000x20 .f32) (main_arg7 : FVec F S20x8 .f32) (main_arg8 : FVec F S8 .f32) (main_arg9 : FVec F S49x128 .f32) (main_arg10 : FVec F S128 .f32) (main_arg11 : FVec F S128x64 .f32) (main_arg12 : FVec F S64 .f32) (main_arg13 : FVec F S64x32 .f32) (main_arg14 : FVec F S32 .f32) (main_arg15 : FVec F S32x5 .f32) (main_arg16 : FVec F S5 .f32) : IVec S_ 1 :=
  let main_c : IVec S_ 32 := constantI S_ 32 0#32
  let main_v0 : IVec S16384x1 32 := broadcastInDim S16384x1 ![] bcast_S_S16384x1 main_c
  let main_v1 : IVec S16384x1 1 := cmpi .sge main_arg0 main_v0
  let main_c_0 : IVec S_ 1 := constantI S_ 1 1#1
  let main_v2 : IVec S_ 1 := (fun x v => Host.reduce IntOp.andi x v reducesTo_S16384x1_S_d0_1 h_S_) main_v1 main_c_0
  let main_c_1 : IVec S_ 32 := constantI S_ 32 100000#32
  let main_v3 : IVec S16384x1 32 := broadcastInDim S16384x1 ![] bcast_S_S16384x1 main_c_1
  let main_v4 : IVec S16384x1 1 := cmpi .slt main_arg0 main_v3
  let main_c_2 : IVec S_ 1 := constantI S_ 1 1#1
  let main_v5 : IVec S_ 1 := (fun x v => Host.reduce IntOp.andi x v reducesTo_S16384x1_S_d0_1 h_S_) main_v4 main_c_2
  let main_v6 : IVec S_ 1 := andi main_v2 main_v5
  let main_c_3 : IVec S_ 32 := constantI S_ 32 0#32
  let main_v7 : IVec S16384x1 32 := broadcastInDim S16384x1 ![] bcast_S_S16384x1 main_c_3
  let main_v8 : IVec S16384x1 1 := cmpi .sge main_arg1 main_v7
  let main_c_4 : IVec S_ 1 := constantI S_ 1 1#1
  let main_v9 : IVec S_ 1 := (fun x v => Host.reduce IntOp.andi x v reducesTo_S16384x1_S_d0_1 h_S_) main_v8 main_c_4
  let main_v10 : IVec S_ 1 := andi main_v6 main_v9
  let main_c_5 : IVec S_ 32 := constantI S_ 32 100000#32
  let main_v11 : IVec S16384x1 32 := broadcastInDim S16384x1 ![] bcast_S_S16384x1 main_c_5
  let main_v12 : IVec S16384x1 1 := cmpi .slt main_arg1 main_v11
  let main_c_6 : IVec S_ 1 := constantI S_ 1 1#1
  let main_v13 : IVec S_ 1 := (fun x v => Host.reduce IntOp.andi x v reducesTo_S16384x1_S_d0_1 h_S_) main_v12 main_c_6
  let main_v14 : IVec S_ 1 := andi main_v10 main_v13
  main_v14
-- ==== Kernel.lean ====
abbrev S16384x1 : Shape := ⟨2, ![16384, 1]⟩
abbrev S16384x1x20 : Shape := ⟨3, ![16384, 1, 20]⟩
abbrev S100000x20 : Shape := ⟨2, ![100000, 20]⟩
abbrev S20x8 : Shape := ⟨2, ![20, 8]⟩
abbrev S8 : Shape := ⟨1, ![8]⟩
abbrev S49x128 : Shape := ⟨2, ![49, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x5 : Shape := ⟨2, ![32, 5]⟩
abbrev S5 : Shape := ⟨1, ![5]⟩
abbrev S16384 : Shape := ⟨1, ![16384]⟩
abbrev S20x128 : Shape := ⟨2, ![20, 128]⟩
abbrev S_ : Shape := ⟨0, ![]⟩
abbrev S1x20x128 : Shape := ⟨3, ![1, 20, 128]⟩
abbrev S2x20x128 : Shape := ⟨3, ![2, 20, 128]⟩
abbrev S1x2x20x128 : Shape := ⟨4, ![1, 2, 20, 128]⟩
abbrev S20x100000 : Shape := ⟨2, ![20, 100000]⟩
abbrev S50176x128 : Shape := ⟨2, ![50176, 128]⟩
abbrev S20x12544 : Shape := ⟨2, ![20, 12544]⟩
abbrev S12544x128 : Shape := ⟨2, ![12544, 128]⟩
abbrev S1x1x20x128 : Shape := ⟨4, ![1, 1, 20, 128]⟩
abbrev S16384x128 : Shape := ⟨2, ![16384, 128]⟩
abbrev S512 : Shape := ⟨1, ![512]⟩
abbrev S4x128x128 : Shape := ⟨3, ![4, 128, 128]⟩
abbrev S16 : Shape := ⟨1, ![16]⟩
abbrev S1x128x128 : Shape := ⟨3, ![1, 128, 128]⟩
abbrev S128x128 : Shape := ⟨2, ![128, 128]⟩
abbrev S16384x20 : Shape := ⟨2, ![16384, 20]⟩
abbrev S20x16384 : Shape := ⟨2, ![20, 16384]⟩
abbrev S8x128 : Shape := ⟨2, ![8, 128]⟩
abbrev S1x128 : Shape := ⟨2, ![1, 128]⟩
abbrev S1x16384 : Shape := ⟨2, ![1, 16384]⟩
abbrev S1x8 : Shape := ⟨2, ![1, 8]⟩
abbrev S1x64 : Shape := ⟨2, ![1, 64]⟩
abbrev S1x32 : Shape := ⟨2, ![1, 32]⟩
abbrev S5x1 : Shape := ⟨2, ![5, 1]⟩
abbrev S5x16384 : Shape := ⟨2, ![5, 16384]⟩
abbrev S4096x128 : Shape := ⟨2, ![4096, 128]⟩
abbrev S20x4096 : Shape := ⟨2, ![20, 4096]⟩
abbrev S1x4096 : Shape := ⟨2, ![1, 4096]⟩
abbrev S5x4096 : Shape := ⟨2, ![5, 4096]⟩
abbrev S4096x8 : Shape := ⟨2, ![4096, 8]⟩
abbrev S4096x1 : Shape := ⟨2, ![4096, 1]⟩
abbrev S4096x20 : Shape := ⟨2, ![4096, 20]⟩
abbrev S4096x64 : Shape := ⟨2, ![4096, 64]⟩
abbrev S4096x32 : Shape := ⟨2, ![4096, 32]⟩
abbrev S4096 : Shape := ⟨1, ![4096]⟩
abbrev S16384x5 : Shape := ⟨2, ![16384, 5]⟩

abbrev nBuf : Table → Nat
  | .hbm => 57
  | .local .tc .vmem => 37
  | .local .scVector .vmem => 6
  | _ => 0

abbrev bufTy : (tb : Table) → Fin (nBuf tb) → BufTy
  | .hbm, ⟨0, _⟩ => ⟨S16384x1, .i32⟩
  | .hbm, ⟨1, _⟩ => ⟨S16384x1, .i32⟩
  | .hbm, ⟨2, _⟩ => ⟨S16384x1x20, .f32⟩
  | .hbm, ⟨3, _⟩ => ⟨S16384x1, .f32⟩
  | .hbm, ⟨4, _⟩ => ⟨S16384x1, .f32⟩
  | .hbm, ⟨5, _⟩ => ⟨S100000x20, .f32⟩
  | .hbm, ⟨6, _⟩ => ⟨S100000x20, .f32⟩
  | .hbm, ⟨7, _⟩ => ⟨S20x8, .f32⟩
  | .hbm, ⟨8, _⟩ => ⟨S8, .f32⟩
  | .hbm, ⟨9, _⟩ => ⟨S49x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x5, .f32⟩
  | .hbm, ⟨16, _⟩ => ⟨S5, .f32⟩
  | .hbm, ⟨17, _⟩ => ⟨S16384, .i32⟩
  | .hbm, ⟨18, _⟩ => ⟨S16384, .i32⟩
  | .hbm, ⟨19, _⟩ => ⟨S20x128, .i32⟩
  | .hbm, ⟨20, _⟩ => ⟨S20x128, .i32⟩
  | .hbm, ⟨21, _⟩ => ⟨S_, .i32⟩
  | .hbm, ⟨22, _⟩ => ⟨S20x128, .i32⟩
  | .hbm, ⟨23, _⟩ => ⟨S20x128, .i32⟩
  | .hbm, ⟨24, _⟩ => ⟨S20x128, .i1⟩
  | .hbm, ⟨25, _⟩ => ⟨S20x128, .f32⟩
  | .hbm, ⟨26, _⟩ => ⟨S20x128, .i32⟩
  | .hbm, ⟨27, _⟩ => ⟨S20x128, .i32⟩
  | .hbm, ⟨28, _⟩ => ⟨S_, .i32⟩
  | .hbm, ⟨29, _⟩ => ⟨S20x128, .i32⟩
  | .hbm, ⟨30, _⟩ => ⟨S20x128, .i32⟩
  | .hbm, ⟨31, _⟩ => ⟨S20x128, .i1⟩
  | .hbm, ⟨32, _⟩ => ⟨S20x128, .f32⟩
  | .hbm, ⟨33, _⟩ => ⟨S1x20x128, .f32⟩
  | .hbm, ⟨34, _⟩ => ⟨S1x20x128, .f32⟩
  | .hbm, ⟨35, _⟩ => ⟨S2x20x128, .f32⟩
  | .hbm, ⟨36, _⟩ => ⟨S1x2x20x128, .f32⟩
  | .hbm, ⟨37, _⟩ => ⟨S20x100000, .f32⟩
  | .hbm, ⟨38, _⟩ => ⟨S50176x128, .f32⟩
  | .hbm, ⟨39, _⟩ => ⟨S16384x128, .f32⟩
  | .hbm, ⟨40, _⟩ => ⟨S20x100000, .f32⟩
  | .hbm, ⟨41, _⟩ => ⟨S50176x128, .f32⟩
  | .hbm, ⟨42, _⟩ => ⟨S16384x128, .f32⟩
  | .hbm, ⟨43, _⟩ => ⟨S16384x20, .f32⟩
  | .hbm, ⟨44, _⟩ => ⟨S20x16384, .f32⟩
  | .hbm, ⟨45, _⟩ => ⟨S20x128, .f32⟩
  | .hbm, ⟨46, _⟩ => ⟨S20x128, .f32⟩
  | .hbm, ⟨47, _⟩ => ⟨S8x128, .f32⟩
  | .hbm, ⟨48, _⟩ => ⟨S1x128, .f32⟩
  | .hbm, ⟨49, _⟩ => ⟨S1x16384, .f32⟩
  | .hbm, ⟨50, _⟩ => ⟨S1x8, .f32⟩
  | .hbm, ⟨51, _⟩ => ⟨S1x128, .f32⟩
  | .hbm, ⟨52, _⟩ => ⟨S1x64, .f32⟩
  | .hbm, ⟨53, _⟩ => ⟨S1x32, .f32⟩
  | .hbm, ⟨54, _⟩ => ⟨S5x1, .f32⟩
  | .hbm, ⟨55, _⟩ => ⟨S5x16384, .f32⟩
  | .hbm, ⟨56, _⟩ => ⟨S16384x5, .f32⟩
  | .local .tc .vmem, ⟨0, _⟩ => ⟨S20x12544, .f32⟩
  | .local .tc .vmem, ⟨1, _⟩ => ⟨S20x12544, .f32⟩
  | .local .tc .vmem, ⟨2, _⟩ => ⟨S20x12544, .f32⟩
  | .local .tc .vmem, ⟨3, _⟩ => ⟨S20x12544, .f32⟩
  | .local .tc .vmem, ⟨4, _⟩ => ⟨S1x2x20x128, .f32⟩
  | .local .tc .vmem, ⟨5, _⟩ => ⟨S12544x128, .f32⟩
  | .local .tc .vmem, ⟨6, _⟩ => ⟨S12544x128, .f32⟩
  | .local .tc .vmem, ⟨7, _⟩ => ⟨S20x12544, .f32⟩
  | .local .tc .vmem, ⟨8, _⟩ => ⟨S20x12544, .f32⟩
  | .local .tc .vmem, ⟨9, _⟩ => ⟨S20x12544, .f32⟩
  | .local .tc .vmem, ⟨10, _⟩ => ⟨S20x12544, .f32⟩
  | .local .tc .vmem, ⟨11, _⟩ => ⟨S1x2x20x128, .f32⟩
  | .local .tc .vmem, ⟨12, _⟩ => ⟨S12544x128, .f32⟩
  | .local .tc .vmem, ⟨13, _⟩ => ⟨S12544x128, .f32⟩
  | .local .tc .vmem, ⟨14, _⟩ => ⟨S4096x128, .f32⟩
  | .local .tc .vmem, ⟨15, _⟩ => ⟨S4096x128, .f32⟩
  | .local .tc .vmem, ⟨16, _⟩ => ⟨S4096x128, .f32⟩
  | .local .tc .vmem, ⟨17, _⟩ => ⟨S4096x128, .f32⟩
  | .local .tc .vmem, ⟨18, _⟩ => ⟨S20x4096, .f32⟩
  | .local .tc .vmem, ⟨19, _⟩ => ⟨S20x4096, .f32⟩
  | .local .tc .vmem, ⟨20, _⟩ => ⟨S1x4096, .f32⟩
  | .local .tc .vmem, ⟨21, _⟩ => ⟨S1x4096, .f32⟩
  | .local .tc .vmem, ⟨22, _⟩ => ⟨S20x8, .f32⟩
  | .local .tc .vmem, ⟨23, _⟩ => ⟨S1x8, .f32⟩
  | .local .tc .vmem, ⟨24, _⟩ => ⟨S20x128, .f32⟩
  | .local .tc .vmem, ⟨25, _⟩ => ⟨S20x128, .f32⟩
  | .local .tc .vmem, ⟨26, _⟩ => ⟨S8x128, .f32⟩
  | .local .tc .vmem, ⟨27, _⟩ => ⟨S1x128, .f32⟩
  | .local .tc .vmem, ⟨28, _⟩ => ⟨S1x128, .f32⟩
  | .local .tc .vmem, ⟨29, _⟩ => ⟨S128x64, .f32⟩
  | .local .tc .vmem, ⟨30, _⟩ => ⟨S1x64, .f32⟩
  | .local .tc .vmem, ⟨31, _⟩ => ⟨S64x32, .f32⟩
  | .local .tc .vmem, ⟨32, _⟩ => ⟨S1x32, .f32⟩
  | .local .tc .vmem, ⟨33, _⟩ => ⟨S32x5, .f32⟩
  | .local .tc .vmem, ⟨34, _⟩ => ⟨S5x1, .f32⟩
  | .local .tc .vmem, ⟨35, _⟩ => ⟨S5x4096, .f32⟩
  | .local .tc .vmem, ⟨36, _⟩ => ⟨S5x4096, .f32⟩
  | .local .scVector .vmem, ⟨0, _⟩ => ⟨S512, .i32⟩
  | .local .scVector .vmem, ⟨1, _⟩ => ⟨S512, .i32⟩
  | .local .scVector .vmem, ⟨2, _⟩ => ⟨S4x128x128, .f32⟩
  | .local .scVector .vmem, ⟨3, _⟩ => ⟨S512, .i32⟩
  | .local .scVector .vmem, ⟨4, _⟩ => ⟨S512, .i32⟩
  | .local .scVector .vmem, ⟨5, _⟩ => ⟨S4x128x128, .f32⟩
  | _, _ => ⟨S16384x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTables nBuf rfl bufTy 4 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v19_scv : Ref sig .scVector := ⟨.hbm, 38, rfl⟩
abbrev main_v0_scv : Ref sig .scVector := ⟨.hbm, 17, rfl⟩
abbrev main_v20_scv : Ref sig .scVector := ⟨.hbm, 39, rfl⟩
abbrev main_v22_scv : Ref sig .scVector := ⟨.hbm, 41, rfl⟩
abbrev main_v1_scv : Ref sig .scVector := ⟨.hbm, 18, rfl⟩
abbrev main_v23_scv : Ref sig .scVector := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg3_1 : Ref sig .tc := ⟨.vmem, 13, rfl⟩
abbrev cc4_stg0_0 : Ref sig .tc := ⟨.vmem, 14, rfl⟩
abbrev cc4_stg0_1 : Ref sig .tc := ⟨.vmem, 15, rfl⟩
abbrev cc4_stg1_0 : Ref sig .tc := ⟨.vmem, 16, rfl⟩
abbrev cc4_stg1_1 : Ref sig .tc := ⟨.vmem, 17, rfl⟩
abbrev cc4_stg2_0 : Ref sig .tc := ⟨.vmem, 18, rfl⟩
abbrev cc4_stg2_1 : Ref sig .tc := ⟨.vmem, 19, rfl⟩
abbrev cc4_stg3_0 : Ref sig .tc := ⟨.vmem, 20, rfl⟩
abbrev cc4_stg3_1 : Ref sig .tc := ⟨.vmem, 21, rfl⟩
abbrev cc4_stg4_0 : Ref sig .tc := ⟨.vmem, 22, rfl⟩
abbrev cc4_stg5_0 : Ref sig .tc := ⟨.vmem, 23, rfl⟩
abbrev cc4_stg6_0 : Ref sig .tc := ⟨.vmem, 24, rfl⟩
abbrev cc4_stg7_0 : Ref sig .tc := ⟨.vmem, 25, rfl⟩
abbrev cc4_stg8_0 : Ref sig .tc := ⟨.vmem, 26, rfl⟩
abbrev cc4_stg9_0 : Ref sig .tc := ⟨.vmem, 27, rfl⟩
abbrev cc4_stg10_0 : Ref sig .tc := ⟨.vmem, 28, rfl⟩
abbrev cc4_stg11_0 : Ref sig .tc := ⟨.vmem, 29, rfl⟩
abbrev cc4_stg12_0 : Ref sig .tc := ⟨.vmem, 30, rfl⟩
abbrev cc4_stg13_0 : Ref sig .tc := ⟨.vmem, 31, rfl⟩
abbrev cc4_stg14_0 : Ref sig .tc := ⟨.vmem, 32, rfl⟩
abbrev cc4_stg15_0 : Ref sig .tc := ⟨.vmem, 33, rfl⟩
abbrev cc4_stg16_0 : Ref sig .tc := ⟨.vmem, 34, rfl⟩
abbrev cc4_stg17_0 : Ref sig .tc := ⟨.vmem, 35, rfl⟩
abbrev cc4_stg17_1 : Ref sig .tc := ⟨.vmem, 36, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem8_0 : DmaSem sig := 44
abbrev cc4_sem9_0 : DmaSem sig := 45
abbrev cc4_sem10_0 : DmaSem sig := 46
abbrev cc4_sem11_0 : DmaSem sig := 47
abbrev cc4_sem12_0 : DmaSem sig := 48
abbrev cc4_sem13_0 : DmaSem sig := 49
abbrev cc4_sem14_0 : DmaSem sig := 50
abbrev cc4_sem15_0 : DmaSem sig := 51
abbrev cc4_sem16_0 : DmaSem sig := 52
abbrev cc4_sem17_0 : DmaSem sig := 53
abbrev cc4_sem17_1 : DmaSem sig := 54
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2x20x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off2 (k1_t1 : Fin k1_t1_loop.trips) : Fin 1 → Nat :=
  let c16_i32 : BitVec 32 := 16#32
  let c0_i32_0 : BitVec 32 := 0#32
  let c1_i32 : BitVec 32 := 1#32
  let arg16 : BitVec 32 := Scf.iv c0_i32_0 c1_i32 k1_t1
  let v99 : BitVec 32 := Scalar.muli c16_i32 arg16
  let v100 : Index := Scalar.indexCast v99
  ![v100.toNat]
@[reducible] def k1_t2_loop : Scf.Loop 32 :=
  let c0_i32_29 : BitVec 32 := 0#32
  let c8_i32 : BitVec 32 := 8#32
  let v27 : BitVec 32 := Scalar.addi c0_i32_29 c8_i32
  let c1_i32_30 : BitVec 32 := 1#32
  ⟨c0_i32_29, v27, c1_i32_30⟩
def k1_off3 (k1_t2 : Fin k1_t2_loop.trips) : Fin 1 → Nat :=
  let c0_i32_126 : BitVec 32 := 0#32
  let c16_i32_125 : BitVec 32 := 16#32
  let c0_i32_29 : BitVec 32 := 0#32
  let c1_i32_30 : BitVec 32 := 1#32
  let arg16 : BitVec 32 := Scf.iv c0_i32_29 c1_i32_30 k1_t2
  let v102 : BitVec 32 := Scalar.muli c16_i32_125 arg16
  let v103 : BitVec 32 := Scalar.addi c0_i32_126 v102
  let v104 : Index := Scalar.indexCast v103
  ![v104.toNat]

def k1_chk1 (v6 : IVec S16 32) (v101 : IVec S16 32) : Prop :=
  (∀ a x, ((![v101, v6] : Fin 2 → IVec S16 32) a x).toNat < S128x128.size a)
theorem k1_idx1_inb : ∀ (v6 : IVec S16 32) (v101 : IVec S16 32) (k1_hw1 : k1_chk1 v6 v101), ∀ a x, ((![v101, v6] : Fin 2 → IVec S16 32) a x).toNat < S128x128.size a := fun v6 v101 k1_hw1 => k1_hw1
def k1_off4 (i : grid1.Coords) (c0_i32_32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v29 : BitVec 32 := Scalar.addi v2 c0_i32_32
  let c0_i32_36 : BitVec 32 := 0#32
  ![v29.toNat, 0]
@[reducible] def k1_t3_loop : Scf.Loop 32 :=
  let c0_i32_47 : BitVec 32 := 0#32
  let c8_i32_48 : BitVec 32 := 8#32
  let v40 : BitVec 32 := Scalar.addi c0_i32_47 c8_i32_48
  let c1_i32_49 : BitVec 32 := 1#32
  ⟨c0_i32_47, v40, c1_i32_49⟩
def k1_off5 (k1_t3 : Fin k1_t3_loop.trips) : Fin 1 → Nat :=
  let c128_i32_126 : BitVec 32 := 128#32
  let c16_i32_125 : BitVec 32 := 16#32
  let c0_i32_47 : BitVec 32 := 0#32
  let c1_i32_49 : BitVec 32 := 1#32
  let arg16 : BitVec 32 := Scf.iv c0_i32_47 c1_i32_49 k1_t3
  let v102 : BitVec 32 := Scalar.muli c16_i32_125 arg16
  let v103 : BitVec 32 := Scalar.addi c128_i32_126 v102
  let v104 : Index := Scalar.indexCast v103
  ![v104.toNat]

def k1_chk2 (v6 : IVec S16 32) (v101 : IVec S16 32) : Prop :=
  (∀ a x, ((![v101, v6] : Fin 2 → IVec S16 32) a x).toNat < S128x128.size a)
theorem k1_idx2_inb : ∀ (v6 : IVec S16 32) (v101 : IVec S16 32) (k1_hw2 : k1_chk2 v6 v101), ∀ a x, ((![v101, v6] : Fin 2 → IVec S16 32) a x).toNat < S128x128.size a := fun v6 v101 k1_hw2 => k1_hw2
@[reducible] def k1_t4_loop : Scf.Loop 32 :=
  let c0_i32_66 : BitVec 32 := 0#32
  let c8_i32_67 : BitVec 32 := 8#32
  let v53 : BitVec 32 := Scalar.addi c0_i32_66 c8_i32_67
  let c1_i32_68 : BitVec 32 := 1#32
  ⟨c0_i32_66, v53, c1_i32_68⟩
def k1_off6 (k1_t4 : Fin k1_t4_loop.trips) : Fin 1 → Nat :=
  let c256_i32_126 : BitVec 32 := 256#32
  let c16_i32_125 : BitVec 32 := 16#32
  let c0_i32_66 : BitVec 32 := 0#32
  let c1_i32_68 : BitVec 32 := 1#32
  let arg16 : BitVec 32 := Scf.iv c0_i32_66 c1_i32_68 k1_t4
  let v102 : BitVec 32 := Scalar.muli c16_i32_125 arg16
  let v103 : BitVec 32 := Scalar.addi c256_i32_126 v102
  let v104 : Index := Scalar.indexCast v103
  ![v104.toNat]

def k1_chk3 (v6 : IVec S16 32) (v101 : IVec S16 32) : Prop :=
  (∀ a x, ((![v101, v6] : Fin 2 → IVec S16 32) a x).toNat < S128x128.size a)
theorem k1_idx3_inb : ∀ (v6 : IVec S16 32) (v101 : IVec S16 32) (k1_hw3 : k1_chk3 v6 v101), ∀ a x, ((![v101, v6] : Fin 2 → IVec S16 32) a x).toNat < S128x128.size a := fun v6 v101 k1_hw3 => k1_hw3
@[reducible] def k1_t5_loop : Scf.Loop 32 :=
  let c0_i32_85 : BitVec 32 := 0#32
  let c8_i32_86 : BitVec 32 := 8#32
  let v66 : BitVec 32 := Scalar.addi c0_i32_85 c8_i32_86
  let c1_i32_87 : BitVec 32 := 1#32
  ⟨c0_i32_85, v66, c1_i32_87⟩
def k1_off7 (k1_t5 : Fin k1_t5_loop.trips) : Fin 1 → Nat :=
  let c384_i32_126 : BitVec 32 := 384#32
  let c16_i32_125 : BitVec 32 := 16#32
  let c0_i32_85 : BitVec 32 := 0#32
  let c1_i32_87 : BitVec 32 := 1#32
  let arg16 : BitVec 32 := Scf.iv c0_i32_85 c1_i32_87 k1_t5
  let v102 : BitVec 32 := Scalar.muli c16_i32_125 arg16
  let v103 : BitVec 32 := Scalar.addi c384_i32_126 v102
  let v104 : Index := Scalar.indexCast v103
  ![v104.toNat]

def k1_chk4 (v6 : IVec S16 32) (v101 : IVec S16 32) : Prop :=
  (∀ a x, ((![v101, v6] : Fin 2 → IVec S16 32) a x).toNat < S128x128.size a)
theorem k1_idx4_inb : ∀ (v6 : IVec S16 32) (v101 : IVec S16 32) (k1_hw4 : k1_chk4 v6 v101), ∀ a x, ((![v101, v6] : Fin 2 → IVec S16 32) a x).toNat < S128x128.size a := fun v6 v101 k1_hw4 => k1_hw4
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc2_transform_1 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20x12544 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20x12544 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2x20x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S12544x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k3_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k3_off2 (k3_t1 : Fin k3_t1_loop.trips) : Fin 1 → Nat :=
  let c16_i32 : BitVec 32 := 16#32
  let c0_i32_0 : BitVec 32 := 0#32
  let c1_i32 : BitVec 32 := 1#32
  let arg16 : BitVec 32 := Scf.iv c0_i32_0 c1_i32 k3_t1
  let v99 : BitVec 32 := Scalar.muli c16_i32 arg16
  let v100 : Index := Scalar.indexCast v99
  ![v100.toNat]
@[reducible] def k3_t2_loop : Scf.Loop 32 :=
  let c0_i32_29 : BitVec 32 := 0#32
  let c8_i32 : BitVec 32 := 8#32
  let v27 : BitVec 32 := Scalar.addi c0_i32_29 c8_i32
  let c1_i32_30 : BitVec 32 := 1#32
  ⟨c0_i32_29, v27, c1_i32_30⟩
def k3_off3 (k3_t2 : Fin k3_t2_loop.trips) : Fin 1 → Nat :=
  let c0_i32_126 : BitVec 32 := 0#32
  let c16_i32_125 : BitVec 32 := 16#32
  let c0_i32_29 : BitVec 32 := 0#32
  let c1_i32_30 : BitVec 32 := 1#32
  let arg16 : BitVec 32 := Scf.iv c0_i32_29 c1_i32_30 k3_t2
  let v102 : BitVec 32 := Scalar.muli c16_i32_125 arg16
  let v103 : BitVec 32 := Scalar.addi c0_i32_126 v102
  let v104 : Index := Scalar.indexCast v103
  ![v104.toNat]

def k3_chk1 (v6 : IVec S16 32) (v101 : IVec S16 32) : Prop :=
  (∀ a x, ((![v101, v6] : Fin 2 → IVec S16 32) a x).toNat < S128x128.size a)
theorem k3_idx1_inb : ∀ (v6 : IVec S16 32) (v101 : IVec S16 32) (k3_hw1 : k3_chk1 v6 v101), ∀ a x, ((![v101, v6] : Fin 2 → IVec S16 32) a x).toNat < S128x128.size a := fun v6 v101 k3_hw1 => k3_hw1
def k3_off4 (i : grid3.Coords) (c0_i32_32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v29 : BitVec 32 := Scalar.addi v2 c0_i32_32
  let c0_i32_36 : BitVec 32 := 0#32
  ![v29.toNat, 0]
@[reducible] def k3_t3_loop : Scf.Loop 32 :=
  let c0_i32_47 : BitVec 32 := 0#32
  let c8_i32_48 : BitVec 32 := 8#32
  let v40 : BitVec 32 := Scalar.addi c0_i32_47 c8_i32_48
  let c1_i32_49 : BitVec 32 := 1#32
  ⟨c0_i32_47, v40, c1_i32_49⟩
def k3_off5 (k3_t3 : Fin k3_t3_loop.trips) : Fin 1 → Nat :=
  let c128_i32_126 : BitVec 32 := 128#32
  let c16_i32_125 : BitVec 32 := 16#32
  let c0_i32_47 : BitVec 32 := 0#32
  let c1_i32_49 : BitVec 32 := 1#32
  let arg16 : BitVec 32 := Scf.iv c0_i32_47 c1_i32_49 k3_t3
  let v102 : BitVec 32 := Scalar.muli c16_i32_125 arg16
  let v103 : BitVec 32 := Scalar.addi c128_i32_126 v102
  let v104 : Index := Scalar.indexCast v103
  ![v104.toNat]

def k3_chk2 (v6 : IVec S16 32) (v101 : IVec S16 32) : Prop :=
  (∀ a x, ((![v101, v6] : Fin 2 → IVec S16 32) a x).toNat < S128x128.size a)
theorem k3_idx2_inb : ∀ (v6 : IVec S16 32) (v101 : IVec S16 32) (k3_hw2 : k3_chk2 v6 v101), ∀ a x, ((![v101, v6] : Fin 2 → IVec S16 32) a x).toNat < S128x128.size a := fun v6 v101 k3_hw2 => k3_hw2
@[reducible] def k3_t4_loop : Scf.Loop 32 :=
  let c0_i32_66 : BitVec 32 := 0#32
  let c8_i32_67 : BitVec 32 := 8#32
  let v53 : BitVec 32 := Scalar.addi c0_i32_66 c8_i32_67
  let c1_i32_68 : BitVec 32 := 1#32
  ⟨c0_i32_66, v53, c1_i32_68⟩
def k3_off6 (k3_t4 : Fin k3_t4_loop.trips) : Fin 1 → Nat :=
  let c256_i32_126 : BitVec 32 := 256#32
  let c16_i32_125 : BitVec 32 := 16#32
  let c0_i32_66 : BitVec 32 := 0#32
  let c1_i32_68 : BitVec 32 := 1#32
  let arg16 : BitVec 32 := Scf.iv c0_i32_66 c1_i32_68 k3_t4
  let v102 : BitVec 32 := Scalar.muli c16_i32_125 arg16
  let v103 : BitVec 32 := Scalar.addi c256_i32_126 v102
  let v104 : Index := Scalar.indexCast v103
  ![v104.toNat]

def k3_chk3 (v6 : IVec S16 32) (v101 : IVec S16 32) : Prop :=
  (∀ a x, ((![v101, v6] : Fin 2 → IVec S16 32) a x).toNat < S128x128.size a)
theorem k3_idx3_inb : ∀ (v6 : IVec S16 32) (v101 : IVec S16 32) (k3_hw3 : k3_chk3 v6 v101), ∀ a x, ((![v101, v6] : Fin 2 → IVec S16 32) a x).toNat < S128x128.size a := fun v6 v101 k3_hw3 => k3_hw3
@[reducible] def k3_t5_loop : Scf.Loop 32 :=
  let c0_i32_85 : BitVec 32 := 0#32
  let c8_i32_86 : BitVec 32 := 8#32
  let v66 : BitVec 32 := Scalar.addi c0_i32_85 c8_i32_86
  let c1_i32_87 : BitVec 32 := 1#32
  ⟨c0_i32_85, v66, c1_i32_87⟩
def k3_off7 (k3_t5 : Fin k3_t5_loop.trips) : Fin 1 → Nat :=
  let c384_i32_126 : BitVec 32 := 384#32
  let c16_i32_125 : BitVec 32 := 16#32
  let c0_i32_85 : BitVec 32 := 0#32
  let c1_i32_87 : BitVec 32 := 1#32
  let arg16 : BitVec 32 := Scf.iv c0_i32_85 c1_i32_87 k3_t5
  let v102 : BitVec 32 := Scalar.muli c16_i32_125 arg16
  let v103 : BitVec 32 := Scalar.addi c384_i32_126 v102
  let v104 : Index := Scalar.indexCast v103
  ![v104.toNat]

def k3_chk4 (v6 : IVec S16 32) (v101 : IVec S16 32) : Prop :=
  (∀ a x, ((![v101, v6] : Fin 2 → IVec S16 32) a x).toNat < S128x128.size a)
theorem k3_idx4_inb : ∀ (v6 : IVec S16 32) (v101 : IVec S16 32) (k3_hw4 : k3_chk4 v6 v101), ∀ a x, ((![v101, v6] : Fin 2 → IVec S16 32) a x).toNat < S128x128.size a := fun v6 v101 k3_hw4 => k3_hw4
abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S20x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S20x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S20x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S20x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S8x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S128x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S64x32 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x32 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S32x5 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S5x1 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 2 → Memref sig .tc .vmem S5x4096 .f32 := fun | 0 => Memref.whole cc4_stg17_0 | 1 => Memref.whole cc4_stg17_1 | ⟨_ + 2, h⟩ => absurd h (Nat.not_lt.2 (Nat.le_add_left _ _))
abbrev sem4_17 : Fin 2 → DmaSem sig := fun | 0 => cc4_sem17_0 | 1 => cc4_sem17_1 | ⟨_ + 2, h⟩ => absurd h (Nat.not_lt.2 (Nat.le_add_left _ _))
abbrev reads4_17 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x1 : Shape := ⟨2, ![16384, 1]⟩
abbrev S16384x1x20 : Shape := ⟨3, ![16384, 1, 20]⟩
abbrev S100000x20 : Shape := ⟨2, ![100000, 20]⟩
abbrev S20x8 : Shape := ⟨2, ![20, 8]⟩
abbrev S8 : Shape := ⟨1, ![8]⟩
abbrev S49x128 : Shape := ⟨2, ![49, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x5 : Shape := ⟨2, ![32, 5]⟩
abbrev S5 : Shape := ⟨1, ![5]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S16384x20 : Shape := ⟨2, ![16384, 20]⟩
abbrev S16384x1x8 : Shape := ⟨3, ![16384, 1, 8]⟩
abbrev S1x1x8 : Shape := ⟨3, ![1, 1, 8]⟩
abbrev S16384x8 : Shape := ⟨2, ![16384, 8]⟩
abbrev S16384x49 : Shape := ⟨2, ![16384, 49]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S16384x5 : Shape := ⟨2, ![16384, 5]⟩
abbrev S1x5 : Shape := ⟨2, ![1, 5]⟩
abbrev S16384 : Shape := ⟨1, ![16384]⟩

abbrev nBuf : Space → Nat
  | .hbm => 116
  | .vmem => 0
  | .smem => 0
  | _ => 0

abbrev bufTy : (tb : Table) → Fin (tcTables nBuf tb) → BufTy
  | .hbm, ⟨0, _⟩ => ⟨S16384x1, .i32⟩
  | .hbm, ⟨1, _⟩ => ⟨S16384x1, .i32⟩
  | .hbm, ⟨2, _⟩ => ⟨S16384x1x20, .f32⟩
  | .hbm, ⟨3, _⟩ => ⟨S16384x1, .f32⟩
  | .hbm, ⟨4, _⟩ => ⟨S16384x1, .f32⟩
  | .hbm, ⟨5, _⟩ => ⟨S100000x20, .f32⟩
  | .hbm, ⟨6, _⟩ => ⟨S100000x20, .f32⟩
  | .hbm, ⟨7, _⟩ => ⟨S20x8, .f32⟩
  | .hbm, ⟨8, _⟩ => ⟨S8, .f32⟩
  | .hbm, ⟨9, _⟩ => ⟨S49x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x5, .f32⟩
  | .hbm, ⟨16, _⟩ => ⟨S5, .f32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S_, .i32⟩
  | .hbm, ⟨21, _⟩ => ⟨S16384x1, .i32⟩
  | .hbm, ⟨22, _⟩ => ⟨S16384x1, .i32⟩
  | .hbm, ⟨23, _⟩ => ⟨S16384x1, .i32⟩
  | .hbm, ⟨24, _⟩ => ⟨S16384x1x1, .i32⟩
  | .hbm, ⟨25, _⟩ => ⟨S1, .i32⟩
  | .hbm, ⟨26, _⟩ => ⟨S_, .i32⟩
  | .hbm, ⟨27, _⟩ => ⟨S16384x1x1, .i32⟩
  | .hbm, ⟨28, _⟩ => ⟨S16384x1x1, .i1⟩
  | .hbm, ⟨29, _⟩ => ⟨S1x1x1, .i32⟩
  | .hbm, ⟨30, _⟩ => ⟨S16384x1x1, .i32⟩
  | .hbm, ⟨31, _⟩ => ⟨S16384x1x1, .i1⟩
  | .hbm, ⟨32, _⟩ => ⟨S16384x1x1, .i1⟩
  | .hbm, ⟨33, _⟩ => ⟨S_, .i1⟩
  | .hbm, ⟨34, _⟩ => ⟨S16384x1, .i1⟩
  | .hbm, ⟨35, _⟩ => ⟨S16384x1x20, .f32⟩
  | .hbm, ⟨36, _⟩ => ⟨S16384x1x20, .i1⟩
  | .hbm, ⟨37, _⟩ => ⟨S_, .f32⟩
  | .hbm, ⟨38, _⟩ => ⟨S16384x1x20, .f32⟩
  | .hbm, ⟨39, _⟩ => ⟨S16384x1x20, .f32⟩
  | .hbm, ⟨40, _⟩ => ⟨S16384x20, .f32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S_, .i32⟩
  | .hbm, ⟨45, _⟩ => ⟨S16384x1, .i32⟩
  | .hbm, ⟨46, _⟩ => ⟨S16384x1, .i32⟩
  | .hbm, ⟨47, _⟩ => ⟨S16384x1, .i32⟩
  | .hbm, ⟨48, _⟩ => ⟨S16384x1x1, .i32⟩
  | .hbm, ⟨49, _⟩ => ⟨S1, .i32⟩
  | .hbm, ⟨50, _⟩ => ⟨S_, .i32⟩
  | .hbm, ⟨51, _⟩ => ⟨S16384x1x1, .i32⟩
  | .hbm, ⟨52, _⟩ => ⟨S16384x1x1, .i1⟩
  | .hbm, ⟨53, _⟩ => ⟨S1x1x1, .i32⟩
  | .hbm, ⟨54, _⟩ => ⟨S16384x1x1, .i32⟩
  | .hbm, ⟨55, _⟩ => ⟨S16384x1x1, .i1⟩
  | .hbm, ⟨56, _⟩ => ⟨S16384x1x1, .i1⟩
  | .hbm, ⟨57, _⟩ => ⟨S_, .i1⟩
  | .hbm, ⟨58, _⟩ => ⟨S16384x1, .i1⟩
  | .hbm, ⟨59, _⟩ => ⟨S16384x1x20, .f32⟩
  | .hbm, ⟨60, _⟩ => ⟨S16384x1x20, .i1⟩
  | .hbm, ⟨61, _⟩ => ⟨S_, .f32⟩
  | .hbm, ⟨62, _⟩ => ⟨S16384x1x20, .f32⟩
  | .hbm, ⟨63, _⟩ => ⟨S16384x1x20, .f32⟩
  | .hbm, ⟨64, _⟩ => ⟨S16384x20, .f32⟩
  | .hbm, ⟨65, _⟩ => ⟨S16384x1x8, .f32⟩
  | .hbm, ⟨66, _⟩ => ⟨S1x1x8, .f32⟩
  | .hbm, ⟨67, _⟩ => ⟨S16384x1x8, .f32⟩
  | .hbm, ⟨68, _⟩ => ⟨S16384x1x8, .f32⟩
  | .hbm, ⟨69, _⟩ => ⟨S_, .f32⟩
  | .hbm, ⟨70, _⟩ => ⟨S16384x1x8, .f32⟩
  | .hbm, ⟨71, _⟩ => ⟨S16384x1x8, .f32⟩
  | .hbm, ⟨72, _⟩ => ⟨S16384x8, .f32⟩
  | .hbm, ⟨73, _⟩ => ⟨S16384x49, .f32⟩
  | .hbm, ⟨74, _⟩ => ⟨S16384x128, .f32⟩
  | .hbm, ⟨75, _⟩ => ⟨S1x128, .f32⟩
  | .hbm, ⟨76, _⟩ => ⟨S16384x128, .f32⟩
  | .hbm, ⟨77, _⟩ => ⟨S16384x128, .f32⟩
  | .hbm, ⟨78, _⟩ => ⟨S_, .f32⟩
  | .hbm, ⟨79, _⟩ => ⟨S16384x128, .f32⟩
  | .hbm, ⟨80, _⟩ => ⟨S16384x128, .f32⟩
  | .hbm, ⟨81, _⟩ => ⟨S16384x64, .f32⟩
  | .hbm, ⟨82, _⟩ => ⟨S1x64, .f32⟩
  | .hbm, ⟨83, _⟩ => ⟨S16384x64, .f32⟩
  | .hbm, ⟨84, _⟩ => ⟨S16384x64, .f32⟩
  | .hbm, ⟨85, _⟩ => ⟨S_, .f32⟩
  | .hbm, ⟨86, _⟩ => ⟨S16384x64, .f32⟩
  | .hbm, ⟨87, _⟩ => ⟨S16384x64, .f32⟩
  | .hbm, ⟨88, _⟩ => ⟨S16384x32, .f32⟩
  | .hbm, ⟨89, _⟩ => ⟨S1x32, .f32⟩
  | .hbm, ⟨90, _⟩ => ⟨S16384x32, .f32⟩
  | .hbm, ⟨91, _⟩ => ⟨S16384x32, .f32⟩
  | .hbm, ⟨92, _⟩ => ⟨S_, .f32⟩
  | .hbm, ⟨93, _⟩ => ⟨S16384x32, .f32⟩
  | .hbm, ⟨94, _⟩ => ⟨S16384x32, .f32⟩
  | .hbm, ⟨95, _⟩ => ⟨S16384x5, .f32⟩
  | .hbm, ⟨96, _⟩ => ⟨S1x5, .f32⟩
  | .hbm, ⟨97, _⟩ => ⟨S16384x5, .f32⟩
  | .hbm, ⟨98, _⟩ => ⟨S16384x5, .f32⟩
  | .hbm, ⟨99, _⟩ => ⟨S_, .f32⟩
  | .hbm, ⟨100, _⟩ => ⟨S16384x5, .f32⟩
  | .hbm, ⟨101, _⟩ => ⟨S16384x5, .f32⟩
  | .hbm, ⟨102, _⟩ => ⟨S_, .f32⟩
  | .hbm, ⟨103, _⟩ => ⟨S16384, .f32⟩
  | .hbm, ⟨104, _⟩ => ⟨S_, .f32⟩
  | .hbm, ⟨105, _⟩ => ⟨S16384, .f32⟩
  | .hbm, ⟨106, _⟩ => ⟨S16384, .f32⟩
  | .hbm, ⟨107, _⟩ => ⟨S16384x1, .f32⟩
  | .hbm, ⟨108, _⟩ => ⟨S16384x5, .f32⟩
  | .hbm, ⟨109, _⟩ => ⟨S16384x5, .f32⟩
  | .hbm, ⟨110, _⟩ => ⟨S16384x5, .f32⟩
  | .hbm, ⟨111, _⟩ => ⟨S_, .f32⟩
  | .hbm, ⟨112, _⟩ => ⟨S16384, .f32⟩
  | .hbm, ⟨113, _⟩ => ⟨S16384x1, .f32⟩
  | .hbm, ⟨114, _⟩ => ⟨S16384x5, .f32⟩
  | .hbm, ⟨115, _⟩ => ⟨S16384x5, .f32⟩
  | _, _ => ⟨S16384x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_v1 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_call2_cst : Ref sig .tc := ⟨.hbm, 69, rfl⟩
abbrev main_call2_v0 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_call3_cst : Ref sig .tc := ⟨.hbm, 78, rfl⟩
abbrev main_call3_v0 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_call4_cst : Ref sig .tc := ⟨.hbm, 85, rfl⟩
abbrev main_call4_v0 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_call5_cst : Ref sig .tc := ⟨.hbm, 92, rfl⟩
abbrev main_call5_v0 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_call6_cst : Ref sig .tc := ⟨.hbm, 99, rfl⟩
abbrev main_call6_v0 : Ref sig .tc := ⟨.hbm, 100, rfl⟩
abbrev main_v30 : Ref sig .tc := ⟨.hbm, 101, rfl⟩
abbrev main_cst : Ref sig .tc := ⟨.hbm, 102, rfl⟩
abbrev main_v31 : Ref sig .tc := ⟨.hbm, 103, rfl⟩
abbrev main_cst_0 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_cst_1 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩

abbrev nD : Nat := 1
abbrev τ : Topo := Topo.v7x

variable {F : FTy → Type} [FloatOps F]
-- ==== Proof.PRange.lean ====
/-
  What the precondition says: every row number of both lists is below 100000.
-/
module

public import proofs.«01_k».proof.Proof.Gen.Pre_ids_in_range
public import Idealize.ShloMosaic.Lib.ReduceAll
public import Idealize.ShloMosaic.Lib.Affine

@[expose] public section

noncomputable section

namespace Cert.Proof

open Idealize.ShloMosaic Cert.Pre_ids_in_range Cert.Pre_ids_in_range.Gen

/-- A word at least zero and below `n` as a signed number is below `n`. -/
theorem toNat_lt {v : BitVec 32} (h0 : IntOp.cmpi .sge v 0#32 = 1#1) (h1 : IntOp.cmpi .slt v 100000#32 = 1#1) : v.toNat < 100000 := by
  have one (p : Bool) : (BitVec.ofBool p = 1#1) ↔ p = true := by cases p <;> decide
  simp only [IntOp.cmpi, one, BitVec.sle_eq_decide, BitVec.slt_eq_decide, decide_eq_true_eq, BitVec.toInt_eq_toNat_cond, BitVec.toNat_ofNat,
    Nat.reducePow, Nat.reduceMod] at h0 h1
  omega

theorem range_of_pre {F : FTy → Type} [FloatOps F] (a0 a1 : IVec S16384x1 32) {a2 a3 a4 a5 a6 a7 a8 a9 a10 a11 a12 a13 a14 a15 a16}
    (h : fn (F := F) a0 a1 a2 a3 a4 a5 a6 a7 a8 a9 a10 a11 a12 a13 a14 a15 a16 = fun _ => 1#1) :
    (∀ y, (a0 y).toNat < 100000) ∧ ∀ y, (a1 y).toNat < 100000 := by
  have e := congrFun h (fun i => nomatch i)
  simp only [fn, andi, constantI] at e
  obtain ⟨e, h4⟩ := IntOp.andi_eq_one.mp e
  obtain ⟨e, h3⟩ := IntOp.andi_eq_one.mp e
  obtain ⟨h1, h2⟩ := IntOp.andi_eq_one.mp e
  exact ⟨fun y => toNat_lt (Host.reduce_andi_all _ _ _ _ _ h1 y) (Host.reduce_andi_all _ _ _ _ _ h2 y),
    fun y => toNat_lt (Host.reduce_andi_all _ _ _ _ _ h3 y) (Host.reduce_andi_all _ _ _ _ _ h4 y)⟩

end Cert.Proof
-- ==== Proof.ICommon.lean ====
/-
  The program as the launch theorem of the SparseCore calls sees it: the configuration of its two
  SparseCore calls, the tables of definitions below them, and the resource algebra of the proof. The
  algebra has three parts: the rounds of the handshakes between the TensorCore, the sequencers and
  the tiles; the rounds of the staging cells of the TensorCore calls' windows; and the counters of the
  tiles' own copies.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Pipeline.ArrRel
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.I

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the TensorCore calls' loops over the kernel functions' own. -/
abbrev ΛP : Labels := Pipeline.Sig Λ₀ (Fin 3) fun p => (pcfgs (F := F) p).Adm
/-- The configuration of the two SparseCore calls. -/
abbrev SC : SparseCore.Cfg τ sig (ΛP (F := F)) 2 := sc (F := F)
/-- The definitions below the SparseCore calls. -/
abbrev DD [FloatOps F] : Defs nD τ sig (Elt F) (ΛP (F := F)) := Pipeline.defs pcfgs defs₀
abbrev 𝒱₀ : Variants := Variants.none
abbrev 𝒱P : Variants := 𝒱₀.lift
abbrev vP : 𝒱P.V := Sum.inl none

/-- Each call runs on all sixteen tiles of both SparseCores. -/
theorem nSub_eq : ∀ q : Fin 2, (SC (F := F)).nSub q = 16 := fun | 0 => rfl | 1 => rfl
theorem nCore_eq : ∀ q : Fin 2, (SC (F := F)).nCore q = 2 := fun | 0 => rfl | 1 => rfl

/-- The call protocol's side conditions: its semaphores are distinct and the program's own lie apart from them. -/
theorem facts : (SC (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 2) (Elt F) ℕ UU ℕ

/-- Where the handshakes' rounds live. -/
def EH : Emb UH (MT nD τ sig (HIx 2) (Elt F) ℕ UU ℕ) := embL
/-- Where the staging cells' rounds live. -/
def EP : Emb UP (MT nD τ sig (HIx 2) (Elt F) ℕ UU ℕ) := (Emb.inl : Emb UP (UP × Counters)).trans embR

instance EH_landsIn : (EH : Emb UH 𝕄).LandsIn (upEmb : UEmb _ 𝕄) := by unfold EH; infer_instance
instance EP_landsIn : (EP : Emb UP 𝕄).LandsIn (upEmb : UEmb _ 𝕄) := by unfold EP embR; infer_instance

/-- The launch element of the user algebra splits into the handshakes' rounds and the cells' rounds. -/
theorem ownU_split (a : UH) (b : UP) : (ownU ((a, (b, 1)) : UU) : sProp 𝕄) ⊢ iprop(BI.own (EH a) ∗ BI.own (EP b)) := by
  refine (ownU_pair a ((b, 1) : UP × Counters)).trans ?_
  iintro ⟨Ha, Hb⟩
  isplitl [Ha]; · iexact Ha
  ihave H := (own_pair_emb (embR : Emb (UP × Counters) 𝕄) b (1 : Counters)) $$ Hb
  icases H with ⟨H, -⟩
  iexact H

end Cert.Proof.I
-- ==== Proof.ISc.lean ====
/-
  What the tiles of both SparseCore calls share: the row and the half an id names, the stores of sixteen
  words into a buffer of 512, the store of sixteen numbers down one lane of a block of rows.
-/
module

public import proofs.«01_k».proof.Proof.ICommon
public import Idealize.ShloMosaic.Lib.WritesUnit
public import Idealize.ShloMosaic.Lib.Routing.Words
public import Idealize.ShloMosaic.Lib.ShareLeaves
public import Idealize.ShloMosaic.Lib.WordExact

@[expose] public section

noncomputable section

namespace Cert.Proof.I

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- The row of the packed table an id lies in, and the half of that row it takes. -/
def rowOf (w : BitVec 32) : BitVec 32 := IntOp.remsi .vector w 50176#32
def halfOf (w : BitVec 32) : BitVec 32 := IntOp.divsi .vector w 50176#32

theorem rowOf_toNat (w : BitVec 32) (h : w.toNat < 100000) : (rowOf w).toNat = w.toNat % 50176 := by
  unfold rowOf
  have e : w = BitVec.ofNat 32 w.toNat := by simp
  rw [e, Routing.remsi_word .vector (a := w.toNat) (b := 50176) (by omega) (by omega) (by omega)]
  simp only [BitVec.toNat_ofNat, BitVec.ofNat_toNat, BitVec.setWidth_eq]
  omega

theorem halfOf_toNat (w : BitVec 32) (h : w.toNat < 100000) : (halfOf w).toNat = w.toNat / 50176 := by
  unfold halfOf
  have e : w = BitVec.ofNat 32 w.toNat := by simp
  rw [e, Routing.divsi_word .vector (a := w.toNat) (b := 50176) (by omega) (by omega) (by omega)]
  simp only [BitVec.toNat_ofNat, BitVec.ofNat_toNat, BitVec.setWidth_eq]
  omega

/-- The row buffer before trip `k` of the first loop: rows for the ids already done, ids for the others. -/
def rowsUpTo (w : ℕ → BitVec 32) (k : ℕ) (x : S512.Idx) : BitVec 32 :=
  if (x 0).val < 16 * k then rowOf (w (x 0).val) else w (x 0).val
/-- The half buffer holds the halves of the ids already done. -/
def HalvesUpTo (w : ℕ → BitVec 32) (k : ℕ) (g : S512.Idx → BitVec 32) : Prop :=
  ∀ x : S512.Idx, (x 0).val < 16 * k → g x = halfOf (w (x 0).val)

/-- Sixteen words stored at place `16 k` of a buffer of 512, and the other words left. -/
theorem stored16 (v : View sig .scVector .vmem S512 .i32) (f : v.ty.Contents (Elt F)) (off : Fin 1 → ℕ) (k : ℕ)
    (hoff : off = ![16 * k]) (inb : ∀ a, off a + S16.size a ≤ S512.size a) (p : S16.Idx → Elt F .i32) (x : S512.Idx) :
    v.read (Elt F) (v.writes (Elt F) f [⟨Rect.unit (s := S512) off S16.size inb, p⟩]) x
      = if h : 16 * k ≤ (x 0).val ∧ (x 0).val < 16 * k + 16 then p (fun | ⟨0, _⟩ => ⟨(x 0).val - 16 * k, by show _ < 16; omega⟩)
        else v.read (Elt F) f x := by
  split
  · rename_i h
    refine View.read_writes_cons_unit_of_mem v f inb p [] x _ hoff fun a => ?_
    match a with
    | ⟨0, _⟩ => show (x 0).val = 16 * k + ((x 0).val - 16 * k); omega
  · rename_i h
    refine (View.read_writes_cons_unit_of_not_mem v f inb p [] x hoff 0 ?_).trans rfl
    show (x 0).val < 16 * k ∨ 16 * k + 16 ≤ (x 0).val
    omega

/-- What sixteen words read at place `16 k` of a buffer of 512 are. -/
theorem loaded16 (v : View sig .scVector .vmem S512 .i32) (f : v.ty.Contents (Elt F)) (off : Fin 1 → ℕ) (o : ℕ)
    (hoff : off = ![o]) (inb : ∀ a, off a + S16.size a ≤ S512.size a) (y : S16.Idx) (x : S512.Idx) (hx : (x 0).val = o + (y 0).val) :
    v.readAt (Elt F) (Rect.unit (s := S512) off S16.size inb).toLoadRect f y = v.read (Elt F) f x := by
  subst hoff
  refine congrArg (v.read (Elt F) f) (funext fun a => Fin.ext ?_)
  match a with
  | ⟨0, _⟩ => show o + 1 * (y 0).val = (x 0).val; omega

/-! ## Sixteen numbers stored down one lane -/

section Fold
variable {α β γ : Type*} (P : α → β → Prop) [∀ a b, Decidable (P a b)] (v : α → γ)

/-- Stores none of which names `j` leave it. -/
theorem fold_miss (j : β) : ∀ (l : List α) (g : β → γ), (∀ a ∈ l, ¬ P a j) →
    (l.foldl (fun (g : β → γ) a => fun j => if P a j then v a else g j) g) j = g j
  | [], _, _ => rfl
  | a :: l, g, h => by
    rw [List.foldl_cons, fold_miss j l _ fun a' ha' => h a' (List.mem_cons_of_mem _ ha'), if_neg (h a List.mem_cons_self)]

/-- Of stores only one of which names `j`, that one's value stands there. -/
theorem fold_hit (j : β) (a₀ : α) (h₀ : P a₀ j) (hu : ∀ a, P a j → a = a₀) : ∀ (l : List α) (g : β → γ), a₀ ∈ l →
    (l.foldl (fun (g : β → γ) a => fun j => if P a j then v a else g j) g) j = v a₀
  | a :: l, g, h => by
    rw [List.foldl_cons]
    by_cases hl : a₀ ∈ l
    · exact fold_hit j a₀ h₀ hu l _ hl
    · have ha : a₀ = a := (List.mem_cons.mp h).resolve_right hl
      subst ha
      rw [fold_miss P v j l _ fun a' ha' hP => hl (hu a' hP ▸ ha'), if_pos h₀]

end Fold

/-- Sixteen numbers stored into lane 120 of rows `16 k ..` of a block of 128 rows. -/
theorem lane_store [FloatOps F] (g : Vec F S128x128 .f32) (rows cols : IVec S16 32) (v : Vec F S16 .f32) (k : ℕ)
    (hr : ∀ x : S16.Idx, (rows x).toNat = 16 * k + (x 0).val) (hc : ∀ x : S16.Idx, (cols x).toNat = 120)
    (h : ∀ a x, ((![rows, cols] : Fin 2 → IVec S16 32) a x).toNat < S128x128.size a) (j : S128x128.Idx) :
    storeIdx (F := F) (s := S128x128) (e := .f32) g (![rows, cols] : Fin 2 → IVec S16 32) v (fun _ => 1#1) false h j
      = if hj : (j 1).val = 120 ∧ 16 * k ≤ (j 0).val ∧ (j 0).val < 16 * k + 16 then
          v (fun | ⟨0, _⟩ => ⟨(j 0).val - 16 * k, by show _ < 16; omega⟩)
        else g j := by
  unfold storeIdx
  have h1 : ((1#1 : BitVec 1) = 1) = True := eq_true rfl
  simp only [h1, if_true, Bool.false_eq_true, if_false]
  have hP : ∀ (q : Fin 16) , (∀ a, (j a).val = (idxAt (s := S128x128) (![rows, cols] : Fin 2 → IVec S16 32) h (Shape.ofLane (d := S16.size) q) a).val)
      ↔ ((j 0).val = 16 * k + q.val ∧ (j 1).val = 120) := fun q => by
    refine Fin.forall_fin_two.trans ?_
    have e0 := hr (Shape.ofLane (d := S16.size) q)
    have e1 := hc (Shape.ofLane (d := S16.size) q)
    constructor
    · rintro ⟨h0, h1⟩
      exact ⟨h0.trans e0, h1.trans e1⟩
    · rintro ⟨h0, h1⟩
      exact ⟨h0.trans e0.symm, h1.trans e1.symm⟩
  split
  · rename_i hj
    have := fold_hit (γ := Elt F .f32) (fun (q : Fin 16) (j : S128x128.Idx) => ∀ a, (j a).val = (idxAt (s := S128x128) (![rows, cols] : Fin 2 → IVec S16 32) h (Shape.ofLane (d := S16.size) q) a).val)
      (fun q => v (Shape.ofLane (d := S16.size) q)) j ⟨(j 0).val - 16 * k, by omega⟩
      ((hP _).mpr ⟨by show _ = 16 * k + ((j 0).val - 16 * k); omega, hj.1⟩)
      (fun q hq => Fin.ext (by have := ((hP q).mp hq).1; show q.val = (j 0).val - 16 * k; omega))
      (List.finRange 16) g (List.mem_finRange _)
    refine this.trans (congrArg v (funext fun a => ?_))
    match a with
    | ⟨0, _⟩ => rfl
  · rename_i hj
    refine fold_miss (γ := Elt F .f32) (fun (q : Fin 16) (j : S128x128.Idx) => ∀ a, (j a).val = (idxAt (s := S128x128) (![rows, cols] : Fin 2 → IVec S16 32) h (Shape.ofLane (d := S16.size) q) a).val)
      (fun q => v (Shape.ofLane (d := S16.size) q)) j (List.finRange 16) g fun q _ hq => hj ?_
    have := (hP q).mp hq
    have := q.isLt
    exact ⟨by omega, by omega, by omega⟩

/-- The block of gathered rows `G` once lane 120 of its first `16 k` rows holds the halves of the ids from `o` on. -/
def marked [FloatOps F] (G : S128x128.Idx → F .f32) (w : ℕ → BitVec 32) (o k : ℕ) (j : S128x128.Idx) : F .f32 :=
  if (j 1).val = 120 ∧ (j 0).val < 16 * k then FloatOps.sitofp .f32 (halfOf (w (o + (j 0).val))) else G j

/-- An access to all of a memref goes through the memref's own elements. -/
theorem access_set (m : Memref sig .scVector .vmem S128x128 .f32) : (m.access (.whole S128x128)).set = m.view.set :=
  View.set_slice_rectWhole m.view
theorem access_read {sp : Space} (m : Memref sig .scVector sp S128x128 .f32) (f : m.view.ty.Contents (Elt F)) :
    (m.access (.whole S128x128)).read (Elt F) f = m.view.read (Elt F) f := by
  funext j
  exact congrArg (m.view.read (Elt F) f) (Rect.emb_whole_apply _ j)

/-- One store of sixteen halves down lane 120 takes a block marked up to row `16 k` to one marked up to row `16 (k + 1)`. -/
theorem slab_marked [FloatOps F] (m : Memref sig .scVector .vmem S128x128 .f32) (f : m.view.ty.Contents (Elt F)) (G : S128x128.Idx → F .f32)
    (w : ℕ → BitVec 32) (o k : ℕ) (rows cols : IVec S16 32) (v : Vec F S16 .f32)
    (hr : ∀ x : S16.Idx, (rows x).toNat = 16 * k + (x 0).val) (hc : ∀ x : S16.Idx, (cols x).toNat = 120)
    (h : ∀ a x, ((![rows, cols] : Fin 2 → IVec S16 32) a x).toNat < S128x128.size a)
    (hv : ∀ x : S16.Idx, v x = FloatOps.sitofp .f32 (halfOf (w (o + (16 * k + (x 0).val)))))
    (hf : ∀ j : S128x128.Idx, m.view.read (Elt F) f j = marked G w o k j) (j : S128x128.Idx) :
    m.view.read (Elt F) ((m.access (.whole S128x128)).write (Elt F) f
        (storeIdx (F := F) (s := S128x128) (e := .f32) ((m.access (.whole S128x128)).read (Elt F) f) (![rows, cols] : Fin 2 → IVec S16 32) v (fun _ => 1#1) false h) Finset.univ) j
      = marked G w o (k + 1) j := by
  rw [← access_read, View.read_write_univ, access_read, lane_store _ rows cols v k hr hc h j]
  unfold marked
  split
  · rename_i hj
    rw [if_pos ⟨hj.1, by omega⟩, hv]
    congr 4
    show 16 * k + ((j 0).val - 16 * k) = (j 0).val
    omega
  · rename_i hj
    rw [hf, marked]
    by_cases h' : (j 1).val = 120 ∧ (j 0).val < 16 * k
    · rw [if_pos h', if_pos ⟨h'.1, by omega⟩]
    · rw [if_neg h', if_neg (by omega)]

/-! ## What a tile's rows hold -/

/-- Lane `c` of row `n` of the packed table. -/
def tblAt (t : S50176x128.Idx → F .f32) (n : ℕ) (c : Fin 128) : F .f32 :=
  t (fun | ⟨0, _⟩ => ⟨n % 50176, Nat.mod_lt _ (by decide)⟩ | ⟨1, _⟩ => c)

/-- Lane `c` of the row a tile sends out for the id `u`: the number of the id's half in lane 120, the packed row's own
    element in every other lane. -/
def rowVal [FloatOps F] (t : S50176x128.Idx → F .f32) (u : BitVec 32) (c : Fin 128) : F .f32 :=
  if c.val = 120 then FloatOps.sitofp .f32 (halfOf u) else tblAt t (rowOf u).toNat c

/-- A marked block of gathered rows holds the rows of its ids. -/
theorem marked_rowVal [FloatOps F] (t : S50176x128.Idx → F .f32) (G : S128x128.Idx → F .f32) (w : ℕ → BitVec 32) (o : ℕ)
    (hG : ∀ j : S128x128.Idx, G j = tblAt t (rowOf (w (o + (j 0).val))).toNat (j 1)) (j : S128x128.Idx) :
    marked G w o 8 j = rowVal t (w (o + (j 0).val)) (j 1) := by
  have hj : (j 0).val < 128 := (j 0).isLt
  unfold marked rowVal
  rw [hG]
  by_cases h : (j 1).val = 120
  · rw [if_pos ⟨h, by omega⟩, if_pos h]
  · rw [if_neg (fun h' => h h'.1), if_neg h]

/-- The words of 128 consecutive places of a buffer of 512. -/
theorem slice_read (m : Memref sig .scVector .vmem S512 .i32) (f : m.view.ty.Contents (Elt F)) (off : Fin 1 → ℕ) (o : ℕ)
    (hoff : off = ![o]) (inb : ∀ a, off a + S128.size a ≤ S512.size a) (hs) (y : S128.Idx) (x : S512.Idx)
    (hx : (x 0).val = o + (y 0).val) :
    (m.slice (Rect.unit (s := S512) off S128.size inb) hs).view.read (Elt F) f y = m.view.read (Elt F) f x := by
  subst hoff
  refine congrArg (m.view.read (Elt F) f) (funext fun a => Fin.ext ?_)
  match a with
  | ⟨0, _⟩ => show o + 1 * (y 0).val = (x 0).val; omega

/-- A gather of 128 rows of the packed table puts, at each place of its block, the element of the row its list names. -/
theorem gather_at (g : S50176x128.Idx → Elt F .f32) (l : S128.Idx → Elt F .i32) (hn : S128.numel = S128x128.size gathers_S50176x128_S128x128.axis')
    (h : ∀ x, (l x).toNat < S50176x128.size gathers_S50176x128_S128x128.axis) (j : S128x128.Idx) (y : S128.Idx) (hy : (y 0).val = (j 0).val) :
    SparseCore.gatherPayload gathers_S50176x128_S128x128 g (SparseCore.rows l hn h) j = tblAt g (l y).toNat (j 1) := by
  unfold SparseCore.gatherPayload tblAt
  refine congrArg g (funext fun a => Fin.ext ?_)
  match a with
  | ⟨0, _⟩ =>
    have e : S128.rowMajor.symm ((j 0).cast hn.symm) = y := by
      rw [Equiv.symm_apply_eq]
      refine Fin.ext ?_
      exact hy.symm.trans (Shape.rowMajor_val_one y).symm
    show (l (S128.rowMajor.symm ((j 0).cast hn.symm))).toNat = (l y).toNat % 50176
    rw [e]; exact (Nat.mod_eq_of_lt (h y)).symm
  | ⟨1, _⟩ => rfl

/-- What a block reads once all of it was written. -/
theorem slab_read {sp : Space} (m : Memref sig .scVector sp S128x128 .f32) (f : m.view.ty.Contents (Elt F)) (p : S128x128.Idx → Elt F .f32) (j : S128x128.Idx) :
    m.view.read (Elt F) (m.view.writes (Elt F) f [⟨Rect.whole S128x128, p⟩]) j = p j := by
  rw [← access_read]
  exact congrFun (View.read_write_univ (v := m.access (Rect.whole S128x128)) f p) j

/-- Four pieces of an array held at once are four conjuncts. -/
theorem bigSep_four {M : Type} [URA M] (Φ : Fin 4 → sProp M) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-! ## Whole-block accesses of the TensorCore bodies -/

theorem unit0_emb {s : Shape} (off : Fin s.rank → ℕ) (h0 : ∀ a, off a = 0) (inb : ∀ a, off a + s.size a ≤ s.size a) (y : s.Idx) :
    (Rect.unit (s := s) off s.size inb).emb y = y :=
  funext fun a => Fin.ext (by show off a + 1 * (y a).val = (y a).val; rw [h0 a]; omega)
/-- A load of the whole block reads the block. -/
theorem readAt_whole {κ : Kind} {sp : Space} {s : Shape} {e : EltTy} (v : View sig κ sp s e) (off : Fin s.rank → ℕ) (h0 : ∀ a, off a = 0)
    (inb : ∀ a, off a + s.size a ≤ s.size a) (f : v.ty.Contents (Elt F)) :
    View.readAt (Elt F) v (Rect.unit (s := s) off s.size inb).toLoadRect f = v.read (Elt F) f :=
  funext fun y => congrArg (v.read (Elt F) f) (unit0_emb off h0 inb y)
/-- A store of the whole block leaves what was stored. -/
theorem read_whole_write {κ : Kind} {sp : Space} {s : Shape} {e : EltTy} (v : View sig κ sp s e) (off : Fin s.rank → ℕ) (h0 : ∀ a, off a = 0)
    (inb : ∀ a, off a + s.size a ≤ s.size a) (f : v.ty.Contents (Elt F)) (p : s.Idx → Elt F e) :
    v.read (Elt F) (v.writes (Elt F) f [⟨Rect.unit (s := s) off s.size inb, p⟩]) = p :=
  funext fun y => by
    have h := View.read_writes_cons_emb v f (Rect.unit (s := s) off s.size inb) p [] y
    rw [unit0_emb off h0 inb y] at h
    exact h

/-! ## What a SparseCore call takes and brings -/

/-- What a call leaves at element `j` of its result: the element of the row of the id at `j`'s row, for some packed table
    among those the call may have been given (`T`). -/
def OutRel [FloatOps F] (T : (S50176x128.Idx → F .f32) → Prop) (ids : S16384.Idx → BitVec 32) (j : S16384x128.Idx) (v : F .f32) : Prop :=
  ∃ t, T t ∧ v = rowVal t (ids (fun | ⟨0, _⟩ => j 0)) (j 1)

theorem odiv : 128 ∣ S16384x128.size 0 := ⟨128, rfl⟩
/-- The block of 128 rows of the result that tile `i` of SparseCore `c` sends out `r`-th. -/
def blk (c : Fin 2) (i : Fin 16) (r : Fin 4) : Fin 128 := ⟨8 * i.val + 4 * c.val + r.val, by omega⟩
abbrev oSet (c : Fin 2) (i : Fin 16) (r : Fin 4) : Finset S16384x128.Idx := (Rect.part (s := S16384x128) (a₀ := 0) odiv (blk c i r)).set
/-- The tile's number among the 32 tiles, naming its share of what all tiles read. -/
def tix (c : Fin 2) (i : Fin 16) : Fin (2 ^ 5) := ⟨2 * i.val + c.val, by omega⟩

end Cert.Proof.I
-- ==== Proof.ITile1.lean ====
/-
  One tile of the first SparseCore call, at a symbolic pair of SparseCore and tile. The tile fetches its
  512 ids, turns each id into the row of the packed table it lies in and the half of that row it takes,
  gathers the rows in four blocks of 128, writes the half as a number into lane 120 of each gathered row,
  and sends each block out. The contents of every buffer are carried through the run.
-/
module

public import proofs.«01_k».proof.Proof.ISc

@[expose] public section

noncomputable section

namespace Cert.Proof.I.Tile1

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-! ## The buffers -/

abbrev tblM : Memref sig .scVector .hbm S50176x128 .f32 := Memref.whole main_v19_scv
abbrev idsM : Memref sig .scVector .hbm S16384 .i32 := Memref.whole main_v0_scv
abbrev outM : Memref sig .scVector .hbm S16384x128 .f32 := Memref.whole main_v20_scv
abbrev rowM : Memref sig .scVector .vmem S512 .i32 := Memref.whole cc1_scratch0
abbrev selM : Memref sig .scVector .vmem S512 .i32 := Memref.whole cc1_scratch1
abbrev bufM : Memref sig .scVector .vmem S4x128x128 .f32 := Memref.whole cc1_scratch2

/-- The arrays as device `d` locates them. -/
abbrev tblLoc (d : Dev nD) : Loc nD τ sig := (SparseCore.T d).loc main_v19
abbrev idsLoc (d : Dev nD) : Loc nD τ sig := (SparseCore.T d).loc main_v0
abbrev outLoc (d : Dev nD) : Loc nD τ sig := (SparseCore.T d).loc main_v20

section Body

variable (d : Dev nD) (L : grid1.Coords)

abbrev cV (L : grid1.Coords) : Fin τ.nSC := (L 0).castLE hcore1
abbrev jV (L : grid1.Coords) : Fin τ.nSub := (L 1).castLE hsub1
abbrev thr : Thread nD τ := V d (cV L) (jV L)

theorem lt0 : (L 0).val < 2 := (L 0).isLt
theorem lt1 : (L 1).val < 16 := (L 1).isLt

/-- The first of the tile's 512 ids. -/
abbrev base : ℕ := 1024 * (L 1).val + 512 * (L 0).val

/-- The position in the list of ids of the tile's `x`-th id. -/
def idAt (x : S512.Idx) : S16384.Idx := fun | ⟨0, _⟩ => ⟨base L + (x 0).val, by
  have := lt0 L; have := lt1 L; have : (x 0).val < 512 := (x 0).isLt
  show 1024 * (L 1).val + 512 * (L 0).val + (x 0).val < 16384; omega⟩

variable [FloatOps F]

/-! ## Ids to rows and halves -/

def I1 (w : ℕ → BitVec 32) (k : ℕ) (_ : BitVec 32) : sProp 𝕄 :=
  iprop((∃ f : Buf (Elt F) ((thr d L).loc cc1_scratch0), ⌜∀ x : S512.Idx, (rowM).view.read (Elt F) f x = rowsUpTo w k x⌝ ∗ (rowM).view.loc (thr d L) ↦{fullShare} f)
    ∗ (∃ g : Buf (Elt F) ((thr d L).loc cc1_scratch1), ⌜HalvesUpTo w k ((selM).view.read (Elt F) g)⌝ ∗ (selM).view.loc (thr d L) ↦{fullShare} g))

theorem pay1_apply (v : Vec F S16 .i32) (y : S16.Idx) : k1_pay1 (F := F) v y = halfOf (v y) := rfl
theorem pay2_apply (v : Vec F S16 .i32) (y : S16.Idx) : k1_pay2 (F := F) v y = rowOf (v y) := rfl

theorem trip1 (w : ℕ → BitVec 32) (k : Fin k1_t1_loop.trips) (acc : BitVec 32) :
    (I1 (F := F) d L w k.val acc) ⊢ wp frame (wpE (defs₀ (F := F)) 𝒱₀ (thr d L) none) Set.univ
      (k1_t1_body (F := F) L tblM (Memref.isWhole_whole _) idsM (Memref.isWhole_whole _) outM (Memref.isWhole_whole _)
        rowM (Memref.isWhole_whole _) selM (Memref.isWhole_whole _) bufM (Memref.isWhole_whole _)
        cc1_scratch3 cc1_scratch4 cc1_scratch5 cc1_scratch6 cc1_scratch7 cc1_scratch8 cc1_scratch9 cc1_scratch10 cc1_scoped0 k acc)
      (fun acc' => I1 (F := F) d L w (k.val + 1) acc') := by
  unfold k1_t1_body
  unfold I1
  iintro ⟨⟨%f, %hf, Hr⟩, ⟨%g, %hg, Hs⟩⟩
  sl_exec
  sl_step
  isplitl [Hr]
  · iexists _
    isplitr
    swap; · iexact Hr
    ipureintro
    intro x
    rw [stored16 _ _ _ _ (k1_off2_eq k)]
    unfold rowsUpTo
    split
    · rename_i h
      rw [if_pos (by omega), pay2_apply, loaded16 _ _ _ _ (k1_off2_eq k) _ _ x (by show (x 0).val = 16 * k.val + ((x 0).val - 16 * k.val); omega), hf, rowsUpTo,
        if_neg (by omega)]
    · rename_i h
      rw [hf, rowsUpTo]
      by_cases h' : (x 0).val < 16 * k.val
      · rw [if_pos h', if_pos (by omega)]
      · rw [if_neg h', if_neg (by omega)]
  · iexists _
    isplitr
    swap; · iexact Hs
    ipureintro
    intro x hx
    rw [stored16 _ _ _ _ (k1_off2_eq k)]
    split
    · rename_i h
      rw [pay1_apply, loaded16 _ _ _ _ (k1_off2_eq k) _ _ x (by show (x 0).val = 16 * k.val + ((x 0).val - 16 * k.val); omega), hf, rowsUpTo,
        if_neg (by omega)]
    · exact hg x (by omega)

/-! ## The halves written into the gathered rows -/

theorem laneIdx_apply (x : S16.Idx) : (k1_pay3 x).toNat = 120 := rfl

/-- Lane `x` of trip `k`'s list of rows names row `16 k + x`. -/
theorem rowIdx0 (k : Fin k1_t2_loop.trips) (x : S16.Idx) :
    (k1_pay4 (iota .scVector S16 32 [0] iota_S16_d0_w32_scVector) k x).toNat = 16 * k.val + (x 0).val := by
  have hx : x = fun | ⟨0, _⟩ => x 0 := funext fun a => match a with | ⟨0, _⟩ => rfl
  rw [hx]
  exact (show ∀ (k : Fin k1_t2_loop.trips) (y : Fin 16), (k1_pay4 (iota .scVector S16 32 [0] iota_S16_d0_w32_scVector) k (fun | ⟨0, _⟩ => y)).toNat = 16 * k.val + y.val
    by decide +kernel) k (x 0)
/-- Block 0 of the buffer of gathered rows, as the tile addresses it. -/
abbrev slab0 : Memref sig .scVector .vmem S128x128 .f32 :=
  ((bufM).slice (Rect.unit (s := S4x128x128) ![0, 0, 0] S1x128x128.size inb_S4x128x128_S1x128x128_0_0_0) (fun _ => rfl)).squeeze S128x128 squeezes_S1x128x128_S128x128

/-- Before trip `k` of the loop over block 0: its first `16 k` rows are marked. -/
def I2 (G : S128x128.Idx → F .f32) (w : ℕ → BitVec 32) (g : Buf (Elt F) ((thr d L).loc cc1_scratch1)) (k : ℕ) (_ : BitVec 32) : sProp 𝕄 :=
  iprop((∃ f : Buf (Elt F) ((slab0).view.loc (thr d L)), ⌜∀ j : S128x128.Idx, (slab0).view.read (Elt F) f j = marked G w 0 k j⌝
      ∗ (slab0).view.loc (thr d L) ↦[(slab0).view.set]{fullShare} f)
    ∗ (selM).view.loc (thr d L) ↦{fullShare} g)

/-- One trip over block 0 marks sixteen more rows. -/
theorem trip2 (G : S128x128.Idx → F .f32) (w : ℕ → BitVec 32) (g : Buf (Elt F) ((thr d L).loc cc1_scratch1))
    (hg : ∀ x : S512.Idx, (selM).view.read (Elt F) g x = halfOf (w (x 0).val)) (v2 : BitVec 32) (k : Fin k1_t2_loop.trips) (acc : BitVec 32) :
    (I2 (F := F) d L G w g k.val acc) ⊢ wp frame (wpE (defs₀ (F := F)) 𝒱₀ (thr d L) none) Set.univ
      (k1_t2_body (F := F) L tblM (Memref.isWhole_whole _) idsM (Memref.isWhole_whole _) outM (Memref.isWhole_whole _)
        rowM (Memref.isWhole_whole _) selM (Memref.isWhole_whole _) bufM (Memref.isWhole_whole _)
        cc1_scratch3 cc1_scratch4 cc1_scratch5 cc1_scratch6 cc1_scratch7 cc1_scratch8 cc1_scratch9 cc1_scratch10 cc1_scoped0
        v2 (iota .scVector S16 32 [0] iota_S16_d0_w32_scVector) k1_pay3 k acc)
      (fun acc' => I2 (F := F) d L G w g (k.val + 1) acc') := by
  have hchk : k1_chk1 k1_pay3 (k1_pay4 (iota .scVector S16 32 [0] iota_S16_d0_w32_scVector) k) := by
    refine Fin.forall_fin_two.mpr ⟨fun x => ?_, fun x => ?_⟩
    · have := rowIdx0 k x
      have hk : k.val < 8 := k.isLt
      have hx : (x 0).val < 16 := (x 0).isLt
      show (k1_pay4 (iota .scVector S16 32 [0] iota_S16_d0_w32_scVector) k x).toNat < 128
      omega
    · show (k1_pay3 x).toNat < 128
      rw [laneIdx_apply]; omega
  unfold k1_t2_body
  unfold I2
  iintro ⟨⟨%f, %hf, Hb⟩, Hs⟩
  sl_exec
  have hset : ((slab0).access (.whole S128x128)).set = (slab0).view.set := access_set slab0
  ihave Hb' := (Entails.of_eq (show ((slab0).view.loc (thr d L) ↦[(slab0).view.set]{fullShare} f : sProp 𝕄)
      = ((slab0).access (.whole S128x128)).loc (thr d L) ↦[((slab0).access (.whole S128x128)).set]{fullShare} f by rw [hset])) $$ Hb
  iapply (SparseCore.wp_vectorStoreIdx 𝒱₀ (thr d L) none Set.univ (base := slab0)) $$ Hb'
  iintro Hb'
  sl_exec
  sl_step
  isplitl [Hb']
  · iexists _
    isplitr
    swap
    · iapply (Entails.of_eq (show (((slab0).access (.whole S128x128)).loc (thr d L) ↦[((slab0).access (.whole S128x128)).set]{fullShare} _ : sProp 𝕄)
        = (slab0).view.loc (thr d L) ↦[(slab0).view.set]{fullShare} _ by rw [hset]))
      iexact Hb'
    ipureintro
    exact slab_marked slab0 f G w 0 k.val _ _ _ (rowIdx0 k) laneIdx_apply _ (fun x => by
      have hx : (x 0).val < 16 := (x 0).isLt
      have hk : k.val < 8 := k.isLt
      have := loaded16 (F := F) (selM).view g (k1_off3 k) (16 * k.val) (k1_off3_eq k) (k1_off3_inb k) x
        (fun | ⟨0, _⟩ => ⟨16 * k.val + (x 0).val, by show _ < 512; omega⟩) rfl
      show FloatOps.sitofp .f32 _ = _
      rw [this, hg]
      congr 3
      show 16 * k.val + (x 0).val = 0 + (16 * k.val + (x 0).val)
      omega) hf
  · iexact Hs

theorem rowIdx1 (k : Fin k1_t3_loop.trips) (x : S16.Idx) :
    (k1_pay6 (iota .scVector S16 32 [0] iota_S16_d0_w32_scVector) k x).toNat = 16 * k.val + (x 0).val := by
  have hx : x = fun | ⟨0, _⟩ => x 0 := funext fun a => match a with | ⟨0, _⟩ => rfl
  rw [hx]
  exact (show ∀ (k : Fin k1_t3_loop.trips) (y : Fin 16), (k1_pay6 (iota .scVector S16 32 [0] iota_S16_d0_w32_scVector) k (fun | ⟨0, _⟩ => y)).toNat = 16 * k.val + y.val
    by decide +kernel) k (x 0)
/-- Block 1 of the buffer of gathered rows, as the tile addresses it. -/
abbrev slab1 : Memref sig .scVector .vmem S128x128 .f32 :=
  ((bufM).slice (Rect.unit (s := S4x128x128) ![1, 0, 0] S1x128x128.size inb_S4x128x128_S1x128x128_1_0_0) (fun _ => rfl)).squeeze S128x128 squeezes_S1x128x128_S128x128

/-- Before trip `k` of the loop over block 1: its first `16 k` rows are marked. -/
def I3 (G : S128x128.Idx → F .f32) (w : ℕ → BitVec 32) (g : Buf (Elt F) ((thr d L).loc cc1_scratch1)) (k : ℕ) (_ : BitVec 32) : sProp 𝕄 :=
  iprop((∃ f : Buf (Elt F) ((slab1).view.loc (thr d L)), ⌜∀ j : S128x128.Idx, (slab1).view.read (Elt F) f j = marked G w 128 k j⌝
      ∗ (slab1).view.loc (thr d L) ↦[(slab1).view.set]{fullShare} f)
    ∗ (selM).view.loc (thr d L) ↦{fullShare} g)

/-- One trip over block 1 marks sixteen more rows. -/
theorem trip3 (G : S128x128.Idx → F .f32) (w : ℕ → BitVec 32) (g : Buf (Elt F) ((thr d L).loc cc1_scratch1))
    (hg : ∀ x : S512.Idx, (selM).view.read (Elt F) g x = halfOf (w (x 0).val)) (v2 : BitVec 32) (k : Fin k1_t3_loop.trips) (acc : BitVec 32) :
    (I3 (F := F) d L G w g k.val acc) ⊢ wp frame (wpE (defs₀ (F := F)) 𝒱₀ (thr d L) none) Set.univ
      (k1_t3_body (F := F) L tblM (Memref.isWhole_whole _) idsM (Memref.isWhole_whole _) outM (Memref.isWhole_whole _)
        rowM (Memref.isWhole_whole _) selM (Memref.isWhole_whole _) bufM (Memref.isWhole_whole _)
        cc1_scratch3 cc1_scratch4 cc1_scratch5 cc1_scratch6 cc1_scratch7 cc1_scratch8 cc1_scratch9 cc1_scratch10 cc1_scoped0
        v2 (iota .scVector S16 32 [0] iota_S16_d0_w32_scVector) k1_pay3 k acc)
      (fun acc' => I3 (F := F) d L G w g (k.val + 1) acc') := by
  have hchk : k1_chk2 k1_pay3 (k1_pay6 (iota .scVector S16 32 [0] iota_S16_d0_w32_scVector) k) := by
    refine Fin.forall_fin_two.mpr ⟨fun x => ?_, fun x => ?_⟩
    · have := rowIdx1 k x
      have hk : k.val < 8 := k.isLt
      have hx : (x 0).val < 16 := (x 0).isLt
      show (k1_pay6 (iota .scVector S16 32 [0] iota_S16_d0_w32_scVector) k x).toNat < 128
      omega
    · show (k1_pay3 x).toNat < 128
      rw [laneIdx_apply]; omega
  unfold k1_t3_body
  unfold I3
  iintro ⟨⟨%f, %hf, Hb⟩, Hs⟩
  sl_exec
  have hset : ((slab1).access (.whole S128x128)).set = (slab1).view.set := access_set slab1
  ihave Hb' := (Entails.of_eq (show ((slab1).view.loc (thr d L) ↦[(slab1).view.set]{fullShare} f : sProp 𝕄)
      = ((slab1).access (.whole S128x128)).loc (thr d L) ↦[((slab1).access (.whole S128x128)).set]{fullShare} f by rw [hset])) $$ Hb
  iapply (SparseCore.wp_vectorStoreIdx 𝒱₀ (thr d L) none Set.univ (base := slab1)) $$ Hb'
  iintro Hb'
  sl_exec
  sl_step
  isplitl [Hb']
  · iexists _
    isplitr
    swap
    · iapply (Entails.of_eq (show (((slab1).access (.whole S128x128)).loc (thr d L) ↦[((slab1).access (.whole S128x128)).set]{fullShare} _ : sProp 𝕄)
        = (slab1).view.loc (thr d L) ↦[(slab1).view.set]{fullShare} _ by rw [hset]))
      iexact Hb'
    ipureintro
    exact slab_marked slab1 f G w 128 k.val _ _ _ (rowIdx1 k) laneIdx_apply _ (fun x => by
      have hx : (x 0).val < 16 := (x 0).isLt
      have hk : k.val < 8 := k.isLt
      have := loaded16 (F := F) (selM).view g (k1_off5 k) (16 * k.val + 128) (k1_off5_eq k) (k1_off5_inb k) x
        (fun | ⟨0, _⟩ => ⟨16 * k.val + 128 + (x 0).val, by show _ < 512; omega⟩) rfl
      show FloatOps.sitofp .f32 _ = _
      rw [this, hg]
      congr 3
      show 16 * k.val + 128 + (x 0).val = 128 + (16 * k.val + (x 0).val)
      omega) hf
  · iexact Hs

theorem rowIdx2 (k : Fin k1_t4_loop.trips) (x : S16.Idx) :
    (k1_pay8 (iota .scVector S16 32 [0] iota_S16_d0_w32_scVector) k x).toNat = 16 * k.val + (x 0).val := by
  have hx : x = fun | ⟨0, _⟩ => x 0 := funext fun a => match a with | ⟨0, _⟩ => rfl
  rw [hx]
  exact (show ∀ (k : Fin k1_t4_loop.trips) (y : Fin 16), (k1_pay8 (iota .scVector S16 32 [0] iota_S16_d0_w32_scVector) k (fun | ⟨0, _⟩ => y)).toNat = 16 * k.val + y.val
    by decide +kernel) k (x 0)
/-- Block 2 of the buffer of gathered rows, as the tile addresses it. -/
abbrev slab2 : Memref sig .scVector .vmem S128x128 .f32 :=
  ((bufM).slice (Rect.unit (s := S4x128x128) ![2, 0, 0] S1x128x128.size inb_S4x128x128_S1x128x128_2_0_0) (fun _ => rfl)).squeeze S128x128 squeezes_S1x128x128_S128x128

/-- Before trip `k` of the loop over block 2: its first `16 k` rows are marked. -/
def I4 (G : S128x128.Idx → F .f32) (w : ℕ → BitVec 32) (g : Buf (Elt F) ((thr d L).loc cc1_scratch1)) (k : ℕ) (_ : BitVec 32) : sProp 𝕄 :=
  iprop((∃ f : Buf (Elt F) ((slab2).view.loc (thr d L)), ⌜∀ j : S128x128.Idx, (slab2).view.read (Elt F) f j = marked G w 256 k j⌝
      ∗ (slab2).view.loc (thr d L) ↦[(slab2).view.set]{fullShare} f)
    ∗ (selM).view.loc (thr d L) ↦{fullShare} g)

/-- One trip over block 2 marks sixteen more rows. -/
theorem trip4 (G : S128x128.Idx → F .f32) (w : ℕ → BitVec 32) (g : Buf (Elt F) ((thr d L).loc cc1_scratch1))
    (hg : ∀ x : S512.Idx, (selM).view.read (Elt F) g x = halfOf (w (x 0).val)) (v2 : BitVec 32) (k : Fin k1_t4_loop.trips) (acc : BitVec 32) :
    (I4 (F := F) d L G w g k.val acc) ⊢ wp frame (wpE (defs₀ (F := F)) 𝒱₀ (thr d L) none) Set.univ
      (k1_t4_body (F := F) L tblM (Memref.isWhole_whole _) idsM (Memref.isWhole_whole _) outM (Memref.isWhole_whole _)
        rowM (Memref.isWhole_whole _) selM (Memref.isWhole_whole _) bufM (Memref.isWhole_whole _)
        cc1_scratch3 cc1_scratch4 cc1_scratch5 cc1_scratch6 cc1_scratch7 cc1_scratch8 cc1_scratch9 cc1_scratch10 cc1_scoped0
        v2 (iota .scVector S16 32 [0] iota_S16_d0_w32_scVector) k1_pay3 k acc)
      (fun acc' => I4 (F := F) d L G w g (k.val + 1) acc') := by
  have hchk : k1_chk3 k1_pay3 (k1_pay8 (iota .scVector S16 32 [0] iota_S16_d0_w32_scVector) k) := by
    refine Fin.forall_fin_two.mpr ⟨fun x => ?_, fun x => ?_⟩
    · have := rowIdx2 k x
      have hk : k.val < 8 := k.isLt
      have hx : (x 0).val < 16 := (x 0).isLt
      show (k1_pay8 (iota .scVector S16 32 [0] iota_S16_d0_w32_scVector) k x).toNat < 128
      omega
    · show (k1_pay3 x).toNat < 128
      rw [laneIdx_apply]; omega
  unfold k1_t4_body
  unfold I4
  iintro ⟨⟨%f, %hf, Hb⟩, Hs⟩
  sl_exec
  have hset : ((slab2).access (.whole S128x128)).set = (slab2).view.set := access_set slab2
  ihave Hb' := (Entails.of_eq (show ((slab2).view.loc (thr d L) ↦[(slab2).view.set]{fullShare} f : sProp 𝕄)
      = ((slab2).access (.whole S128x128)).loc (thr d L) ↦[((slab2).access (.whole S128x128)).set]{fullShare} f by rw [hset])) $$ Hb
  iapply (SparseCore.wp_vectorStoreIdx 𝒱₀ (thr d L) none Set.univ (base := slab2)) $$ Hb'
  iintro Hb'
  sl_exec
  sl_step
  isplitl [Hb']
  · iexists _
    isplitr
    swap
    · iapply (Entails.of_eq (show (((slab2).access (.whole S128x128)).loc (thr d L) ↦[((slab2).access (.whole S128x128)).set]{fullShare} _ : sProp 𝕄)
        = (slab2).view.loc (thr d L) ↦[(slab2).view.set]{fullShare} _ by rw [hset]))
      iexact Hb'
    ipureintro
    exact slab_marked slab2 f G w 256 k.val _ _ _ (rowIdx2 k) laneIdx_apply _ (fun x => by
      have hx : (x 0).val < 16 := (x 0).isLt
      have hk : k.val < 8 := k.isLt
      have := loaded16 (F := F) (selM).view g (k1_off6 k) (16 * k.val + 256) (k1_off6_eq k) (k1_off6_inb k) x
        (fun | ⟨0, _⟩ => ⟨16 * k.val + 256 + (x 0).val, by show _ < 512; omega⟩) rfl
      show FloatOps.sitofp .f32 _ = _
      rw [this, hg]
      congr 3
      show 16 * k.val + 256 + (x 0).val = 256 + (16 * k.val + (x 0).val)
      omega) hf
  · iexact Hs

theorem rowIdx3 (k : Fin k1_t5_loop.trips) (x : S16.Idx) :
    (k1_pay10 (iota .scVector S16 32 [0] iota_S16_d0_w32_scVector) k x).toNat = 16 * k.val + (x 0).val := by
  have hx : x = fun | ⟨0, _⟩ => x 0 := funext fun a => match a with | ⟨0, _⟩ => rfl
  rw [hx]
  exact (show ∀ (k : Fin k1_t5_loop.trips) (y : Fin 16), (k1_pay10 (iota .scVector S16 32 [0] iota_S16_d0_w32_scVector) k (fun | ⟨0, _⟩ => y)).toNat = 16 * k.val + y.val
    by decide +kernel) k (x 0)
/-- Block 3 of the buffer of gathered rows, as the tile addresses it. -/
abbrev slab3 : Memref sig .scVector .vmem S128x128 .f32 :=
  ((bufM).slice (Rect.unit (s := S4x128x128) ![3, 0, 0] S1x128x128.size inb_S4x128x128_S1x128x128_3_0_0) (fun _ => rfl)).squeeze S128x128 squeezes_S1x128x128_S128x128

/-- Before trip `k` of the loop over block 3: its first `16 k` rows are marked. -/
def I5 (G : S128x128.Idx → F .f32) (w : ℕ → BitVec 32) (g : Buf (Elt F) ((thr d L).loc cc1_scratch1)) (k : ℕ) (_ : BitVec 32) : sProp 𝕄 :=
  iprop((∃ f : Buf (Elt F) ((slab3).view.loc (thr d L)), ⌜∀ j : S128x128.Idx, (slab3).view.read (Elt F) f j = marked G w 384 k j⌝
      ∗ (slab3).view.loc (thr d L) ↦[(slab3).view.set]{fullShare} f)
    ∗ (selM).view.loc (thr d L) ↦{fullShare} g)

/-- One trip over block 3 marks sixteen more rows. -/
theorem trip5 (G : S128x128.Idx → F .f32) (w : ℕ → BitVec 32) (g : Buf (Elt F) ((thr d L).loc cc1_scratch1))
    (hg : ∀ x : S512.Idx, (selM).view.read (Elt F) g x = halfOf (w (x 0).val)) (v2 : BitVec 32) (k : Fin k1_t5_loop.trips) (acc : BitVec 32) :
    (I5 (F := F) d L G w g k.val acc) ⊢ wp frame (wpE (defs₀ (F := F)) 𝒱₀ (thr d L) none) Set.univ
      (k1_t5_body (F := F) L tblM (Memref.isWhole_whole _) idsM (Memref.isWhole_whole _) outM (Memref.isWhole_whole _)
        rowM (Memref.isWhole_whole _) selM (Memref.isWhole_whole _) bufM (Memref.isWhole_whole _)
        cc1_scratch3 cc1_scratch4 cc1_scratch5 cc1_scratch6 cc1_scratch7 cc1_scratch8 cc1_scratch9 cc1_scratch10 cc1_scoped0
        v2 (iota .scVector S16 32 [0] iota_S16_d0_w32_scVector) k1_pay3 k acc)
      (fun acc' => I5 (F := F) d L G w g (k.val + 1) acc') := by
  have hchk : k1_chk4 k1_pay3 (k1_pay10 (iota .scVector S16 32 [0] iota_S16_d0_w32_scVector) k) := by
    refine Fin.forall_fin_two.mpr ⟨fun x => ?_, fun x => ?_⟩
    · have := rowIdx3 k x
      have hk : k.val < 8 := k.isLt
      have hx : (x 0).val < 16 := (x 0).isLt
      show (k1_pay10 (iota .scVector S16 32 [0] iota_S16_d0_w32_scVector) k x).toNat < 128
      omega
    · show (k1_pay3 x).toNat < 128
      rw [laneIdx_apply]; omega
  unfold k1_t5_body
  unfold I5
  iintro ⟨⟨%f, %hf, Hb⟩, Hs⟩
  sl_exec
  have hset : ((slab3).access (.whole S128x128)).set = (slab3).view.set := access_set slab3
  ihave Hb' := (Entails.of_eq (show ((slab3).view.loc (thr d L) ↦[(slab3).view.set]{fullShare} f : sProp 𝕄)
      = ((slab3).access (.whole S128x128)).loc (thr d L) ↦[((slab3).access (.whole S128x128)).set]{fullShare} f by rw [hset])) $$ Hb
  iapply (SparseCore.wp_vectorStoreIdx 𝒱₀ (thr d L) none Set.univ (base := slab3)) $$ Hb'
  iintro Hb'
  sl_exec
  sl_step
  isplitl [Hb']
  · iexists _
    isplitr
    swap
    · iapply (Entails.of_eq (show (((slab3).access (.whole S128x128)).loc (thr d L) ↦[((slab3).access (.whole S128x128)).set]{fullShare} _ : sProp 𝕄)
        = (slab3).view.loc (thr d L) ↦[(slab3).view.set]{fullShare} _ by rw [hset]))
      iexact Hb'
    ipureintro
    exact slab_marked slab3 f G w 384 k.val _ _ _ (rowIdx3 k) laneIdx_apply _ (fun x => by
      have hx : (x 0).val < 16 := (x 0).isLt
      have hk : k.val < 8 := k.isLt
      have := loaded16 (F := F) (selM).view g (k1_off7 k) (16 * k.val + 384) (k1_off7_eq k) (k1_off7_inb k) x
        (fun | ⟨0, _⟩ => ⟨16 * k.val + 384 + (x 0).val, by show _ < 512; omega⟩) rfl
      show FloatOps.sitofp .f32 _ = _
      rw [this, hg]
      congr 3
      show 16 * k.val + 384 + (x 0).val = 384 + (16 * k.val + (x 0).val)
      omega) hf
  · iexact Hs

/-! ## The tile -/

/-- The table, as the gathers address it. -/
abbrev tblAll : Memref sig .scVector .hbm S50176x128 .f32 :=
  (tblM).slice (Rect.unit (s := S50176x128) ![0, 0] S50176x128.size inb_S50176x128_S50176x128_0_0) (fun _ => rfl)
/-- Block 0 of the tile's rows of the result, and the list of its rows of the table. -/
abbrev out0 (L : grid1.Coords) : Memref sig .scVector .hbm S128x128 .f32 :=
  (outM).slice (Rect.unit (s := S16384x128) (k1_off4 L 0#32) S128x128.size (k1_off4_inb L 0)) (fun _ => rfl)
abbrev list0 : Memref sig .scVector .vmem S128 .i32 :=
  (rowM).slice (Rect.unit (s := S512) ![0] S128.size inb_S512_S128_0) (fun _ => rfl)
/-- Block 1 of the tile's rows of the result, and the list of its rows of the table. -/
abbrev out1 (L : grid1.Coords) : Memref sig .scVector .hbm S128x128 .f32 :=
  (outM).slice (Rect.unit (s := S16384x128) (k1_off4 L 128#32) S128x128.size (k1_off4_inb L 1)) (fun _ => rfl)
abbrev list1 : Memref sig .scVector .vmem S128 .i32 :=
  (rowM).slice (Rect.unit (s := S512) ![128] S128.size inb_S512_S128_128) (fun _ => rfl)
/-- Block 2 of the tile's rows of the result, and the list of its rows of the table. -/
abbrev out2 (L : grid1.Coords) : Memref sig .scVector .hbm S128x128 .f32 :=
  (outM).slice (Rect.unit (s := S16384x128) (k1_off4 L 256#32) S128x128.size (k1_off4_inb L 2)) (fun _ => rfl)
abbrev list2 : Memref sig .scVector .vmem S128 .i32 :=
  (rowM).slice (Rect.unit (s := S512) ![256] S128.size inb_S512_S128_256) (fun _ => rfl)
/-- Block 3 of the tile's rows of the result, and the list of its rows of the table. -/
abbrev out3 (L : grid1.Coords) : Memref sig .scVector .hbm S128x128 .f32 :=
  (outM).slice (Rect.unit (s := S16384x128) (k1_off4 L 384#32) S128x128.size (k1_off4_inb L 3)) (fun _ => rfl)
abbrev list3 : Memref sig .scVector .vmem S128 .i32 :=
  (rowM).slice (Rect.unit (s := S512) ![384] S128.size inb_S512_S128_384) (fun _ => rfl)

/-- The tile's `n`-th id. -/
def idW (ids : S16384.Idx → BitVec 32) (n : ℕ) : BitVec 32 :=
  if h : base L + n < 16384 then ids (fun | ⟨0, _⟩ => ⟨base L + n, h⟩) else 0

theorem idW_lt (ids : S16384.Idx → BitVec 32) (h : ∀ x, (ids x).toNat < 100000) (n : ℕ) : (idW L ids n).toNat < 100000 := by
  unfold idW
  split
  · exact h _
  · decide

/-- All of the table, as the gathers address it, is the table. -/
theorem tblAll_read (f : (tblM).view.ty.Contents (Elt F)) : (tblAll).view.read (Elt F) f = f :=
  Memref.read_access_unit_zero (Elt F) main_v19_scv (funext fun a => by match a with | 0 => rfl | 1 => rfl) _ f

/-- The fetched ids are the tile's part of the list. -/
theorem fetched_ids (ids : (idsM).view.ty.Contents (Elt F)) (x : S512.Idx) :
    ((idsM).slice (Rect.unit (s := S16384) (k1_off1 L) S512.size (k1_off1_inb L)) (fun _ => rfl)).view.read (Elt F) ids x
      = idW L ids (x 0).val := by
  have := lt0 L
  have := lt1 L
  have hx : (x 0).val < 512 := (x 0).isLt
  unfold idW
  rw [dif_pos (show base L + (x 0).val < 16384 by unfold base; omega)]
  refine congrArg ids (funext fun a => Fin.ext ?_)
  match a with
  | ⟨0, _⟩ =>
    show k1_off1 L 0 + 1 * (x 0).val = base L + (x 0).val
    rw [k1_off1_eq L]
    show base L + 1 * (x 0).val = _
    omega

theorem ldiv : 4 ∣ S512.size 0 := ⟨128, rfl⟩
theorem bdiv : 4 ∣ S4x128x128.size 0 := ⟨1, rfl⟩

theorem list0_set : (list0).view.set = (Rect.part (s := S512) (a₀ := 0) ldiv 0).set := by
  refine (View.set_slice_whole cc1_scratch0 _).trans (congrArg (fun r : Rect S512 => r.set) ?_)
  unfold Rect.part Rect.block
  congr 1 <;> funext a
  · match a with
    | 0 => rfl
  · match a with
    | 0 => rfl
theorem slab0_set : (slab0).view.set = (Rect.part (s := S4x128x128) (a₀ := 0) bdiv 0).set := by
  refine (View.set_reshape _ _).trans ((View.set_slice_whole cc1_scratch2 _).trans (congrArg (fun r : Rect S4x128x128 => r.set) ?_))
  unfold Rect.part Rect.block
  congr 1 <;> funext a
  · match a with
    | 0 => rfl
    | 1 => rfl
    | 2 => rfl
  · match a with
    | 0 => rfl
    | 1 => rfl
    | 2 => rfl
theorem list1_set : (list1).view.set = (Rect.part (s := S512) (a₀ := 0) ldiv 1).set := by
  refine (View.set_slice_whole cc1_scratch0 _).trans (congrArg (fun r : Rect S512 => r.set) ?_)
  unfold Rect.part Rect.block
  congr 1 <;> funext a
  · match a with
    | 0 => rfl
  · match a with
    | 0 => rfl
theorem slab1_set : (slab1).view.set = (Rect.part (s := S4x128x128) (a₀ := 0) bdiv 1).set := by
  refine (View.set_reshape _ _).trans ((View.set_slice_whole cc1_scratch2 _).trans (congrArg (fun r : Rect S4x128x128 => r.set) ?_))
  unfold Rect.part Rect.block
  congr 1 <;> funext a
  · match a with
    | 0 => rfl
    | 1 => rfl
    | 2 => rfl
  · match a with
    | 0 => rfl
    | 1 => rfl
    | 2 => rfl
theorem list2_set : (list2).view.set = (Rect.part (s := S512) (a₀ := 0) ldiv 2).set := by
  refine (View.set_slice_whole cc1_scratch0 _).trans (congrArg (fun r : Rect S512 => r.set) ?_)
  unfold Rect.part Rect.block
  congr 1 <;> funext a
  · match a with
    | 0 => rfl
  · match a with
    | 0 => rfl
theorem slab2_set : (slab2).view.set = (Rect.part (s := S4x128x128) (a₀ := 0) bdiv 2).set := by
  refine (View.set_reshape _ _).trans ((View.set_slice_whole cc1_scratch2 _).trans (congrArg (fun r : Rect S4x128x128 => r.set) ?_))
  unfold Rect.part Rect.block
  congr 1 <;> funext a
  · match a with
    | 0 => rfl
    | 1 => rfl
    | 2 => rfl
  · match a with
    | 0 => rfl
    | 1 => rfl
    | 2 => rfl
theorem list3_set : (list3).view.set = (Rect.part (s := S512) (a₀ := 0) ldiv 3).set := by
  refine (View.set_slice_whole cc1_scratch0 _).trans (congrArg (fun r : Rect S512 => r.set) ?_)
  unfold Rect.part Rect.block
  congr 1 <;> funext a
  · match a with
    | 0 => rfl
  · match a with
    | 0 => rfl
theorem slab3_set : (slab3).view.set = (Rect.part (s := S4x128x128) (a₀ := 0) bdiv 3).set := by
  refine (View.set_reshape _ _).trans ((View.set_slice_whole cc1_scratch2 _).trans (congrArg (fun r : Rect S4x128x128 => r.set) ?_))
  unfold Rect.part Rect.block
  congr 1 <;> funext a
  · match a with
    | 0 => rfl
    | 1 => rfl
    | 2 => rfl
  · match a with
    | 0 => rfl
    | 1 => rfl
    | 2 => rfl

/-- The four lists are the four quarters of the row buffer. -/
theorem lists_split (f : Buf (Elt F) ((thr d L).loc cc1_scratch0)) :
    ((rowM).view.loc (thr d L) ↦{fullShare} f : sProp 𝕄)
      = iprop(((list0).view.loc (thr d L) ↦[(list0).view.set]{fullShare} f) ∗ ((list1).view.loc (thr d L) ↦[(list1).view.set]{fullShare} f)
        ∗ ((list2).view.loc (thr d L) ↦[(list2).view.set]{fullShare} f) ∗ ((list3).view.loc (thr d L) ↦[(list3).view.set]{fullShare} f)) := by
  have h := pointsTo_biUnion (ℓ := (thr d L).loc cc1_scratch0) (q := fullShare) (f := f) (Val := Elt F) (U := UU) (Ix := HIx 2) (Name := ℕ) (Lvl := ℕ) Finset.univ
    (fun r : Fin 4 => (Rect.part (s := S512) (a₀ := 0) ldiv r).set) (fun i _ j _ h => Rect.part_disjoint ldiv h)
  rw [bigSep_four] at h
  have hu : (Finset.univ : Finset (Fin 4)).biUnion (fun r => (Rect.part (s := S512) (a₀ := 0) ldiv r).set) = Finset.univ := Rect.biUnion_part ldiv
  rw [list0_set, list1_set, list2_set, list3_set]
  exact (congrArg (fun I => ((thr d L).loc cc1_scratch0 ↦[I]{fullShare} f : sProp 𝕄)) hu).symm.trans h

/-- The four blocks are the four quarters of the gather buffer. -/
theorem slabs_split (f : Buf (Elt F) ((thr d L).loc cc1_scratch2)) :
    ((bufM).view.loc (thr d L) ↦{fullShare} f : sProp 𝕄)
      = iprop(((slab0).view.loc (thr d L) ↦[(slab0).view.set]{fullShare} f) ∗ ((slab1).view.loc (thr d L) ↦[(slab1).view.set]{fullShare} f)
        ∗ ((slab2).view.loc (thr d L) ↦[(slab2).view.set]{fullShare} f) ∗ ((slab3).view.loc (thr d L) ↦[(slab3).view.set]{fullShare} f)) := by
  have h := pointsTo_biUnion (ℓ := (thr d L).loc cc1_scratch2) (q := fullShare) (f := f) (Val := Elt F) (U := UU) (Ix := HIx 2) (Name := ℕ) (Lvl := ℕ) Finset.univ
    (fun r : Fin 4 => (Rect.part (s := S4x128x128) (a₀ := 0) bdiv r).set) (fun i _ j _ h => Rect.part_disjoint bdiv h)
  rw [bigSep_four] at h
  have hu : (Finset.univ : Finset (Fin 4)).biUnion (fun r => (Rect.part (s := S4x128x128) (a₀ := 0) bdiv r).set) = Finset.univ := Rect.biUnion_part bdiv
  rw [slab0_set, slab1_set, slab2_set, slab3_set]
  exact (congrArg (fun I => ((thr d L).loc cc1_scratch2 ↦[I]{fullShare} f : sProp 𝕄)) hu).symm.trans h

/-- Four blocks at any contents are the gather buffer at some. -/
theorem slabs_join (f0 f1 f2 f3 : Buf (Elt F) ((thr d L).loc cc1_scratch2)) :
    (iprop(((slab0).view.loc (thr d L) ↦[(slab0).view.set]{fullShare} f0) ∗ ((slab1).view.loc (thr d L) ↦[(slab1).view.set]{fullShare} f1)
        ∗ ((slab2).view.loc (thr d L) ↦[(slab2).view.set]{fullShare} f2) ∗ ((slab3).view.loc (thr d L) ↦[(slab3).view.set]{fullShare} f3)) : sProp 𝕄)
      ⊢ iprop(∃ f, (bufM).view.loc (thr d L) ↦{fullShare} f) := by
  iintro H
  have h := pointsTo_biUnion_join (ℓ := (thr d L).loc cc1_scratch2) (q := fullShare) (Val := Elt F) (U := UU) (Ix := HIx 2) (Name := ℕ) (Lvl := ℕ) Finset.univ
    (fun r : Fin 4 => (Rect.part (s := S4x128x128) (a₀ := 0) bdiv r).set)
    (fun r : Fin 4 => match r with | 0 => f0 | 1 => f1 | 2 => f2 | 3 => f3) f0 (fun i _ j _ h => Rect.part_disjoint bdiv h)
  rw [bigSep_four] at h
  have hu : (Finset.univ : Finset (Fin 4)).biUnion (fun r => (Rect.part (s := S4x128x128) (a₀ := 0) bdiv r).set) = Finset.univ := Rect.biUnion_part bdiv
  rw [hu] at h
  rw [slab0_set, slab1_set, slab2_set, slab3_set]
  ihave H' := h $$ H
  icases H' with ⟨%g, -, H⟩
  iexists g; iexact H

set_option maxHeartbeats 8000000 in
/-- The tile's run: from its share of the table and of the ids, its scratch and its four blocks of the result, to
    those blocks holding the rows of its ids. -/
theorem tile_core (q0 q1 q2 q3 qi : PosShare TreeShare) (tbl : Buf (Elt F) (tblLoc d)) (ids : Buf (Elt F) (idsLoc d))
    (hids : ∀ x, (ids x).toNat < 100000)
    (O : CellTallies nD τ sig (HIx 2)) (W : Waits sig (HIx 2)) (hO : ∀ g, O g none = 0)
    (fo0 fo1 fo2 fo3 : Buf (Elt F) (outLoc d)) (fr : Buf (Elt F) ((thr d L).loc cc1_scratch0))
    (fs : Buf (Elt F) ((thr d L).loc cc1_scratch1)) (fb : Buf (Elt F) ((thr d L).loc cc1_scratch2)) :
    (iprop(levAts (SC (F := F)).L (SC (F := F)).lev
      ∗ ((tblAll).view.loc (thr d L) ↦[(tblAll).view.set]{q0} tbl)
      ∗ ((tblAll).view.loc (thr d L) ↦[(tblAll).view.set]{q1} tbl)
      ∗ ((tblAll).view.loc (thr d L) ↦[(tblAll).view.set]{q2} tbl)
      ∗ ((tblAll).view.loc (thr d L) ↦[(tblAll).view.set]{q3} tbl)
      ∗ ((idsM).view.loc (thr d L) ↦{qi} ids)
      ∗ ((rowM).view.loc (thr d L) ↦{fullShare} fr)
      ∗ ((selM).view.loc (thr d L) ↦{fullShare} fs)
      ∗ ((slab0).view.loc (thr d L) ↦[(slab0).view.set]{fullShare} fb)
      ∗ ((slab1).view.loc (thr d L) ↦[(slab1).view.set]{fullShare} fb)
      ∗ ((slab2).view.loc (thr d L) ↦[(slab2).view.set]{fullShare} fb)
      ∗ ((slab3).view.loc (thr d L) ↦[(slab3).view.set]{fullShare} fb)
      ∗ ((out0 L).view.loc (thr d L) ↦[(out0 L).view.set]{fullShare} fo0)
      ∗ ((out1 L).view.loc (thr d L) ↦[(out1 L).view.set]{fullShare} fo1)
      ∗ ((out2 L).view.loc (thr d L) ↦[(out2 L).view.set]{fullShare} fo2)
      ∗ ((out3 L).view.loc (thr d L) ↦[(out3 L).view.set]{fullShare} fo3)
      ∗ semVal (thr d L, .dma cc1_scoped0.sem) 0
      ∗ semVal (thr d L, .dma cc1_scratch3.sem) 0
      ∗ semVal (thr d L, .dma cc1_scratch4.sem) 0
      ∗ semVal (thr d L, .dma cc1_scratch5.sem) 0
      ∗ semVal (thr d L, .dma cc1_scratch6.sem) 0
      ∗ semVal (thr d L, .dma cc1_scratch7.sem) 0
      ∗ semVal (thr d L, .dma cc1_scratch8.sem) 0
      ∗ semVal (thr d L, .dma cc1_scratch9.sem) 0
      ∗ semVal (thr d L, .dma cc1_scratch10.sem) 0
      ∗ owes (thr d L) O W) : sProp 𝕄)
      ⊢ wp frame (wpE (defs₀ (F := F)) 𝒱₀ (thr d L) none) Set.univ
          (cc1_gather_k (F := F) L tblM (Memref.isWhole_whole _) idsM (Memref.isWhole_whole _) outM (Memref.isWhole_whole _)
            rowM (Memref.isWhole_whole _) selM (Memref.isWhole_whole _) bufM (Memref.isWhole_whole _)
            cc1_scratch3 cc1_scratch4 cc1_scratch5 cc1_scratch6 cc1_scratch7 cc1_scratch8 cc1_scratch9 cc1_scratch10 cc1_scoped0)
          fun _ => (iprop((∃ g : Buf (Elt F) ((out0 L).view.loc (thr d L)), ⌜∀ j : S128x128.Idx, (out0 L).view.read (Elt F) g j = rowVal tbl (idW L ids (0 + (j 0).val)) (j 1)⌝ ∗ ((out0 L).view.loc (thr d L) ↦[(out0 L).view.set]{fullShare} g))
      ∗ (∃ g : Buf (Elt F) ((out1 L).view.loc (thr d L)), ⌜∀ j : S128x128.Idx, (out1 L).view.read (Elt F) g j = rowVal tbl (idW L ids (128 + (j 0).val)) (j 1)⌝ ∗ ((out1 L).view.loc (thr d L) ↦[(out1 L).view.set]{fullShare} g))
      ∗ (∃ g : Buf (Elt F) ((out2 L).view.loc (thr d L)), ⌜∀ j : S128x128.Idx, (out2 L).view.read (Elt F) g j = rowVal tbl (idW L ids (256 + (j 0).val)) (j 1)⌝ ∗ ((out2 L).view.loc (thr d L) ↦[(out2 L).view.set]{fullShare} g))
      ∗ (∃ g : Buf (Elt F) ((out3 L).view.loc (thr d L)), ⌜∀ j : S128x128.Idx, (out3 L).view.read (Elt F) g j = rowVal tbl (idW L ids (384 + (j 0).val)) (j 1)⌝ ∗ ((out3 L).view.loc (thr d L) ↦[(out3 L).view.set]{fullShare} g))
      ∗ (∃ g, (rowM).view.loc (thr d L) ↦{fullShare} g)
      ∗ (∃ g, (selM).view.loc (thr d L) ↦{fullShare} g)
      ∗ (∃ g, (slab0).view.loc (thr d L) ↦[(slab0).view.set]{fullShare} g)
      ∗ (∃ g, (slab1).view.loc (thr d L) ↦[(slab1).view.set]{fullShare} g)
      ∗ (∃ g, (slab2).view.loc (thr d L) ↦[(slab2).view.set]{fullShare} g)
      ∗ (∃ g, (slab3).view.loc (thr d L) ↦[(slab3).view.set]{fullShare} g)
      ∗ semVal (thr d L, .dma cc1_scoped0.sem) 0
      ∗ semVal (thr d L, .dma cc1_scratch3.sem) 0
      ∗ semVal (thr d L, .dma cc1_scratch4.sem) 0
      ∗ semVal (thr d L, .dma cc1_scratch5.sem) 0
      ∗ semVal (thr d L, .dma cc1_scratch6.sem) 0
      ∗ semVal (thr d L, .dma cc1_scratch7.sem) 0
      ∗ semVal (thr d L, .dma cc1_scratch8.sem) 0
      ∗ semVal (thr d L, .dma cc1_scratch9.sem) 0
      ∗ semVal (thr d L, .dma cc1_scratch10.sem) 0
      ∗ (∃ W', ⌜∀ p ∈ W', p ∈ W ∨ p.2 = none⌝ ∗ owes (thr d L) O W')) : sProp 𝕄) := by
  have hN : ∀ h : S50176x128.Gathers 0 S128x128, ∑ j, ((slab0).slice (S128x128.rowRect h.axis' j) (S128x128.stride_rowRect h.axis' j)).view.dmaCredit
      = (slab0).view.dmaCredit := by decide
  rw [cc1_gather_k_eq_skeleton]; unfold cc1_gather_k_skel
  iintro ⟨#Hlv, Ht0, Ht1, Ht2, Ht3, Hi, Hr, Hs, Hb0, Hb1, Hb2, Hb3, Ho0, Ho1, Ho2, Ho3, HsI, HsA0, HsA1, HsA2, HsA3, HsB0, HsB1, HsB2, HsB3, HO⟩
  ihave Hmw := (show levAts (SC (F := F)).L (SC (F := F)).lev ⊢ Transfers.MayWaits (thr d L) (default : HIx 2) O from
    (SC (F := F)).mayWaits_none (thr := thr d L) hO) $$ Hlv
  rw [wp_bind, k1_part1_eq_skeleton]; unfold k1_part1_skel
  sl_exec
  set w : ℕ → BitVec 32 := idW L ids with hw
  iapply (Scf.wp_for_bind frame (wpE (defs₀ (F := F)) 𝒱₀ (thr d L) none) Set.univ _ _ _ k1_t1_ok _ _
    (I1 (F := F) d L w) (trip1 (F := F) d L w)) $$ [Hr Hs]
  · unfold I1
    isplitl [Hr]
    · iexists _; isplitr
      swap; · iexact Hr
      ipureintro; intro x
      rw [View.read_write_univ]
      unfold rowsUpTo
      rw [if_neg (by omega)]
      exact fetched_ids L ids x
    · iexists _; isplitr
      swap; · iexact Hs
      ipureintro; intro x hx; omega
  iintro %acc HI
  unfold I1
  icases HI with ⟨⟨%fl, %hfl, Hr⟩, %fg, %hfg, Hs⟩
  have hlist : ∀ x : S512.Idx, (rowM).view.read (Elt F) fl x = rowOf (w (x 0).val) := fun x => by
    have hx : (x 0).val < 512 := (x 0).isLt
    rw [hfl]; unfold rowsUpTo
    exact if_pos (by show _ < 16 * 32; omega)
  have hsel : ∀ x : S512.Idx, (selM).view.read (Elt F) fg x = halfOf (w (x 0).val) := fun x => by
    have hx : (x 0).val < 512 := (x 0).isLt
    exact hfg x (by show _ < 16 * 32; omega)
  have hl0 : ∀ y : S128.Idx, (list0).view.read (Elt F) fl y = rowOf (w (0 + (y 0).val)) := fun y => by
    have hy : (y 0).val < 128 := (y 0).isLt
    rw [slice_read rowM fl ![0] 0 rfl inb_S512_S128_0 (fun _ => rfl) y (fun | ⟨0, _⟩ => ⟨0 + (y 0).val, by show _ < 512; omega⟩) rfl]
    exact hlist _
  have hin0 : ∀ y : S128.Idx, ((list0).view.read (Elt F) fl y).toNat < S50176x128.size gathers_S50176x128_S128x128.axis := fun y => by
    rw [hl0, rowOf_toNat _ (idW_lt L ids hids _)]
    exact Nat.mod_lt _ (by decide)
  have hl1 : ∀ y : S128.Idx, (list1).view.read (Elt F) fl y = rowOf (w (128 + (y 0).val)) := fun y => by
    have hy : (y 0).val < 128 := (y 0).isLt
    rw [slice_read rowM fl ![128] 128 rfl inb_S512_S128_128 (fun _ => rfl) y (fun | ⟨0, _⟩ => ⟨128 + (y 0).val, by show _ < 512; omega⟩) rfl]
    exact hlist _
  have hin1 : ∀ y : S128.Idx, ((list1).view.read (Elt F) fl y).toNat < S50176x128.size gathers_S50176x128_S128x128.axis := fun y => by
    rw [hl1, rowOf_toNat _ (idW_lt L ids hids _)]
    exact Nat.mod_lt _ (by decide)
  have hl2 : ∀ y : S128.Idx, (list2).view.read (Elt F) fl y = rowOf (w (256 + (y 0).val)) := fun y => by
    have hy : (y 0).val < 128 := (y 0).isLt
    rw [slice_read rowM fl ![256] 256 rfl inb_S512_S128_256 (fun _ => rfl) y (fun | ⟨0, _⟩ => ⟨256 + (y 0).val, by show _ < 512; omega⟩) rfl]
    exact hlist _
  have hin2 : ∀ y : S128.Idx, ((list2).view.read (Elt F) fl y).toNat < S50176x128.size gathers_S50176x128_S128x128.axis := fun y => by
    rw [hl2, rowOf_toNat _ (idW_lt L ids hids _)]
    exact Nat.mod_lt _ (by decide)
  have hl3 : ∀ y : S128.Idx, (list3).view.read (Elt F) fl y = rowOf (w (384 + (y 0).val)) := fun y => by
    have hy : (y 0).val < 128 := (y 0).isLt
    rw [slice_read rowM fl ![384] 384 rfl inb_S512_S128_384 (fun _ => rfl) y (fun | ⟨0, _⟩ => ⟨384 + (y 0).val, by show _ < 512; omega⟩) rfl]
    exact hlist _
  have hin3 : ∀ y : S128.Idx, ((list3).view.read (Elt F) fl y).toNat < S50176x128.size gathers_S50176x128_S128x128.axis := fun y => by
    rw [hl3, rowOf_toNat _ (idW_lt L ids hids _)]
    exact Nat.mod_lt _ (by decide)
  ihave Hrs := (Entails.of_eq (lists_split (F := F) d L fl)) $$ Hr
  icases Hrs with ⟨Hr0, Hr1, Hr2, Hr3⟩
  sl_exec
  set G0 : S128x128.Idx → F .f32 := SparseCore.gatherPayload gathers_S50176x128_S128x128 ((tblAll).view.read (Elt F) tbl)
    (SparseCore.rows ((list0).view.read (Elt F) fl) rfl hin0) with hG0
  have hG0' : ∀ j : S128x128.Idx, G0 j = tblAt tbl (rowOf (w (0 + (j 0).val))).toNat (j 1) := fun j => by
    rw [hG0, gather_at _ _ rfl hin0 j (fun | ⟨0, _⟩ => j 0) rfl, tblAll_read, hl0]
  iapply (Scf.wp_for_bind frame (wpE (defs₀ (F := F)) 𝒱₀ (thr d L) none) Set.univ _ _ _ k1_t2_ok _ _
    (I2 (F := F) d L G0 w fg) (trip2 (F := F) d L G0 w fg hsel _)) $$ [Hb0 Hs]
  · unfold I2
    isplitl [Hb0]
    · iexists _; isplitr
      swap; · iexact Hb0
      ipureintro; intro j
      unfold marked
      rw [if_neg (by omega)]
      exact slab_read slab0 _ _ j
    · iexact Hs
  iintro %acc0 HI
  unfold I2
  icases HI with ⟨⟨%fb0, %hfb0, Hb0⟩, Hs⟩
  sl_exec
  set G1 : S128x128.Idx → F .f32 := SparseCore.gatherPayload gathers_S50176x128_S128x128 ((tblAll).view.read (Elt F) tbl)
    (SparseCore.rows ((list1).view.read (Elt F) fl) rfl hin1) with hG1
  have hG1' : ∀ j : S128x128.Idx, G1 j = tblAt tbl (rowOf (w (128 + (j 0).val))).toNat (j 1) := fun j => by
    rw [hG1, gather_at _ _ rfl hin1 j (fun | ⟨0, _⟩ => j 0) rfl, tblAll_read, hl1]
  iapply (Scf.wp_for_bind frame (wpE (defs₀ (F := F)) 𝒱₀ (thr d L) none) Set.univ _ _ _ k1_t3_ok _ _
    (I3 (F := F) d L G1 w fg) (trip3 (F := F) d L G1 w fg hsel _)) $$ [Hb1 Hs]
  · unfold I3
    isplitl [Hb1]
    · iexists _; isplitr
      swap; · iexact Hb1
      ipureintro; intro j
      unfold marked
      rw [if_neg (by omega)]
      exact slab_read slab1 _ _ j
    · iexact Hs
  iintro %acc1 HI
  unfold I3
  icases HI with ⟨⟨%fb1, %hfb1, Hb1⟩, Hs⟩
  sl_exec
  set G2 : S128x128.Idx → F .f32 := SparseCore.gatherPayload gathers_S50176x128_S128x128 ((tblAll).view.read (Elt F) tbl)
    (SparseCore.rows ((list2).view.read (Elt F) fl) rfl hin2) with hG2
  have hG2' : ∀ j : S128x128.Idx, G2 j = tblAt tbl (rowOf (w (256 + (j 0).val))).toNat (j 1) := fun j => by
    rw [hG2, gather_at _ _ rfl hin2 j (fun | ⟨0, _⟩ => j 0) rfl, tblAll_read, hl2]
  iapply (Scf.wp_for_bind frame (wpE (defs₀ (F := F)) 𝒱₀ (thr d L) none) Set.univ _ _ _ k1_t4_ok _ _
    (I4 (F := F) d L G2 w fg) (trip4 (F := F) d L G2 w fg hsel _)) $$ [Hb2 Hs]
  · unfold I4
    isplitl [Hb2]
    · iexists _; isplitr
      swap; · iexact Hb2
      ipureintro; intro j
      unfold marked
      rw [if_neg (by omega)]
      exact slab_read slab2 _ _ j
    · iexact Hs
  iintro %acc2 HI
  unfold I4
  icases HI with ⟨⟨%fb2, %hfb2, Hb2⟩, Hs⟩
  sl_exec
  set G3 : S128x128.Idx → F .f32 := SparseCore.gatherPayload gathers_S50176x128_S128x128 ((tblAll).view.read (Elt F) tbl)
    (SparseCore.rows ((list3).view.read (Elt F) fl) rfl hin3) with hG3
  have hG3' : ∀ j : S128x128.Idx, G3 j = tblAt tbl (rowOf (w (384 + (j 0).val))).toNat (j 1) := fun j => by
    rw [hG3, gather_at _ _ rfl hin3 j (fun | ⟨0, _⟩ => j 0) rfl, tblAll_read, hl3]
  iapply (Scf.wp_for_bind frame (wpE (defs₀ (F := F)) 𝒱₀ (thr d L) none) Set.univ _ _ _ k1_t5_ok _ _
    (I5 (F := F) d L G3 w fg) (trip5 (F := F) d L G3 w fg hsel _)) $$ [Hb3 Hs]
  · unfold I5
    isplitl [Hb3]
    · iexists _; isplitr
      swap; · iexact Hb3
      ipureintro; intro j
      unfold marked
      rw [if_neg (by omega)]
      exact slab_read slab3 _ _ j
    · iexact Hs
  iintro %acc3 HI
  unfold I5
  icases HI with ⟨⟨%fb3, %hfb3, Hb3⟩, Hs⟩
  sl_exec
  sl_step
  isplitl [Ho0]
  · iexists _; isplitr
    swap; · iexact Ho0
    ipureintro; intro j
    rw [slab_read (out0 L)]
    show (slab0).view.read (Elt F) fb0 j = _
    rw [hfb0]
    exact marked_rowVal tbl G0 w 0 hG0' j
  isplitl [Ho1]
  · iexists _; isplitr
    swap; · iexact Ho1
    ipureintro; intro j
    rw [slab_read (out1 L)]
    show (slab1).view.read (Elt F) fb1 j = _
    rw [hfb1]
    exact marked_rowVal tbl G1 w 128 hG1' j
  isplitl [Ho2]
  · iexists _; isplitr
    swap; · iexact Ho2
    ipureintro; intro j
    rw [slab_read (out2 L)]
    show (slab2).view.read (Elt F) fb2 j = _
    rw [hfb2]
    exact marked_rowVal tbl G2 w 256 hG2' j
  isplitl [Ho3]
  · iexists _; isplitr
    swap; · iexact Ho3
    ipureintro; intro j
    rw [slab_read (out3 L)]
    show (slab3).view.read (Elt F) fb3 j = _
    rw [hfb3]
    exact marked_rowVal tbl G3 w 384 hG3' j
  isplitl [Hr0 Hr1 Hr2 Hr3]
  · iexists _
    iapply (Entails.of_eq (lists_split (F := F) d L fl).symm)
    isplitl [Hr0]; · iexact Hr0
    isplitl [Hr1]; · iexact Hr1
    isplitl [Hr2]; · iexact Hr2
    iexact Hr3
  isplitl [Hs]; · iexists _; iexact Hs
  isplitl [Hb0]; · iexists _; iexact Hb0
  isplitl [Hb1]; · iexists _; iexact Hb1
  isplitl [Hb2]; · iexists _; iexact Hb2
  isplitl [Hb3]; · iexists _; iexact Hb3
  isplitl [HsI]; · iexact HsI
  isplitl [HsA0]; · iexact HsA0
  isplitl [HsA1]; · iexact HsA1
  isplitl [HsA2]; · iexact HsA2
  isplitl [HsA3]; · iexact HsA3
  isplitl [HsB0]; · iexact HsB0
  isplitl [HsB1]; · iexact HsB1
  isplitl [HsB2]; · iexact HsB2
  isplitl [HsB3]; · iexact HsB3
  iexists _; isplitr
  swap; · iexact HO
  ipureintro; intro p hp
  repeat (rcases Finset.mem_insert.mp hp with hp | hp; · exact .inr (hp ▸ rfl))
  exact .inl hp

end Body
end Cert.Proof.I.Tile1
-- ==== Proof.ITask1.lean ====
/-
  The task of one tile of the first SparseCore call as the launch gives it: the tile's shares of the packed
  table and of the ids, its four blocks of the result, its scratch and its semaphores; and, back, the four
  blocks at the rows of the tile's ids.
-/
module

public import proofs.«01_k».proof.Proof.ITile1
public import Idealize.ShloMosaic.Lib.ViewIndex

@[expose] public section

noncomputable section

namespace Cert.Proof.I.Tile1

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable [FloatOps F] (T : (S50176x128.Idx → F .f32) → Prop) (ids : S16384.Idx → BitVec 32) (d : Dev nD)

/-- What a tile is given. -/
def goPts (c : Fin 2) (i : Fin 16) : sProp 𝕄 :=
  iprop((∃ f : Buf (Elt F) (tblLoc d), ⌜T f⌝ ∗ (tblLoc d ↦{ShareLeaves.leaf 5 fullShare (tix c i)} f))
    ∗ (idsLoc d ↦{ShareLeaves.leaf 5 fullShare (tix c i)} (ids : Buf (Elt F) (idsLoc d)))
    ∗ bigSep Finset.univ fun r : Fin 4 => iprop(∃ g : Buf (Elt F) (outLoc d), outLoc d ↦[oSet c i r]{fullShare} g))
/-- What it brings back. -/
def tdPts (c : Fin 2) (i : Fin 16) : sProp 𝕄 :=
  bigSep Finset.univ fun r : Fin 4 => iprop(∃ g : Buf (Elt F) (outLoc d), ⌜∀ j ∈ oSet c i r, OutRel T ids j (g j)⌝ ∗ (outLoc d ↦[oSet c i r]{fullShare} g))

section Task
variable (L : grid1.Coords)

abbrev cL (L : grid1.Coords) : Fin 2 := L 0
abbrev iL (L : grid1.Coords) : Fin 16 := L 1

abbrev cell (x : DmaSem sig) : GSem nD τ sig := (thr d L, .dma x)

/-- The tile's nine semaphores are among its own. -/
theorem ownSems0_V :
    ∃ rest : sProp 𝕄, (ownSems0 (thr d L) : sProp 𝕄)
      = iprop(semVal (cell d L cc1_scoped0.sem) 0 ∗ semVal (cell d L cc1_scratch3.sem) 0 ∗ semVal (cell d L cc1_scratch4.sem) 0 ∗ semVal (cell d L cc1_scratch5.sem) 0 ∗ semVal (cell d L cc1_scratch6.sem) 0 ∗ semVal (cell d L cc1_scratch7.sem) 0 ∗ semVal (cell d L cc1_scratch8.sem) 0 ∗ semVal (cell d L cc1_scratch9.sem) 0 ∗ semVal (cell d L cc1_scratch10.sem) 0 ∗ rest) := by
  apply Exists.intro
  unfold SparseCore.Cfg.ownSems0
  rw [SparseCore.bigSep_erase' ((mem_ownCells (g := cell d L cc1_scoped0.sem)).mpr ⟨rfl, by show (SemLoc.dma cc1_scoped0.sem : SemLoc sig).isScoped .scVector = true; decide⟩),
    SparseCore.bigSep_erase' (Finset.mem_erase.mpr ⟨by simp [cell]; decide, (mem_ownCells (g := cell d L cc1_scratch3.sem)).mpr ⟨rfl, by show (SemLoc.dma cc1_scratch3.sem : SemLoc sig).isScoped .scVector = true; decide⟩⟩),
    SparseCore.bigSep_erase' (Finset.mem_erase.mpr ⟨by simp [cell]; decide, Finset.mem_erase.mpr ⟨by simp [cell]; decide, (mem_ownCells (g := cell d L cc1_scratch4.sem)).mpr ⟨rfl, by show (SemLoc.dma cc1_scratch4.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide, (mem_ownCells (g := cell d L cc1_scratch5.sem)).mpr ⟨rfl, by show (SemLoc.dma cc1_scratch5.sem : SemLoc sig).isScoped .scVector = true; decide⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc1_scratch6.sem)).mpr ⟨rfl, by show (SemLoc.dma cc1_scratch6.sem : SemLoc sig).isScoped .scVector = true; decide⟩⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc1_scratch7.sem)).mpr ⟨rfl, by show (SemLoc.dma cc1_scratch7.sem : SemLoc sig).isScoped .scVector = true; decide⟩⟩⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc1_scratch8.sem)).mpr ⟨rfl, by show (SemLoc.dma cc1_scratch8.sem : SemLoc sig).isScoped .scVector = true; decide⟩⟩⟩⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc1_scratch9.sem)).mpr ⟨rfl, by show (SemLoc.dma cc1_scratch9.sem : SemLoc sig).isScoped .scVector = true; decide⟩⟩⟩⟩⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc1_scratch10.sem)).mpr ⟨rfl, by show (SemLoc.dma cc1_scratch10.sem : SemLoc sig).isScoped .scVector = true; decide⟩⟩⟩⟩⟩⟩⟩⟩⟩)]

/-- The three scratch buffers are among the tile's own. -/
theorem ownBufs_V :
    ∃ rest : sProp 𝕄, (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ rest) := by
  apply Exists.intro
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

theorem out0_rect : Rect.unit (s := S16384x128) (k1_off4 L 0#32) S128x128.size (k1_off4_inb L 0)
    = Rect.part (s := S16384x128) (a₀ := 0) odiv (blk (cL L) (iL L) 0) := by
  unfold Rect.part Rect.block
  congr 1 <;> funext a
  · rw [show k1_off4 L 0#32 = _ from k1_off4_eq L 0]
    match a with
    | 0 => show 1024 * (L 1).val + 512 * (L 0).val + 128 * 0 = (8 * (L 1).val + 4 * (L 0).val + 0) * 128; omega
    | 1 => rfl
  · match a with
    | 0 => rfl
    | 1 => rfl
theorem out0_set : (out0 L).view.set = oSet (cL L) (iL L) 0 :=
  (View.set_slice_whole main_v20_scv _).trans (congrArg (fun r : Rect S16384x128 => r.set) (out0_rect L))
/-- Block 0 read element by element. -/
theorem out0_rel {tbl : S50176x128.Idx → F .f32} (hT : T tbl) (g : Buf (Elt F) (outLoc d))
    (hg : ∀ j : S128x128.Idx, (out0 L).view.read (Elt F) g j = rowVal tbl (idW L ids (0 + (j 0).val)) (j 1)) :
    ∀ j ∈ oSet (cL L) (iL L) 0, OutRel T ids j (g j) := by
  intro j hj
  rw [← out0_set L] at hj
  obtain ⟨x, hx⟩ := View.exists_of_mem_set_slice (v := View.whole main_v20_scv) hj
  refine ⟨tbl, hT, ?_⟩
  have h := hg x
  have e0 : (j 0).val = base L + (0 + (x 0).val) := by
    have h1 : (j 0).val = k1_off4 L 0#32 0 + 1 * (x 0).val := by rw [← hx]; rfl
    have h2 : k1_off4 L 0#32 0 = 1024 * (L 1).val + 512 * (L 0).val + 128 * 0 := congrFun (k1_off4_eq L 0) 0
    rw [h1, h2]; show _ = 1024 * (L 1).val + 512 * (L 0).val + (0 + (x 0).val); omega
  have e1 : (j 1).val = (x 1).val := by
    have h1 : (j 1).val = k1_off4 L 0#32 1 + 1 * (x 1).val := by rw [← hx]; rfl
    have h2 : k1_off4 L 0#32 1 = 0 := congrFun (k1_off4_eq L 0) 1
    rw [h1, h2]; omega
  have e : g j = (out0 L).view.read (Elt F) g x := congrArg g hx.symm
  have hj0 : (j 0).val < 16384 := (j 0).isLt
  rw [e, h, show (x 1 : Fin 128) = j 1 from Fin.ext e1.symm]
  congr 1
  unfold idW
  rw [dif_pos (by omega)]
  refine congrArg ids (funext fun a => Fin.ext ?_)
  match a with
  | ⟨0, _⟩ => exact e0.symm
theorem out1_rect : Rect.unit (s := S16384x128) (k1_off4 L 128#32) S128x128.size (k1_off4_inb L 1)
    = Rect.part (s := S16384x128) (a₀ := 0) odiv (blk (cL L) (iL L) 1) := by
  unfold Rect.part Rect.block
  congr 1 <;> funext a
  · rw [show k1_off4 L 128#32 = _ from k1_off4_eq L 1]
    match a with
    | 0 => show 1024 * (L 1).val + 512 * (L 0).val + 128 * 1 = (8 * (L 1).val + 4 * (L 0).val + 1) * 128; omega
    | 1 => rfl
  · match a with
    | 0 => rfl
    | 1 => rfl
theorem out1_set : (out1 L).view.set = oSet (cL L) (iL L) 1 :=
  (View.set_slice_whole main_v20_scv _).trans (congrArg (fun r : Rect S16384x128 => r.set) (out1_rect L))
/-- Block 1 read element by element. -/
theorem out1_rel {tbl : S50176x128.Idx → F .f32} (hT : T tbl) (g : Buf (Elt F) (outLoc d))
    (hg : ∀ j : S128x128.Idx, (out1 L).view.read (Elt F) g j = rowVal tbl (idW L ids (128 + (j 0).val)) (j 1)) :
    ∀ j ∈ oSet (cL L) (iL L) 1, OutRel T ids j (g j) := by
  intro j hj
  rw [← out1_set L] at hj
  obtain ⟨x, hx⟩ := View.exists_of_mem_set_slice (v := View.whole main_v20_scv) hj
  refine ⟨tbl, hT, ?_⟩
  have h := hg x
  have e0 : (j 0).val = base L + (128 + (x 0).val) := by
    have h1 : (j 0).val = k1_off4 L 128#32 0 + 1 * (x 0).val := by rw [← hx]; rfl
    have h2 : k1_off4 L 128#32 0 = 1024 * (L 1).val + 512 * (L 0).val + 128 * 1 := congrFun (k1_off4_eq L 1) 0
    rw [h1, h2]; show _ = 1024 * (L 1).val + 512 * (L 0).val + (128 + (x 0).val); omega
  have e1 : (j 1).val = (x 1).val := by
    have h1 : (j 1).val = k1_off4 L 128#32 1 + 1 * (x 1).val := by rw [← hx]; rfl
    have h2 : k1_off4 L 128#32 1 = 0 := congrFun (k1_off4_eq L 1) 1
    rw [h1, h2]; omega
  have e : g j = (out1 L).view.read (Elt F) g x := congrArg g hx.symm
  have hj0 : (j 0).val < 16384 := (j 0).isLt
  rw [e, h, show (x 1 : Fin 128) = j 1 from Fin.ext e1.symm]
  congr 1
  unfold idW
  rw [dif_pos (by omega)]
  refine congrArg ids (funext fun a => Fin.ext ?_)
  match a with
  | ⟨0, _⟩ => exact e0.symm
theorem out2_rect : Rect.unit (s := S16384x128) (k1_off4 L 256#32) S128x128.size (k1_off4_inb L 2)
    = Rect.part (s := S16384x128) (a₀ := 0) odiv (blk (cL L) (iL L) 2) := by
  unfold Rect.part Rect.block
  congr 1 <;> funext a
  · rw [show k1_off4 L 256#32 = _ from k1_off4_eq L 2]
    match a with
    | 0 => show 1024 * (L 1).val + 512 * (L 0).val + 128 * 2 = (8 * (L 1).val + 4 * (L 0).val + 2) * 128; omega
    | 1 => rfl
  · match a with
    | 0 => rfl
    | 1 => rfl
theorem out2_set : (out2 L).view.set = oSet (cL L) (iL L) 2 :=
  (View.set_slice_whole main_v20_scv _).trans (congrArg (fun r : Rect S16384x128 => r.set) (out2_rect L))
/-- Block 2 read element by element. -/
theorem out2_rel {tbl : S50176x128.Idx → F .f32} (hT : T tbl) (g : Buf (Elt F) (outLoc d))
    (hg : ∀ j : S128x128.Idx, (out2 L).view.read (Elt F) g j = rowVal tbl (idW L ids (256 + (j 0).val)) (j 1)) :
    ∀ j ∈ oSet (cL L) (iL L) 2, OutRel T ids j (g j) := by
  intro j hj
  rw [← out2_set L] at hj
  obtain ⟨x, hx⟩ := View.exists_of_mem_set_slice (v := View.whole main_v20_scv) hj
  refine ⟨tbl, hT, ?_⟩
  have h := hg x
  have e0 : (j 0).val = base L + (256 + (x 0).val) := by
    have h1 : (j 0).val = k1_off4 L 256#32 0 + 1 * (x 0).val := by rw [← hx]; rfl
    have h2 : k1_off4 L 256#32 0 = 1024 * (L 1).val + 512 * (L 0).val + 128 * 2 := congrFun (k1_off4_eq L 2) 0
    rw [h1, h2]; show _ = 1024 * (L 1).val + 512 * (L 0).val + (256 + (x 0).val); omega
  have e1 : (j 1).val = (x 1).val := by
    have h1 : (j 1).val = k1_off4 L 256#32 1 + 1 * (x 1).val := by rw [← hx]; rfl
    have h2 : k1_off4 L 256#32 1 = 0 := congrFun (k1_off4_eq L 2) 1
    rw [h1, h2]; omega
  have e : g j = (out2 L).view.read (Elt F) g x := congrArg g hx.symm
  have hj0 : (j 0).val < 16384 := (j 0).isLt
  rw [e, h, show (x 1 : Fin 128) = j 1 from Fin.ext e1.symm]
  congr 1
  unfold idW
  rw [dif_pos (by omega)]
  refine congrArg ids (funext fun a => Fin.ext ?_)
  match a with
  | ⟨0, _⟩ => exact e0.symm
theorem out3_rect : Rect.unit (s := S16384x128) (k1_off4 L 384#32) S128x128.size (k1_off4_inb L 3)
    = Rect.part (s := S16384x128) (a₀ := 0) odiv (blk (cL L) (iL L) 3) := by
  unfold Rect.part Rect.block
  congr 1 <;> funext a
  · rw [show k1_off4 L 384#32 = _ from k1_off4_eq L 3]
    match a with
    | 0 => show 1024 * (L 1).val + 512 * (L 0).val + 128 * 3 = (8 * (L 1).val + 4 * (L 0).val + 3) * 128; omega
    | 1 => rfl
  · match a with
    | 0 => rfl
    | 1 => rfl
theorem out3_set : (out3 L).view.set = oSet (cL L) (iL L) 3 :=
  (View.set_slice_whole main_v20_scv _).trans (congrArg (fun r : Rect S16384x128 => r.set) (out3_rect L))
/-- Block 3 read element by element. -/
theorem out3_rel {tbl : S50176x128.Idx → F .f32} (hT : T tbl) (g : Buf (Elt F) (outLoc d))
    (hg : ∀ j : S128x128.Idx, (out3 L).view.read (Elt F) g j = rowVal tbl (idW L ids (384 + (j 0).val)) (j 1)) :
    ∀ j ∈ oSet (cL L) (iL L) 3, OutRel T ids j (g j) := by
  intro j hj
  rw [← out3_set L] at hj
  obtain ⟨x, hx⟩ := View.exists_of_mem_set_slice (v := View.whole main_v20_scv) hj
  refine ⟨tbl, hT, ?_⟩
  have h := hg x
  have e0 : (j 0).val = base L + (384 + (x 0).val) := by
    have h1 : (j 0).val = k1_off4 L 384#32 0 + 1 * (x 0).val := by rw [← hx]; rfl
    have h2 : k1_off4 L 384#32 0 = 1024 * (L 1).val + 512 * (L 0).val + 128 * 3 := congrFun (k1_off4_eq L 3) 0
    rw [h1, h2]; show _ = 1024 * (L 1).val + 512 * (L 0).val + (384 + (x 0).val); omega
  have e1 : (j 1).val = (x 1).val := by
    have h1 : (j 1).val = k1_off4 L 384#32 1 + 1 * (x 1).val := by rw [← hx]; rfl
    have h2 : k1_off4 L 384#32 1 = 0 := congrFun (k1_off4_eq L 3) 1
    rw [h1, h2]; omega
  have e : g j = (out3 L).view.read (Elt F) g x := congrArg g hx.symm
  have hj0 : (j 0).val < 16384 := (j 0).isLt
  rw [e, h, show (x 1 : Fin 128) = j 1 from Fin.ext e1.symm]
  congr 1
  unfold idW
  rw [dif_pos (by omega)]
  refine congrArg ids (funext fun a => Fin.ext ?_)
  match a with
  | ⟨0, _⟩ => exact e0.symm

set_option maxHeartbeats 1000000 in
/-- The task. -/
theorem tile_body (hF : (SC (F := F)).Facts) (hids : ∀ x, (ids x).toNat < 100000)
    (O : CellTallies nD τ sig (HIx 2)) (W : Waits sig (HIx 2)) (hO : ∀ g, O g none = 0) :
    (iprop(levAts (SC (F := F)).L (SC (F := F)).lev ∗ emp ∗ goPts T ids d (cL L) (iL L)
        ∗ scopedBufs (thr d L) ∗ scopedSems0 (thr d L) ∗ owes (thr d L) O W) : sProp 𝕄)
      ⊢ wp frame (wpE (defs₀ (F := F)) 𝒱₀ (thr d L) none) Set.univ
          (cc1_gather_k (F := F) L tblM (Memref.isWhole_whole _) idsM (Memref.isWhole_whole _) outM (Memref.isWhole_whole _)
            rowM (Memref.isWhole_whole _) selM (Memref.isWhole_whole _) bufM (Memref.isWhole_whole _)
            cc1_scratch3 cc1_scratch4 cc1_scratch5 cc1_scratch6 cc1_scratch7 cc1_scratch8 cc1_scratch9 cc1_scratch10 cc1_scoped0)
          fun _ => (iprop(tdPts T ids d (cL L) (iL L) ∗ scopedBufs (thr d L) ∗ scopedSems0 (thr d L)
            ∗ ∃ W', ⌜∀ p ∈ W', p ∈ W ∨ p.2 = none⌝ ∗ owes (thr d L) O W') : sProp 𝕄) := by
  obtain ⟨restS, hS⟩ := ownSems0_V (F := F) d L
  obtain ⟨restB, hB⟩ := ownBufs_V (F := F) d L
  rw [(SC (F := F)).scopedBufs_V hF d (cV L) (jV L), SparseCore.Cfg.scopedSems0_V (Val := Elt F) d (cV L) (jV L), hS, hB]
  unfold goPts tdPts
  rw [bigSep_four, bigSep_four]
  iintro ⟨#Hlv, -, ⟨⟨%tbl, %hT, Ht⟩, Hi, ⟨%fo0, Ho0⟩, ⟨%fo1, Ho1⟩, ⟨%fo2, Ho2⟩, ⟨%fo3, Ho3⟩⟩, ⟨⟨%fr, Hr⟩, ⟨%fs, Hs⟩, ⟨%fb, Hb⟩, HBr⟩, ⟨HsI, HsA0, HsA1, HsA2, HsA3, HsB0, HsB1, HsB2, HsB3, HSr⟩, HO⟩
  ihave Hts := (Entails.of_eq (ShareLeaves.pointsTo_leaves (ℓ := tblLoc d) (Val := Elt F) (U := UU) (Ix := HIx 2) (Name := ℕ) (Lvl := ℕ) Finset.univ tbl 2 (ShareLeaves.leaf 5 fullShare (tix (cL L) (iL L))))) $$ Ht
  ihave Hts := (Entails.of_eq (bigSep_four _)) $$ Hts
  icases Hts with ⟨Ht0, Ht1, Ht2, Ht3⟩
  ihave Hts := (pointsTo_split_subset (q := ShareLeaves.leaf 2 (ShareLeaves.leaf 5 fullShare (tix (cL L) (iL L))) 0) (f := tbl) (S := Finset.univ) (Finset.subset_univ (tblAll).view.set)).1 $$ Ht0
  icases Hts with ⟨Ht0, -⟩
  ihave Hts := (pointsTo_split_subset (q := ShareLeaves.leaf 2 (ShareLeaves.leaf 5 fullShare (tix (cL L) (iL L))) 1) (f := tbl) (S := Finset.univ) (Finset.subset_univ (tblAll).view.set)).1 $$ Ht1
  icases Hts with ⟨Ht1, -⟩
  ihave Hts := (pointsTo_split_subset (q := ShareLeaves.leaf 2 (ShareLeaves.leaf 5 fullShare (tix (cL L) (iL L))) 2) (f := tbl) (S := Finset.univ) (Finset.subset_univ (tblAll).view.set)).1 $$ Ht2
  icases Hts with ⟨Ht2, -⟩
  ihave Hts := (pointsTo_split_subset (q := ShareLeaves.leaf 2 (ShareLeaves.leaf 5 fullShare (tix (cL L) (iL L))) 3) (f := tbl) (S := Finset.univ) (Finset.subset_univ (tblAll).view.set)).1 $$ Ht3
  icases Hts with ⟨Ht3, -⟩
  ihave Hbs := (Entails.of_eq (slabs_split (F := F) d L fb)) $$ Hb
  icases Hbs with ⟨Hb0, Hb1, Hb2, Hb3⟩
  ihave Ho0 := (Entails.of_eq (show (outLoc d ↦[oSet (cL L) (iL L) 0]{fullShare} fo0 : sProp 𝕄)
      = (out0 L).view.loc (thr d L) ↦[(out0 L).view.set]{fullShare} fo0 by rw [out0_set])) $$ Ho0
  ihave Ho1 := (Entails.of_eq (show (outLoc d ↦[oSet (cL L) (iL L) 1]{fullShare} fo1 : sProp 𝕄)
      = (out1 L).view.loc (thr d L) ↦[(out1 L).view.set]{fullShare} fo1 by rw [out1_set])) $$ Ho1
  ihave Ho2 := (Entails.of_eq (show (outLoc d ↦[oSet (cL L) (iL L) 2]{fullShare} fo2 : sProp 𝕄)
      = (out2 L).view.loc (thr d L) ↦[(out2 L).view.set]{fullShare} fo2 by rw [out2_set])) $$ Ho2
  ihave Ho3 := (Entails.of_eq (show (outLoc d ↦[oSet (cL L) (iL L) 3]{fullShare} fo3 : sProp 𝕄)
      = (out3 L).view.loc (thr d L) ↦[(out3 L).view.set]{fullShare} fo3 by rw [out3_set])) $$ Ho3
  iapply (wp_wand_r frame (wpE (defs₀ (F := F)) 𝒱₀ (thr d L) none) Set.univ)
  isplitl [Ht0 Ht1 Ht2 Ht3 Hi Hr Hs Hb0 Hb1 Hb2 Hb3 Ho0 Ho1 Ho2 Ho3 HsI HsA0 HsA1 HsA2 HsA3 HsB0 HsB1 HsB2 HsB3 HO]
  · iapply (tile_core (F := F) d L _ _ _ _ _ tbl ids hids O W hO fo0 fo1 fo2 fo3 fr fs fb)
    isplitr; · iexact Hlv
    isplitl [Ht0]; · iexact Ht0
    isplitl [Ht1]; · iexact Ht1
    isplitl [Ht2]; · iexact Ht2
    isplitl [Ht3]; · iexact Ht3
    isplitl [Hi]; · iexact Hi
    isplitl [Hr]; · iexact Hr
    isplitl [Hs]; · iexact Hs
    isplitl [Hb0]; · iexact Hb0
    isplitl [Hb1]; · iexact Hb1
    isplitl [Hb2]; · iexact Hb2
    isplitl [Hb3]; · iexact Hb3
    isplitl [Ho0]; · iexact Ho0
    isplitl [Ho1]; · iexact Ho1
    isplitl [Ho2]; · iexact Ho2
    isplitl [Ho3]; · iexact Ho3
    isplitl [HsI]; · iexact HsI
    isplitl [HsA0]; · iexact HsA0
    isplitl [HsA1]; · iexact HsA1
    isplitl [HsA2]; · iexact HsA2
    isplitl [HsA3]; · iexact HsA3
    isplitl [HsB0]; · iexact HsB0
    isplitl [HsB1]; · iexact HsB1
    isplitl [HsB2]; · iexact HsB2
    isplitl [HsB3]; · iexact HsB3
    iexact HO
  · iintro %_ ⟨⟨%g0, %hg0, Ho0⟩, ⟨%g1, %hg1, Ho1⟩, ⟨%g2, %hg2, Ho2⟩, ⟨%g3, %hg3, Ho3⟩, ⟨%fr', Hr⟩, ⟨%fs', Hs⟩, ⟨%e0, Hb0⟩, ⟨%e1, Hb1⟩, ⟨%e2, Hb2⟩, ⟨%e3, Hb3⟩, HsI, HsA0, HsA1, HsA2, HsA3, HsB0, HsB1, HsB2, HsB3, %W', %hW', HO⟩
    isplitl [Ho0 Ho1 Ho2 Ho3]
    · isplitl [Ho0]
      · iexists g0; isplitr
        · ipureintro; exact out0_rel T ids d L hT g0 hg0
        · iapply (Entails.of_eq (show ((out0 L).view.loc (thr d L) ↦[(out0 L).view.set]{fullShare} g0 : sProp 𝕄)
              = outLoc d ↦[oSet (cL L) (iL L) 0]{fullShare} g0 by rw [out0_set])); iexact Ho0
      isplitl [Ho1]
      · iexists g1; isplitr
        · ipureintro; exact out1_rel T ids d L hT g1 hg1
        · iapply (Entails.of_eq (show ((out1 L).view.loc (thr d L) ↦[(out1 L).view.set]{fullShare} g1 : sProp 𝕄)
              = outLoc d ↦[oSet (cL L) (iL L) 1]{fullShare} g1 by rw [out1_set])); iexact Ho1
      isplitl [Ho2]
      · iexists g2; isplitr
        · ipureintro; exact out2_rel T ids d L hT g2 hg2
        · iapply (Entails.of_eq (show ((out2 L).view.loc (thr d L) ↦[(out2 L).view.set]{fullShare} g2 : sProp 𝕄)
              = outLoc d ↦[oSet (cL L) (iL L) 2]{fullShare} g2 by rw [out2_set])); iexact Ho2
      iexists g3; isplitr
      · ipureintro; exact out3_rel T ids d L hT g3 hg3
      · iapply (Entails.of_eq (show ((out3 L).view.loc (thr d L) ↦[(out3 L).view.set]{fullShare} g3 : sProp 𝕄)
            = outLoc d ↦[oSet (cL L) (iL L) 3]{fullShare} g3 by rw [out3_set])); iexact Ho3
    isplitl [Hr Hs Hb0 Hb1 Hb2 Hb3 HBr]
    · isplitl [Hr]; · iexists _; iexact Hr
      isplitl [Hs]; · iexists _; iexact Hs
      isplitl [Hb0 Hb1 Hb2 Hb3]
      · iapply (slabs_join (F := F) d L e0 e1 e2 e3)
        isplitl [Hb0]; · iexact Hb0
        isplitl [Hb1]; · iexact Hb1
        isplitl [Hb2]; · iexact Hb2
        iexact Hb3
      iexact HBr
    isplitl [HsI HsA0 HsA1 HsA2 HsA3 HsB0 HsB1 HsB2 HsB3 HSr]
    · isplitl [HsI]; · iexact HsI
      isplitl [HsA0]; · iexact HsA0
      isplitl [HsA1]; · iexact HsA1
      isplitl [HsA2]; · iexact HsA2
      isplitl [HsA3]; · iexact HsA3
      isplitl [HsB0]; · iexact HsB0
      isplitl [HsB1]; · iexact HsB1
      isplitl [HsB2]; · iexact HsB2
      isplitl [HsB3]; · iexact HsB3
      iexact HSr
    iexists W'; isplitr
    · ipureintro; exact hW'
    · iexact HO

end Task

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (F := F) (coordsV c s) tblM (Memref.isWhole_whole _) idsM (Memref.isWhole_whole _) outM (Memref.isWhole_whole _)
            rowM (Memref.isWhole_whole _) selM (Memref.isWhole_whole _) bufM (Memref.isWhole_whole _)
            cc1_scratch3 cc1_scratch4 cc1_scratch5 cc1_scratch6 cc1_scratch7 cc1_scratch8 cc1_scratch9 cc1_scratch10 cc1_scoped0) ⟨⟩ c s := rfl

end Cert.Proof.I.Tile1
-- ==== Proof.ITile3.lean ====
/-
  One tile of the first SparseCore call, at a symbolic pair of SparseCore and tile. The tile fetches its
  512 ids, turns each id into the row of the packed table it lies in and the half of that row it takes,
  gathers the rows in four blocks of 128, writes the half as a number into lane 120 of each gathered row,
  and sends each block out. The contents of every buffer are carried through the run.
-/
module

public import proofs.«01_k».proof.Proof.ISc

@[expose] public section

noncomputable section

namespace Cert.Proof.I.Tile3

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-! ## The buffers -/

abbrev tblM : Memref sig .scVector .hbm S50176x128 .f32 := Memref.whole main_v22_scv
abbrev idsM : Memref sig .scVector .hbm S16384 .i32 := Memref.whole main_v1_scv
abbrev outM : Memref sig .scVector .hbm S16384x128 .f32 := Memref.whole main_v23_scv
abbrev rowM : Memref sig .scVector .vmem S512 .i32 := Memref.whole cc3_scratch0
abbrev selM : Memref sig .scVector .vmem S512 .i32 := Memref.whole cc3_scratch1
abbrev bufM : Memref sig .scVector .vmem S4x128x128 .f32 := Memref.whole cc3_scratch2

/-- The arrays as device `d` locates them. -/
abbrev tblLoc (d : Dev nD) : Loc nD τ sig := (SparseCore.T d).loc main_v22
abbrev idsLoc (d : Dev nD) : Loc nD τ sig := (SparseCore.T d).loc main_v1
abbrev outLoc (d : Dev nD) : Loc nD τ sig := (SparseCore.T d).loc main_v23

section Body

variable (d : Dev nD) (L : grid3.Coords)

abbrev cV (L : grid3.Coords) : Fin τ.nSC := (L 0).castLE hcore3
abbrev jV (L : grid3.Coords) : Fin τ.nSub := (L 1).castLE hsub3
abbrev thr : Thread nD τ := V d (cV L) (jV L)

theorem lt0 : (L 0).val < 2 := (L 0).isLt
theorem lt1 : (L 1).val < 16 := (L 1).isLt

/-- The first of the tile's 512 ids. -/
abbrev base : ℕ := 1024 * (L 1).val + 512 * (L 0).val

/-- The position in the list of ids of the tile's `x`-th id. -/
def idAt (x : S512.Idx) : S16384.Idx := fun | ⟨0, _⟩ => ⟨base L + (x 0).val, by
  have := lt0 L; have := lt1 L; have : (x 0).val < 512 := (x 0).isLt
  show 1024 * (L 1).val + 512 * (L 0).val + (x 0).val < 16384; omega⟩

variable [FloatOps F]

/-! ## Ids to rows and halves -/

def I1 (w : ℕ → BitVec 32) (k : ℕ) (_ : BitVec 32) : sProp 𝕄 :=
  iprop((∃ f : Buf (Elt F) ((thr d L).loc cc3_scratch0), ⌜∀ x : S512.Idx, (rowM).view.read (Elt F) f x = rowsUpTo w k x⌝ ∗ (rowM).view.loc (thr d L) ↦{fullShare} f)
    ∗ (∃ g : Buf (Elt F) ((thr d L).loc cc3_scratch1), ⌜HalvesUpTo w k ((selM).view.read (Elt F) g)⌝ ∗ (selM).view.loc (thr d L) ↦{fullShare} g))

theorem pay1_apply (v : Vec F S16 .i32) (y : S16.Idx) : k3_pay1 (F := F) v y = halfOf (v y) := rfl
theorem pay2_apply (v : Vec F S16 .i32) (y : S16.Idx) : k3_pay2 (F := F) v y = rowOf (v y) := rfl

theorem trip1 (w : ℕ → BitVec 32) (k : Fin k3_t1_loop.trips) (acc : BitVec 32) :
    (I1 (F := F) d L w k.val acc) ⊢ wp frame (wpE (defs₀ (F := F)) 𝒱₀ (thr d L) none) Set.univ
      (k3_t1_body (F := F) L tblM (Memref.isWhole_whole _) idsM (Memref.isWhole_whole _) outM (Memref.isWhole_whole _)
        rowM (Memref.isWhole_whole _) selM (Memref.isWhole_whole _) bufM (Memref.isWhole_whole _)
        cc3_scratch3 cc3_scratch4 cc3_scratch5 cc3_scratch6 cc3_scratch7 cc3_scratch8 cc3_scratch9 cc3_scratch10 cc3_scoped0 k acc)
      (fun acc' => I1 (F := F) d L w (k.val + 1) acc') := by
  unfold k3_t1_body
  unfold I1
  iintro ⟨⟨%f, %hf, Hr⟩, ⟨%g, %hg, Hs⟩⟩
  sl_exec
  sl_step
  isplitl [Hr]
  · iexists _
    isplitr
    swap; · iexact Hr
    ipureintro
    intro x
    rw [stored16 _ _ _ _ (k3_off2_eq k)]
    unfold rowsUpTo
    split
    · rename_i h
      rw [if_pos (by omega), pay2_apply, loaded16 _ _ _ _ (k3_off2_eq k) _ _ x (by show (x 0).val = 16 * k.val + ((x 0).val - 16 * k.val); omega), hf, rowsUpTo,
        if_neg (by omega)]
    · rename_i h
      rw [hf, rowsUpTo]
      by_cases h' : (x 0).val < 16 * k.val
      · rw [if_pos h', if_pos (by omega)]
      · rw [if_neg h', if_neg (by omega)]
  · iexists _
    isplitr
    swap; · iexact Hs
    ipureintro
    intro x hx
    rw [stored16 _ _ _ _ (k3_off2_eq k)]
    split
    · rename_i h
      rw [pay1_apply, loaded16 _ _ _ _ (k3_off2_eq k) _ _ x (by show (x 0).val = 16 * k.val + ((x 0).val - 16 * k.val); omega), hf, rowsUpTo,
        if_neg (by omega)]
    · exact hg x (by omega)

/-! ## The halves written into the gathered rows -/

theorem laneIdx_apply (x : S16.Idx) : (k3_pay3 x).toNat = 120 := rfl

/-- Lane `x` of trip `k`'s list of rows names row `16 k + x`. -/
theorem rowIdx0 (k : Fin k3_t2_loop.trips) (x : S16.Idx) :
    (k3_pay4 (iota .scVector S16 32 [0] iota_S16_d0_w32_scVector) k x).toNat = 16 * k.val + (x 0).val := by
  have hx : x = fun | ⟨0, _⟩ => x 0 := funext fun a => match a with | ⟨0, _⟩ => rfl
  rw [hx]
  exact (show ∀ (k : Fin k3_t2_loop.trips) (y : Fin 16), (k3_pay4 (iota .scVector S16 32 [0] iota_S16_d0_w32_scVector) k (fun | ⟨0, _⟩ => y)).toNat = 16 * k.val + y.val
    by decide +kernel) k (x 0)
/-- Block 0 of the buffer of gathered rows, as the tile addresses it. -/
abbrev slab0 : Memref sig .scVector .vmem S128x128 .f32 :=
  ((bufM).slice (Rect.unit (s := S4x128x128) ![0, 0, 0] S1x128x128.size inb_S4x128x128_S1x128x128_0_0_0) (fun _ => rfl)).squeeze S128x128 squeezes_S1x128x128_S128x128

/-- Before trip `k` of the loop over block 0: its first `16 k` rows are marked. -/
def I2 (G : S128x128.Idx → F .f32) (w : ℕ → BitVec 32) (g : Buf (Elt F) ((thr d L).loc cc3_scratch1)) (k : ℕ) (_ : BitVec 32) : sProp 𝕄 :=
  iprop((∃ f : Buf (Elt F) ((slab0).view.loc (thr d L)), ⌜∀ j : S128x128.Idx, (slab0).view.read (Elt F) f j = marked G w 0 k j⌝
      ∗ (slab0).view.loc (thr d L) ↦[(slab0).view.set]{fullShare} f)
    ∗ (selM).view.loc (thr d L) ↦{fullShare} g)

/-- One trip over block 0 marks sixteen more rows. -/
theorem trip2 (G : S128x128.Idx → F .f32) (w : ℕ → BitVec 32) (g : Buf (Elt F) ((thr d L).loc cc3_scratch1))
    (hg : ∀ x : S512.Idx, (selM).view.read (Elt F) g x = halfOf (w (x 0).val)) (v2 : BitVec 32) (k : Fin k3_t2_loop.trips) (acc : BitVec 32) :
    (I2 (F := F) d L G w g k.val acc) ⊢ wp frame (wpE (defs₀ (F := F)) 𝒱₀ (thr d L) none) Set.univ
      (k3_t2_body (F := F) L tblM (Memref.isWhole_whole _) idsM (Memref.isWhole_whole _) outM (Memref.isWhole_whole _)
        rowM (Memref.isWhole_whole _) selM (Memref.isWhole_whole _) bufM (Memref.isWhole_whole _)
        cc3_scratch3 cc3_scratch4 cc3_scratch5 cc3_scratch6 cc3_scratch7 cc3_scratch8 cc3_scratch9 cc3_scratch10 cc3_scoped0
        v2 (iota .scVector S16 32 [0] iota_S16_d0_w32_scVector) k3_pay3 k acc)
      (fun acc' => I2 (F := F) d L G w g (k.val + 1) acc') := by
  have hchk : k3_chk1 k3_pay3 (k3_pay4 (iota .scVector S16 32 [0] iota_S16_d0_w32_scVector) k) := by
    refine Fin.forall_fin_two.mpr ⟨fun x => ?_, fun x => ?_⟩
    · have := rowIdx0 k x
      have hk : k.val < 8 := k.isLt
      have hx : (x 0).val < 16 := (x 0).isLt
      show (k3_pay4 (iota .scVector S16 32 [0] iota_S16_d0_w32_scVector) k x).toNat < 128
      omega
    · show (k3_pay3 x).toNat < 128
      rw [laneIdx_apply]; omega
  unfold k3_t2_body
  unfold I2
  iintro ⟨⟨%f, %hf, Hb⟩, Hs⟩
  sl_exec
  have hset : ((slab0).access (.whole S128x128)).set = (slab0).view.set := access_set slab0
  ihave Hb' := (Entails.of_eq (show ((slab0).view.loc (thr d L) ↦[(slab0).view.set]{fullShare} f : sProp 𝕄)
      = ((slab0).access (.whole S128x128)).loc (thr d L) ↦[((slab0).access (.whole S128x128)).set]{fullShare} f by rw [hset])) $$ Hb
  iapply (SparseCore.wp_vectorStoreIdx 𝒱₀ (thr d L) none Set.univ (base := slab0)) $$ Hb'
  iintro Hb'
  sl_exec
  sl_step
  isplitl [Hb']
  · iexists _
    isplitr
    swap
    · iapply (Entails.of_eq (show (((slab0).access (.whole S128x128)).loc (thr d L) ↦[((slab0).access (.whole S128x128)).set]{fullShare} _ : sProp 𝕄)
        = (slab0).view.loc (thr d L) ↦[(slab0).view.set]{fullShare} _ by rw [hset]))
      iexact Hb'
    ipureintro
    exact slab_marked slab0 f G w 0 k.val _ _ _ (rowIdx0 k) laneIdx_apply _ (fun x => by
      have hx : (x 0).val < 16 := (x 0).isLt
      have hk : k.val < 8 := k.isLt
      have := loaded16 (F := F) (selM).view g (k3_off3 k) (16 * k.val) (k3_off3_eq k) (k3_off3_inb k) x
        (fun | ⟨0, _⟩ => ⟨16 * k.val + (x 0).val, by show _ < 512; omega⟩) rfl
      show FloatOps.sitofp .f32 _ = _
      rw [this, hg]
      congr 3
      show 16 * k.val + (x 0).val = 0 + (16 * k.val + (x 0).val)
      omega) hf
  · iexact Hs

theorem rowIdx1 (k : Fin k3_t3_loop.trips) (x : S16.Idx) :
    (k3_pay6 (iota .scVector S16 32 [0] iota_S16_d0_w32_scVector) k x).toNat = 16 * k.val + (x 0).val := by
  have hx : x = fun | ⟨0, _⟩ => x 0 := funext fun a => match a with | ⟨0, _⟩ => rfl
  rw [hx]
  exact (show ∀ (k : Fin k3_t3_loop.trips) (y : Fin 16), (k3_pay6 (iota .scVector S16 32 [0] iota_S16_d0_w32_scVector) k (fun | ⟨0, _⟩ => y)).toNat = 16 * k.val + y.val
    by decide +kernel) k (x 0)
/-- Block 1 of the buffer of gathered rows, as the tile addresses it. -/
abbrev slab1 : Memref sig .scVector .vmem S128x128 .f32 :=
  ((bufM).slice (Rect.unit (s := S4x128x128) ![1, 0, 0] S1x128x128.size inb_S4x128x128_S1x128x128_1_0_0) (fun _ => rfl)).squeeze S128x128 squeezes_S1x128x128_S128x128

/-- Before trip `k` of the loop over block 1: its first `16 k` rows are marked. -/
def I3 (G : S128x128.Idx → F .f32) (w : ℕ → BitVec 32) (g : Buf (Elt F) ((thr d L).loc cc3_scratch1)) (k : ℕ) (_ : BitVec 32) : sProp 𝕄 :=
  iprop((∃ f : Buf (Elt F) ((slab1).view.loc (thr d L)), ⌜∀ j : S128x128.Idx, (slab1).view.read (Elt F) f j = marked G w 128 k j⌝
      ∗ (slab1).view.loc (thr d L) ↦[(slab1).view.set]{fullShare} f)
    ∗ (selM).view.loc (thr d L) ↦{fullShare} g)

/-- One trip over block 1 marks sixteen more rows. -/
theorem trip3 (G : S128x128.Idx → F .f32) (w : ℕ → BitVec 32) (g : Buf (Elt F) ((thr d L).loc cc3_scratch1))
    (hg : ∀ x : S512.Idx, (selM).view.read (Elt F) g x = halfOf (w (x 0).val)) (v2 : BitVec 32) (k : Fin k3_t3_loop.trips) (acc : BitVec 32) :
    (I3 (F := F) d L G w g k.val acc) ⊢ wp frame (wpE (defs₀ (F := F)) 𝒱₀ (thr d L) none) Set.univ
      (k3_t3_body (F := F) L tblM (Memref.isWhole_whole _) idsM (Memref.isWhole_whole _) outM (Memref.isWhole_whole _)
        rowM (Memref.isWhole_whole _) selM (Memref.isWhole_whole _) bufM (Memref.isWhole_whole _)
        cc3_scratch3 cc3_scratch4 cc3_scratch5 cc3_scratch6 cc3_scratch7 cc3_scratch8 cc3_scratch9 cc3_scratch10 cc3_scoped0
        v2 (iota .scVector S16 32 [0] iota_S16_d0_w32_scVector) k3_pay3 k acc)
      (fun acc' => I3 (F := F) d L G w g (k.val + 1) acc') := by
  have hchk : k3_chk2 k3_pay3 (k3_pay6 (iota .scVector S16 32 [0] iota_S16_d0_w32_scVector) k) := by
    refine Fin.forall_fin_two.mpr ⟨fun x => ?_, fun x => ?_⟩
    · have := rowIdx1 k x
      have hk : k.val < 8 := k.isLt
      have hx : (x 0).val < 16 := (x 0).isLt
      show (k3_pay6 (iota .scVector S16 32 [0] iota_S16_d0_w32_scVector) k x).toNat < 128
      omega
    · show (k3_pay3 x).toNat < 128
      rw [laneIdx_apply]; omega
  unfold k3_t3_body
  unfold I3
  iintro ⟨⟨%f, %hf, Hb⟩, Hs⟩
  sl_exec
  have hset : ((slab1).access (.whole S128x128)).set = (slab1).view.set := access_set slab1
  ihave Hb' := (Entails.of_eq (show ((slab1).view.loc (thr d L) ↦[(slab1).view.set]{fullShare} f : sProp 𝕄)
      = ((slab1).access (.whole S128x128)).loc (thr d L) ↦[((slab1).access (.whole S128x128)).set]{fullShare} f by rw [hset])) $$ Hb
  iapply (SparseCore.wp_vectorStoreIdx 𝒱₀ (thr d L) none Set.univ (base := slab1)) $$ Hb'
  iintro Hb'
  sl_exec
  sl_step
  isplitl [Hb']
  · iexists _
    isplitr
    swap
    · iapply (Entails.of_eq (show (((slab1).access (.whole S128x128)).loc (thr d L) ↦[((slab1).access (.whole S128x128)).set]{fullShare} _ : sProp 𝕄)
        = (slab1).view.loc (thr d L) ↦[(slab1).view.set]{fullShare} _ by rw [hset]))
      iexact Hb'
    ipureintro
    exact slab_marked slab1 f G w 128 k.val _ _ _ (rowIdx1 k) laneIdx_apply _ (fun x => by
      have hx : (x 0).val < 16 := (x 0).isLt
      have hk : k.val < 8 := k.isLt
      have := loaded16 (F := F) (selM).view g (k3_off5 k) (16 * k.val + 128) (k3_off5_eq k) (k3_off5_inb k) x
        (fun | ⟨0, _⟩ => ⟨16 * k.val + 128 + (x 0).val, by show _ < 512; omega⟩) rfl
      show FloatOps.sitofp .f32 _ = _
      rw [this, hg]
      congr 3
      show 16 * k.val + 128 + (x 0).val = 128 + (16 * k.val + (x 0).val)
      omega) hf
  · iexact Hs

theorem rowIdx2 (k : Fin k3_t4_loop.trips) (x : S16.Idx) :
    (k3_pay8 (iota .scVector S16 32 [0] iota_S16_d0_w32_scVector) k x).toNat = 16 * k.val + (x 0).val := by
  have hx : x = fun | ⟨0, _⟩ => x 0 := funext fun a => match a with | ⟨0, _⟩ => rfl
  rw [hx]
  exact (show ∀ (k : Fin k3_t4_loop.trips) (y : Fin 16), (k3_pay8 (iota .scVector S16 32 [0] iota_S16_d0_w32_scVector) k (fun | ⟨0, _⟩ => y)).toNat = 16 * k.val + y.val
    by decide +kernel) k (x 0)
/-- Block 2 of the buffer of gathered rows, as the tile addresses it. -/
abbrev slab2 : Memref sig .scVector .vmem S128x128 .f32 :=
  ((bufM).slice (Rect.unit (s := S4x128x128) ![2, 0, 0] S1x128x128.size inb_S4x128x128_S1x128x128_2_0_0) (fun _ => rfl)).squeeze S128x128 squeezes_S1x128x128_S128x128

/-- Before trip `k` of the loop over block 2: its first `16 k` rows are marked. -/
def I4 (G : S128x128.Idx → F .f32) (w : ℕ → BitVec 32) (g : Buf (Elt F) ((thr d L).loc cc3_scratch1)) (k : ℕ) (_ : BitVec 32) : sProp 𝕄 :=
  iprop((∃ f : Buf (Elt F) ((slab2).view.loc (thr d L)), ⌜∀ j : S128x128.Idx, (slab2).view.read (Elt F) f j = marked G w 256 k j⌝
      ∗ (slab2).view.loc (thr d L) ↦[(slab2).view.set]{fullShare} f)
    ∗ (selM).view.loc (thr d L) ↦{fullShare} g)

/-- One trip over block 2 marks sixteen more rows. -/
theorem trip4 (G : S128x128.Idx → F .f32) (w : ℕ → BitVec 32) (g : Buf (Elt F) ((thr d L).loc cc3_scratch1))
    (hg : ∀ x : S512.Idx, (selM).view.read (Elt F) g x = halfOf (w (x 0).val)) (v2 : BitVec 32) (k : Fin k3_t4_loop.trips) (acc : BitVec 32) :
    (I4 (F := F) d L G w g k.val acc) ⊢ wp frame (wpE (defs₀ (F := F)) 𝒱₀ (thr d L) none) Set.univ
      (k3_t4_body (F := F) L tblM (Memref.isWhole_whole _) idsM (Memref.isWhole_whole _) outM (Memref.isWhole_whole _)
        rowM (Memref.isWhole_whole _) selM (Memref.isWhole_whole _) bufM (Memref.isWhole_whole _)
        cc3_scratch3 cc3_scratch4 cc3_scratch5 cc3_scratch6 cc3_scratch7 cc3_scratch8 cc3_scratch9 cc3_scratch10 cc3_scoped0
        v2 (iota .scVector S16 32 [0] iota_S16_d0_w32_scVector) k3_pay3 k acc)
      (fun acc' => I4 (F := F) d L G w g (k.val + 1) acc') := by
  have hchk : k3_chk3 k3_pay3 (k3_pay8 (iota .scVector S16 32 [0] iota_S16_d0_w32_scVector) k) := by
    refine Fin.forall_fin_two.mpr ⟨fun x => ?_, fun x => ?_⟩
    · have := rowIdx2 k x
      have hk : k.val < 8 := k.isLt
      have hx : (x 0).val < 16 := (x 0).isLt
      show (k3_pay8 (iota .scVector S16 32 [0] iota_S16_d0_w32_scVector) k x).toNat < 128
      omega
    · show (k3_pay3 x).toNat < 128
      rw [laneIdx_apply]; omega
  unfold k3_t4_body
  unfold I4
  iintro ⟨⟨%f, %hf, Hb⟩, Hs⟩
  sl_exec
  have hset : ((slab2).access (.whole S128x128)).set = (slab2).view.set := access_set slab2
  ihave Hb' := (Entails.of_eq (show ((slab2).view.loc (thr d L) ↦[(slab2).view.set]{fullShare} f : sProp 𝕄)
      = ((slab2).access (.whole S128x128)).loc (thr d L) ↦[((slab2).access (.whole S128x128)).set]{fullShare} f by rw [hset])) $$ Hb
  iapply (SparseCore.wp_vectorStoreIdx 𝒱₀ (thr d L) none Set.univ (base := slab2)) $$ Hb'
  iintro Hb'
  sl_exec
  sl_step
  isplitl [Hb']
  · iexists _
    isplitr
    swap
    · iapply (Entails.of_eq (show (((slab2).access (.whole S128x128)).loc (thr d L) ↦[((slab2).access (.whole S128x128)).set]{fullShare} _ : sProp 𝕄)
        = (slab2).view.loc (thr d L) ↦[(slab2).view.set]{fullShare} _ by rw [hset]))
      iexact Hb'
    ipureintro
    exact slab_marked slab2 f G w 256 k.val _ _ _ (rowIdx2 k) laneIdx_apply _ (fun x => by
      have hx : (x 0).val < 16 := (x 0).isLt
      have hk : k.val < 8 := k.isLt
      have := loaded16 (F := F) (selM).view g (k3_off6 k) (16 * k.val + 256) (k3_off6_eq k) (k3_off6_inb k) x
        (fun | ⟨0, _⟩ => ⟨16 * k.val + 256 + (x 0).val, by show _ < 512; omega⟩) rfl
      show FloatOps.sitofp .f32 _ = _
      rw [this, hg]
      congr 3
      show 16 * k.val + 256 + (x 0).val = 256 + (16 * k.val + (x 0).val)
      omega) hf
  · iexact Hs

theorem rowIdx3 (k : Fin k3_t5_loop.trips) (x : S16.Idx) :
    (k3_pay10 (iota .scVector S16 32 [0] iota_S16_d0_w32_scVector) k x).toNat = 16 * k.val + (x 0).val := by
  have hx : x = fun | ⟨0, _⟩ => x 0 := funext fun a => match a with | ⟨0, _⟩ => rfl
  rw [hx]
  exact (show ∀ (k : Fin k3_t5_loop.trips) (y : Fin 16), (k3_pay10 (iota .scVector S16 32 [0] iota_S16_d0_w32_scVector) k (fun | ⟨0, _⟩ => y)).toNat = 16 * k.val + y.val
    by decide +kernel) k (x 0)
/-- Block 3 of the buffer of gathered rows, as the tile addresses it. -/
abbrev slab3 : Memref sig .scVector .vmem S128x128 .f32 :=
  ((bufM).slice (Rect.unit (s := S4x128x128) ![3, 0, 0] S1x128x128.size inb_S4x128x128_S1x128x128_3_0_0) (fun _ => rfl)).squeeze S128x128 squeezes_S1x128x128_S128x128

/-- Before trip `k` of the loop over block 3: its first `16 k` rows are marked. -/
def I5 (G : S128x128.Idx → F .f32) (w : ℕ → BitVec 32) (g : Buf (Elt F) ((thr d L).loc cc3_scratch1)) (k : ℕ) (_ : BitVec 32) : sProp 𝕄 :=
  iprop((∃ f : Buf (Elt F) ((slab3).view.loc (thr d L)), ⌜∀ j : S128x128.Idx, (slab3).view.read (Elt F) f j = marked G w 384 k j⌝
      ∗ (slab3).view.loc (thr d L) ↦[(slab3).view.set]{fullShare} f)
    ∗ (selM).view.loc (thr d L) ↦{fullShare} g)

/-- One trip over block 3 marks sixteen more rows. -/
theorem trip5 (G : S128x128.Idx → F .f32) (w : ℕ → BitVec 32) (g : Buf (Elt F) ((thr d L).loc cc3_scratch1))
    (hg : ∀ x : S512.Idx, (selM).view.read (Elt F) g x = halfOf (w (x 0).val)) (v2 : BitVec 32) (k : Fin k3_t5_loop.trips) (acc : BitVec 32) :
    (I5 (F := F) d L G w g k.val acc) ⊢ wp frame (wpE (defs₀ (F := F)) 𝒱₀ (thr d L) none) Set.univ
      (k3_t5_body (F := F) L tblM (Memref.isWhole_whole _) idsM (Memref.isWhole_whole _) outM (Memref.isWhole_whole _)
        rowM (Memref.isWhole_whole _) selM (Memref.isWhole_whole _) bufM (Memref.isWhole_whole _)
        cc3_scratch3 cc3_scratch4 cc3_scratch5 cc3_scratch6 cc3_scratch7 cc3_scratch8 cc3_scratch9 cc3_scratch10 cc3_scoped0
        v2 (iota .scVector S16 32 [0] iota_S16_d0_w32_scVector) k3_pay3 k acc)
      (fun acc' => I5 (F := F) d L G w g (k.val + 1) acc') := by
  have hchk : k3_chk4 k3_pay3 (k3_pay10 (iota .scVector S16 32 [0] iota_S16_d0_w32_scVector) k) := by
    refine Fin.forall_fin_two.mpr ⟨fun x => ?_, fun x => ?_⟩
    · have := rowIdx3 k x
      have hk : k.val < 8 := k.isLt
      have hx : (x 0).val < 16 := (x 0).isLt
      show (k3_pay10 (iota .scVector S16 32 [0] iota_S16_d0_w32_scVector) k x).toNat < 128
      omega
    · show (k3_pay3 x).toNat < 128
      rw [laneIdx_apply]; omega
  unfold k3_t5_body
  unfold I5
  iintro ⟨⟨%f, %hf, Hb⟩, Hs⟩
  sl_exec
  have hset : ((slab3).access (.whole S128x128)).set = (slab3).view.set := access_set slab3
  ihave Hb' := (Entails.of_eq (show ((slab3).view.loc (thr d L) ↦[(slab3).view.set]{fullShare} f : sProp 𝕄)
      = ((slab3).access (.whole S128x128)).loc (thr d L) ↦[((slab3).access (.whole S128x128)).set]{fullShare} f by rw [hset])) $$ Hb
  iapply (SparseCore.wp_vectorStoreIdx 𝒱₀ (thr d L) none Set.univ (base := slab3)) $$ Hb'
  iintro Hb'
  sl_exec
  sl_step
  isplitl [Hb']
  · iexists _
    isplitr
    swap
    · iapply (Entails.of_eq (show (((slab3).access (.whole S128x128)).loc (thr d L) ↦[((slab3).access (.whole S128x128)).set]{fullShare} _ : sProp 𝕄)
        = (slab3).view.loc (thr d L) ↦[(slab3).view.set]{fullShare} _ by rw [hset]))
      iexact Hb'
    ipureintro
    exact slab_marked slab3 f G w 384 k.val _ _ _ (rowIdx3 k) laneIdx_apply _ (fun x => by
      have hx : (x 0).val < 16 := (x 0).isLt
      have hk : k.val < 8 := k.isLt
      have := loaded16 (F := F) (selM).view g (k3_off7 k) (16 * k.val + 384) (k3_off7_eq k) (k3_off7_inb k) x
        (fun | ⟨0, _⟩ => ⟨16 * k.val + 384 + (x 0).val, by show _ < 512; omega⟩) rfl
      show FloatOps.sitofp .f32 _ = _
      rw [this, hg]
      congr 3
      show 16 * k.val + 384 + (x 0).val = 384 + (16 * k.val + (x 0).val)
      omega) hf
  · iexact Hs

/-! ## The tile -/

/-- The table, as the gathers address it. -/
abbrev tblAll : Memref sig .scVector .hbm S50176x128 .f32 :=
  (tblM).slice (Rect.unit (s := S50176x128) ![0, 0] S50176x128.size inb_S50176x128_S50176x128_0_0) (fun _ => rfl)
/-- Block 0 of the tile's rows of the result, and the list of its rows of the table. -/
abbrev out0 (L : grid3.Coords) : Memref sig .scVector .hbm S128x128 .f32 :=
  (outM).slice (Rect.unit (s := S16384x128) (k3_off4 L 0#32) S128x128.size (k3_off4_inb L 0)) (fun _ => rfl)
abbrev list0 : Memref sig .scVector .vmem S128 .i32 :=
  (rowM).slice (Rect.unit (s := S512) ![0] S128.size inb_S512_S128_0) (fun _ => rfl)
/-- Block 1 of the tile's rows of the result, and the list of its rows of the table. -/
abbrev out1 (L : grid3.Coords) : Memref sig .scVector .hbm S128x128 .f32 :=
  (outM).slice (Rect.unit (s := S16384x128) (k3_off4 L 128#32) S128x128.size (k3_off4_inb L 1)) (fun _ => rfl)
abbrev list1 : Memref sig .scVector .vmem S128 .i32 :=
  (rowM).slice (Rect.unit (s := S512) ![128] S128.size inb_S512_S128_128) (fun _ => rfl)
/-- Block 2 of the tile's rows of the result, and the list of its rows of the table. -/
abbrev out2 (L : grid3.Coords) : Memref sig .scVector .hbm S128x128 .f32 :=
  (outM).slice (Rect.unit (s := S16384x128) (k3_off4 L 256#32) S128x128.size (k3_off4_inb L 2)) (fun _ => rfl)
abbrev list2 : Memref sig .scVector .vmem S128 .i32 :=
  (rowM).slice (Rect.unit (s := S512) ![256] S128.size inb_S512_S128_256) (fun _ => rfl)
/-- Block 3 of the tile's rows of the result, and the list of its rows of the table. -/
abbrev out3 (L : grid3.Coords) : Memref sig .scVector .hbm S128x128 .f32 :=
  (outM).slice (Rect.unit (s := S16384x128) (k3_off4 L 384#32) S128x128.size (k3_off4_inb L 3)) (fun _ => rfl)
abbrev list3 : Memref sig .scVector .vmem S128 .i32 :=
  (rowM).slice (Rect.unit (s := S512) ![384] S128.size inb_S512_S128_384) (fun _ => rfl)

/-- The tile's `n`-th id. -/
def idW (ids : S16384.Idx → BitVec 32) (n : ℕ) : BitVec 32 :=
  if h : base L + n < 16384 then ids (fun | ⟨0, _⟩ => ⟨base L + n, h⟩) else 0

theorem idW_lt (ids : S16384.Idx → BitVec 32) (h : ∀ x, (ids x).toNat < 100000) (n : ℕ) : (idW L ids n).toNat < 100000 := by
  unfold idW
  split
  · exact h _
  · decide

/-- All of the table, as the gathers address it, is the table. -/
theorem tblAll_read (f : (tblM).view.ty.Contents (Elt F)) : (tblAll).view.read (Elt F) f = f :=
  Memref.read_access_unit_zero (Elt F) main_v22_scv (funext fun a => by match a with | 0 => rfl | 1 => rfl) _ f

/-- The fetched ids are the tile's part of the list. -/
theorem fetched_ids (ids : (idsM).view.ty.Contents (Elt F)) (x : S512.Idx) :
    ((idsM).slice (Rect.unit (s := S16384) (k3_off1 L) S512.size (k3_off1_inb L)) (fun _ => rfl)).view.read (Elt F) ids x
      = idW L ids (x 0).val := by
  have := lt0 L
  have := lt1 L
  have hx : (x 0).val < 512 := (x 0).isLt
  unfold idW
  rw [dif_pos (show base L + (x 0).val < 16384 by unfold base; omega)]
  refine congrArg ids (funext fun a => Fin.ext ?_)
  match a with
  | ⟨0, _⟩ =>
    show k3_off1 L 0 + 1 * (x 0).val = base L + (x 0).val
    rw [k3_off1_eq L]
    show base L + 1 * (x 0).val = _
    omega

theorem ldiv : 4 ∣ S512.size 0 := ⟨128, rfl⟩
theorem bdiv : 4 ∣ S4x128x128.size 0 := ⟨1, rfl⟩

theorem list0_set : (list0).view.set = (Rect.part (s := S512) (a₀ := 0) ldiv 0).set := by
  refine (View.set_slice_whole cc3_scratch0 _).trans (congrArg (fun r : Rect S512 => r.set) ?_)
  unfold Rect.part Rect.block
  congr 1 <;> funext a
  · match a with
    | 0 => rfl
  · match a with
    | 0 => rfl
theorem slab0_set : (slab0).view.set = (Rect.part (s := S4x128x128) (a₀ := 0) bdiv 0).set := by
  refine (View.set_reshape _ _).trans ((View.set_slice_whole cc3_scratch2 _).trans (congrArg (fun r : Rect S4x128x128 => r.set) ?_))
  unfold Rect.part Rect.block
  congr 1 <;> funext a
  · match a with
    | 0 => rfl
    | 1 => rfl
    | 2 => rfl
  · match a with
    | 0 => rfl
    | 1 => rfl
    | 2 => rfl
theorem list1_set : (list1).view.set = (Rect.part (s := S512) (a₀ := 0) ldiv 1).set := by
  refine (View.set_slice_whole cc3_scratch0 _).trans (congrArg (fun r : Rect S512 => r.set) ?_)
  unfold Rect.part Rect.block
  congr 1 <;> funext a
  · match a with
    | 0 => rfl
  · match a with
    | 0 => rfl
theorem slab1_set : (slab1).view.set = (Rect.part (s := S4x128x128) (a₀ := 0) bdiv 1).set := by
  refine (View.set_reshape _ _).trans ((View.set_slice_whole cc3_scratch2 _).trans (congrArg (fun r : Rect S4x128x128 => r.set) ?_))
  unfold Rect.part Rect.block
  congr 1 <;> funext a
  · match a with
    | 0 => rfl
    | 1 => rfl
    | 2 => rfl
  · match a with
    | 0 => rfl
    | 1 => rfl
    | 2 => rfl
theorem list2_set : (list2).view.set = (Rect.part (s := S512) (a₀ := 0) ldiv 2).set := by
  refine (View.set_slice_whole cc3_scratch0 _).trans (congrArg (fun r : Rect S512 => r.set) ?_)
  unfold Rect.part Rect.block
  congr 1 <;> funext a
  · match a with
    | 0 => rfl
  · match a with
    | 0 => rfl
theorem slab2_set : (slab2).view.set = (Rect.part (s := S4x128x128) (a₀ := 0) bdiv 2).set := by
  refine (View.set_reshape _ _).trans ((View.set_slice_whole cc3_scratch2 _).trans (congrArg (fun r : Rect S4x128x128 => r.set) ?_))
  unfold Rect.part Rect.block
  congr 1 <;> funext a
  · match a with
    | 0 => rfl
    | 1 => rfl
    | 2 => rfl
  · match a with
    | 0 => rfl
    | 1 => rfl
    | 2 => rfl
theorem list3_set : (list3).view.set = (Rect.part (s := S512) (a₀ := 0) ldiv 3).set := by
  refine (View.set_slice_whole cc3_scratch0 _).trans (congrArg (fun r : Rect S512 => r.set) ?_)
  unfold Rect.part Rect.block
  congr 1 <;> funext a
  · match a with
    | 0 => rfl
  · match a with
    | 0 => rfl
theorem slab3_set : (slab3).view.set = (Rect.part (s := S4x128x128) (a₀ := 0) bdiv 3).set := by
  refine (View.set_reshape _ _).trans ((View.set_slice_whole cc3_scratch2 _).trans (congrArg (fun r : Rect S4x128x128 => r.set) ?_))
  unfold Rect.part Rect.block
  congr 1 <;> funext a
  · match a with
    | 0 => rfl
    | 1 => rfl
    | 2 => rfl
  · match a with
    | 0 => rfl
    | 1 => rfl
    | 2 => rfl

/-- The four lists are the four quarters of the row buffer. -/
theorem lists_split (f : Buf (Elt F) ((thr d L).loc cc3_scratch0)) :
    ((rowM).view.loc (thr d L) ↦{fullShare} f : sProp 𝕄)
      = iprop(((list0).view.loc (thr d L) ↦[(list0).view.set]{fullShare} f) ∗ ((list1).view.loc (thr d L) ↦[(list1).view.set]{fullShare} f)
        ∗ ((list2).view.loc (thr d L) ↦[(list2).view.set]{fullShare} f) ∗ ((list3).view.loc (thr d L) ↦[(list3).view.set]{fullShare} f)) := by
  have h := pointsTo_biUnion (ℓ := (thr d L).loc cc3_scratch0) (q := fullShare) (f := f) (Val := Elt F) (U := UU) (Ix := HIx 2) (Name := ℕ) (Lvl := ℕ) Finset.univ
    (fun r : Fin 4 => (Rect.part (s := S512) (a₀ := 0) ldiv r).set) (fun i _ j _ h => Rect.part_disjoint ldiv h)
  rw [bigSep_four] at h
  have hu : (Finset.univ : Finset (Fin 4)).biUnion (fun r => (Rect.part (s := S512) (a₀ := 0) ldiv r).set) = Finset.univ := Rect.biUnion_part ldiv
  rw [list0_set, list1_set, list2_set, list3_set]
  exact (congrArg (fun I => ((thr d L).loc cc3_scratch0 ↦[I]{fullShare} f : sProp 𝕄)) hu).symm.trans h

/-- The four blocks are the four quarters of the gather buffer. -/
theorem slabs_split (f : Buf (Elt F) ((thr d L).loc cc3_scratch2)) :
    ((bufM).view.loc (thr d L) ↦{fullShare} f : sProp 𝕄)
      = iprop(((slab0).view.loc (thr d L) ↦[(slab0).view.set]{fullShare} f) ∗ ((slab1).view.loc (thr d L) ↦[(slab1).view.set]{fullShare} f)
        ∗ ((slab2).view.loc (thr d L) ↦[(slab2).view.set]{fullShare} f) ∗ ((slab3).view.loc (thr d L) ↦[(slab3).view.set]{fullShare} f)) := by
  have h := pointsTo_biUnion (ℓ := (thr d L).loc cc3_scratch2) (q := fullShare) (f := f) (Val := Elt F) (U := UU) (Ix := HIx 2) (Name := ℕ) (Lvl := ℕ) Finset.univ
    (fun r : Fin 4 => (Rect.part (s := S4x128x128) (a₀ := 0) bdiv r).set) (fun i _ j _ h => Rect.part_disjoint bdiv h)
  rw [bigSep_four] at h
  have hu : (Finset.univ : Finset (Fin 4)).biUnion (fun r => (Rect.part (s := S4x128x128) (a₀ := 0) bdiv r).set) = Finset.univ := Rect.biUnion_part bdiv
  rw [slab0_set, slab1_set, slab2_set, slab3_set]
  exact (congrArg (fun I => ((thr d L).loc cc3_scratch2 ↦[I]{fullShare} f : sProp 𝕄)) hu).symm.trans h

/-- Four blocks at any contents are the gather buffer at some. -/
theorem slabs_join (f0 f1 f2 f3 : Buf (Elt F) ((thr d L).loc cc3_scratch2)) :
    (iprop(((slab0).view.loc (thr d L) ↦[(slab0).view.set]{fullShare} f0) ∗ ((slab1).view.loc (thr d L) ↦[(slab1).view.set]{fullShare} f1)
        ∗ ((slab2).view.loc (thr d L) ↦[(slab2).view.set]{fullShare} f2) ∗ ((slab3).view.loc (thr d L) ↦[(slab3).view.set]{fullShare} f3)) : sProp 𝕄)
      ⊢ iprop(∃ f, (bufM).view.loc (thr d L) ↦{fullShare} f) := by
  iintro H
  have h := pointsTo_biUnion_join (ℓ := (thr d L).loc cc3_scratch2) (q := fullShare) (Val := Elt F) (U := UU) (Ix := HIx 2) (Name := ℕ) (Lvl := ℕ) Finset.univ
    (fun r : Fin 4 => (Rect.part (s := S4x128x128) (a₀ := 0) bdiv r).set)
    (fun r : Fin 4 => match r with | 0 => f0 | 1 => f1 | 2 => f2 | 3 => f3) f0 (fun i _ j _ h => Rect.part_disjoint bdiv h)
  rw [bigSep_four] at h
  have hu : (Finset.univ : Finset (Fin 4)).biUnion (fun r => (Rect.part (s := S4x128x128) (a₀ := 0) bdiv r).set) = Finset.univ := Rect.biUnion_part bdiv
  rw [hu] at h
  rw [slab0_set, slab1_set, slab2_set, slab3_set]
  ihave H' := h $$ H
  icases H' with ⟨%g, -, H⟩
  iexists g; iexact H

set_option maxHeartbeats 8000000 in
/-- The tile's run: from its share of the table and of the ids, its scratch and its four blocks of the result, to
    those blocks holding the rows of its ids. -/
theorem tile_core (q0 q1 q2 q3 qi : PosShare TreeShare) (tbl : Buf (Elt F) (tblLoc d)) (ids : Buf (Elt F) (idsLoc d))
    (hids : ∀ x, (ids x).toNat < 100000)
    (O : CellTallies nD τ sig (HIx 2)) (W : Waits sig (HIx 2)) (hO : ∀ g, O g none = 0)
    (fo0 fo1 fo2 fo3 : Buf (Elt F) (outLoc d)) (fr : Buf (Elt F) ((thr d L).loc cc3_scratch0))
    (fs : Buf (Elt F) ((thr d L).loc cc3_scratch1)) (fb : Buf (Elt F) ((thr d L).loc cc3_scratch2)) :
    (iprop(levAts (SC (F := F)).L (SC (F := F)).lev
      ∗ ((tblAll).view.loc (thr d L) ↦[(tblAll).view.set]{q0} tbl)
      ∗ ((tblAll).view.loc (thr d L) ↦[(tblAll).view.set]{q1} tbl)
      ∗ ((tblAll).view.loc (thr d L) ↦[(tblAll).view.set]{q2} tbl)
      ∗ ((tblAll).view.loc (thr d L) ↦[(tblAll).view.set]{q3} tbl)
      ∗ ((idsM).view.loc (thr d L) ↦{qi} ids)
      ∗ ((rowM).view.loc (thr d L) ↦{fullShare} fr)
      ∗ ((selM).view.loc (thr d L) ↦{fullShare} fs)
      ∗ ((slab0).view.loc (thr d L) ↦[(slab0).view.set]{fullShare} fb)
      ∗ ((slab1).view.loc (thr d L) ↦[(slab1).view.set]{fullShare} fb)
      ∗ ((slab2).view.loc (thr d L) ↦[(slab2).view.set]{fullShare} fb)
      ∗ ((slab3).view.loc (thr d L) ↦[(slab3).view.set]{fullShare} fb)
      ∗ ((out0 L).view.loc (thr d L) ↦[(out0 L).view.set]{fullShare} fo0)
      ∗ ((out1 L).view.loc (thr d L) ↦[(out1 L).view.set]{fullShare} fo1)
      ∗ ((out2 L).view.loc (thr d L) ↦[(out2 L).view.set]{fullShare} fo2)
      ∗ ((out3 L).view.loc (thr d L) ↦[(out3 L).view.set]{fullShare} fo3)
      ∗ semVal (thr d L, .dma cc3_scoped0.sem) 0
      ∗ semVal (thr d L, .dma cc3_scratch3.sem) 0
      ∗ semVal (thr d L, .dma cc3_scratch4.sem) 0
      ∗ semVal (thr d L, .dma cc3_scratch5.sem) 0
      ∗ semVal (thr d L, .dma cc3_scratch6.sem) 0
      ∗ semVal (thr d L, .dma cc3_scratch7.sem) 0
      ∗ semVal (thr d L, .dma cc3_scratch8.sem) 0
      ∗ semVal (thr d L, .dma cc3_scratch9.sem) 0
      ∗ semVal (thr d L, .dma cc3_scratch10.sem) 0
      ∗ owes (thr d L) O W) : sProp 𝕄)
      ⊢ wp frame (wpE (defs₀ (F := F)) 𝒱₀ (thr d L) none) Set.univ
          (cc3_gather_k (F := F) L tblM (Memref.isWhole_whole _) idsM (Memref.isWhole_whole _) outM (Memref.isWhole_whole _)
            rowM (Memref.isWhole_whole _) selM (Memref.isWhole_whole _) bufM (Memref.isWhole_whole _)
            cc3_scratch3 cc3_scratch4 cc3_scratch5 cc3_scratch6 cc3_scratch7 cc3_scratch8 cc3_scratch9 cc3_scratch10 cc3_scoped0)
          fun _ => (iprop((∃ g : Buf (Elt F) ((out0 L).view.loc (thr d L)), ⌜∀ j : S128x128.Idx, (out0 L).view.read (Elt F) g j = rowVal tbl (idW L ids (0 + (j 0).val)) (j 1)⌝ ∗ ((out0 L).view.loc (thr d L) ↦[(out0 L).view.set]{fullShare} g))
      ∗ (∃ g : Buf (Elt F) ((out1 L).view.loc (thr d L)), ⌜∀ j : S128x128.Idx, (out1 L).view.read (Elt F) g j = rowVal tbl (idW L ids (128 + (j 0).val)) (j 1)⌝ ∗ ((out1 L).view.loc (thr d L) ↦[(out1 L).view.set]{fullShare} g))
      ∗ (∃ g : Buf (Elt F) ((out2 L).view.loc (thr d L)), ⌜∀ j : S128x128.Idx, (out2 L).view.read (Elt F) g j = rowVal tbl (idW L ids (256 + (j 0).val)) (j 1)⌝ ∗ ((out2 L).view.loc (thr d L) ↦[(out2 L).view.set]{fullShare} g))
      ∗ (∃ g : Buf (Elt F) ((out3 L).view.loc (thr d L)), ⌜∀ j : S128x128.Idx, (out3 L).view.read (Elt F) g j = rowVal tbl (idW L ids (384 + (j 0).val)) (j 1)⌝ ∗ ((out3 L).view.loc (thr d L) ↦[(out3 L).view.set]{fullShare} g))
      ∗ (∃ g, (rowM).view.loc (thr d L) ↦{fullShare} g)
      ∗ (∃ g, (selM).view.loc (thr d L) ↦{fullShare} g)
      ∗ (∃ g, (slab0).view.loc (thr d L) ↦[(slab0).view.set]{fullShare} g)
      ∗ (∃ g, (slab1).view.loc (thr d L) ↦[(slab1).view.set]{fullShare} g)
      ∗ (∃ g, (slab2).view.loc (thr d L) ↦[(slab2).view.set]{fullShare} g)
      ∗ (∃ g, (slab3).view.loc (thr d L) ↦[(slab3).view.set]{fullShare} g)
      ∗ semVal (thr d L, .dma cc3_scoped0.sem) 0
      ∗ semVal (thr d L, .dma cc3_scratch3.sem) 0
      ∗ semVal (thr d L, .dma cc3_scratch4.sem) 0
      ∗ semVal (thr d L, .dma cc3_scratch5.sem) 0
      ∗ semVal (thr d L, .dma cc3_scratch6.sem) 0
      ∗ semVal (thr d L, .dma cc3_scratch7.sem) 0
      ∗ semVal (thr d L, .dma cc3_scratch8.sem) 0
      ∗ semVal (thr d L, .dma cc3_scratch9.sem) 0
      ∗ semVal (thr d L, .dma cc3_scratch10.sem) 0
      ∗ (∃ W', ⌜∀ p ∈ W', p ∈ W ∨ p.2 = none⌝ ∗ owes (thr d L) O W')) : sProp 𝕄) := by
  have hN : ∀ h : S50176x128.Gathers 0 S128x128, ∑ j, ((slab0).slice (S128x128.rowRect h.axis' j) (S128x128.stride_rowRect h.axis' j)).view.dmaCredit
      = (slab0).view.dmaCredit := by decide
  rw [cc3_gather_k_eq_skeleton]; unfold cc3_gather_k_skel
  iintro ⟨#Hlv, Ht0, Ht1, Ht2, Ht3, Hi, Hr, Hs, Hb0, Hb1, Hb2, Hb3, Ho0, Ho1, Ho2, Ho3, HsI, HsA0, HsA1, HsA2, HsA3, HsB0, HsB1, HsB2, HsB3, HO⟩
  ihave Hmw := (show levAts (SC (F := F)).L (SC (F := F)).lev ⊢ Transfers.MayWaits (thr d L) (default : HIx 2) O from
    (SC (F := F)).mayWaits_none (thr := thr d L) hO) $$ Hlv
  rw [wp_bind, k3_part1_eq_skeleton]; unfold k3_part1_skel
  sl_exec
  set w : ℕ → BitVec 32 := idW L ids with hw
  iapply (Scf.wp_for_bind frame (wpE (defs₀ (F := F)) 𝒱₀ (thr d L) none) Set.univ _ _ _ k3_t1_ok _ _
    (I1 (F := F) d L w) (trip1 (F := F) d L w)) $$ [Hr Hs]
  · unfold I1
    isplitl [Hr]
    · iexists _; isplitr
      swap; · iexact Hr
      ipureintro; intro x
      rw [View.read_write_univ]
      unfold rowsUpTo
      rw [if_neg (by omega)]
      exact fetched_ids L ids x
    · iexists _; isplitr
      swap; · iexact Hs
      ipureintro; intro x hx; omega
  iintro %acc HI
  unfold I1
  icases HI with ⟨⟨%fl, %hfl, Hr⟩, %fg, %hfg, Hs⟩
  have hlist : ∀ x : S512.Idx, (rowM).view.read (Elt F) fl x = rowOf (w (x 0).val) := fun x => by
    have hx : (x 0).val < 512 := (x 0).isLt
    rw [hfl]; unfold rowsUpTo
    exact if_pos (by show _ < 16 * 32; omega)
  have hsel : ∀ x : S512.Idx, (selM).view.read (Elt F) fg x = halfOf (w (x 0).val) := fun x => by
    have hx : (x 0).val < 512 := (x 0).isLt
    exact hfg x (by show _ < 16 * 32; omega)
  have hl0 : ∀ y : S128.Idx, (list0).view.read (Elt F) fl y = rowOf (w (0 + (y 0).val)) := fun y => by
    have hy : (y 0).val < 128 := (y 0).isLt
    rw [slice_read rowM fl ![0] 0 rfl inb_S512_S128_0 (fun _ => rfl) y (fun | ⟨0, _⟩ => ⟨0 + (y 0).val, by show _ < 512; omega⟩) rfl]
    exact hlist _
  have hin0 : ∀ y : S128.Idx, ((list0).view.read (Elt F) fl y).toNat < S50176x128.size gathers_S50176x128_S128x128.axis := fun y => by
    rw [hl0, rowOf_toNat _ (idW_lt L ids hids _)]
    exact Nat.mod_lt _ (by decide)
  have hl1 : ∀ y : S128.Idx, (list1).view.read (Elt F) fl y = rowOf (w (128 + (y 0).val)) := fun y => by
    have hy : (y 0).val < 128 := (y 0).isLt
    rw [slice_read rowM fl ![128] 128 rfl inb_S512_S128_128 (fun _ => rfl) y (fun | ⟨0, _⟩ => ⟨128 + (y 0).val, by show _ < 512; omega⟩) rfl]
    exact hlist _
  have hin1 : ∀ y : S128.Idx, ((list1).view.read (Elt F) fl y).toNat < S50176x128.size gathers_S50176x128_S128x128.axis := fun y => by
    rw [hl1, rowOf_toNat _ (idW_lt L ids hids _)]
    exact Nat.mod_lt _ (by decide)
  have hl2 : ∀ y : S128.Idx, (list2).view.read (Elt F) fl y = rowOf (w (256 + (y 0).val)) := fun y => by
    have hy : (y 0).val < 128 := (y 0).isLt
    rw [slice_read rowM fl ![256] 256 rfl inb_S512_S128_256 (fun _ => rfl) y (fun | ⟨0, _⟩ => ⟨256 + (y 0).val, by show _ < 512; omega⟩) rfl]
    exact hlist _
  have hin2 : ∀ y : S128.Idx, ((list2).view.read (Elt F) fl y).toNat < S50176x128.size gathers_S50176x128_S128x128.axis := fun y => by
    rw [hl2, rowOf_toNat _ (idW_lt L ids hids _)]
    exact Nat.mod_lt _ (by decide)
  have hl3 : ∀ y : S128.Idx, (list3).view.read (Elt F) fl y = rowOf (w (384 + (y 0).val)) := fun y => by
    have hy : (y 0).val < 128 := (y 0).isLt
    rw [slice_read rowM fl ![384] 384 rfl inb_S512_S128_384 (fun _ => rfl) y (fun | ⟨0, _⟩ => ⟨384 + (y 0).val, by show _ < 512; omega⟩) rfl]
    exact hlist _
  have hin3 : ∀ y : S128.Idx, ((list3).view.read (Elt F) fl y).toNat < S50176x128.size gathers_S50176x128_S128x128.axis := fun y => by
    rw [hl3, rowOf_toNat _ (idW_lt L ids hids _)]
    exact Nat.mod_lt _ (by decide)
  ihave Hrs := (Entails.of_eq (lists_split (F := F) d L fl)) $$ Hr
  icases Hrs with ⟨Hr0, Hr1, Hr2, Hr3⟩
  sl_exec
  set G0 : S128x128.Idx → F .f32 := SparseCore.gatherPayload gathers_S50176x128_S128x128 ((tblAll).view.read (Elt F) tbl)
    (SparseCore.rows ((list0).view.read (Elt F) fl) rfl hin0) with hG0
  have hG0' : ∀ j : S128x128.Idx, G0 j = tblAt tbl (rowOf (w (0 + (j 0).val))).toNat (j 1) := fun j => by
    rw [hG0, gather_at _ _ rfl hin0 j (fun | ⟨0, _⟩ => j 0) rfl, tblAll_read, hl0]
  iapply (Scf.wp_for_bind frame (wpE (defs₀ (F := F)) 𝒱₀ (thr d L) none) Set.univ _ _ _ k3_t2_ok _ _
    (I2 (F := F) d L G0 w fg) (trip2 (F := F) d L G0 w fg hsel _)) $$ [Hb0 Hs]
  · unfold I2
    isplitl [Hb0]
    · iexists _; isplitr
      swap; · iexact Hb0
      ipureintro; intro j
      unfold marked
      rw [if_neg (by omega)]
      exact slab_read slab0 _ _ j
    · iexact Hs
  iintro %acc0 HI
  unfold I2
  icases HI with ⟨⟨%fb0, %hfb0, Hb0⟩, Hs⟩
  sl_exec
  set G1 : S128x128.Idx → F .f32 := SparseCore.gatherPayload gathers_S50176x128_S128x128 ((tblAll).view.read (Elt F) tbl)
    (SparseCore.rows ((list1).view.read (Elt F) fl) rfl hin1) with hG1
  have hG1' : ∀ j : S128x128.Idx, G1 j = tblAt tbl (rowOf (w (128 + (j 0).val))).toNat (j 1) := fun j => by
    rw [hG1, gather_at _ _ rfl hin1 j (fun | ⟨0, _⟩ => j 0) rfl, tblAll_read, hl1]
  iapply (Scf.wp_for_bind frame (wpE (defs₀ (F := F)) 𝒱₀ (thr d L) none) Set.univ _ _ _ k3_t3_ok _ _
    (I3 (F := F) d L G1 w fg) (trip3 (F := F) d L G1 w fg hsel _)) $$ [Hb1 Hs]
  · unfold I3
    isplitl [Hb1]
    · iexists _; isplitr
      swap; · iexact Hb1
      ipureintro; intro j
      unfold marked
      rw [if_neg (by omega)]
      exact slab_read slab1 _ _ j
    · iexact Hs
  iintro %acc3 HI
  unfold I3
  icases HI with ⟨⟨%fb1, %hfb1, Hb1⟩, Hs⟩
  sl_exec
  set G2 : S128x128.Idx → F .f32 := SparseCore.gatherPayload gathers_S50176x128_S128x128 ((tblAll).view.read (Elt F) tbl)
    (SparseCore.rows ((list2).view.read (Elt F) fl) rfl hin2) with hG2
  have hG2' : ∀ j : S128x128.Idx, G2 j = tblAt tbl (rowOf (w (256 + (j 0).val))).toNat (j 1) := fun j => by
    rw [hG2, gather_at _ _ rfl hin2 j (fun | ⟨0, _⟩ => j 0) rfl, tblAll_read, hl2]
  iapply (Scf.wp_for_bind frame (wpE (defs₀ (F := F)) 𝒱₀ (thr d L) none) Set.univ _ _ _ k3_t4_ok _ _
    (I4 (F := F) d L G2 w fg) (trip4 (F := F) d L G2 w fg hsel _)) $$ [Hb2 Hs]
  · unfold I4
    isplitl [Hb2]
    · iexists _; isplitr
      swap; · iexact Hb2
      ipureintro; intro j
      unfold marked
      rw [if_neg (by omega)]
      exact slab_read slab2 _ _ j
    · iexact Hs
  iintro %acc2 HI
  unfold I4
  icases HI with ⟨⟨%fb2, %hfb2, Hb2⟩, Hs⟩
  sl_exec
  set G3 : S128x128.Idx → F .f32 := SparseCore.gatherPayload gathers_S50176x128_S128x128 ((tblAll).view.read (Elt F) tbl)
    (SparseCore.rows ((list3).view.read (Elt F) fl) rfl hin3) with hG3
  have hG3' : ∀ j : S128x128.Idx, G3 j = tblAt tbl (rowOf (w (384 + (j 0).val))).toNat (j 1) := fun j => by
    rw [hG3, gather_at _ _ rfl hin3 j (fun | ⟨0, _⟩ => j 0) rfl, tblAll_read, hl3]
  iapply (Scf.wp_for_bind frame (wpE (defs₀ (F := F)) 𝒱₀ (thr d L) none) Set.univ _ _ _ k3_t5_ok _ _
    (I5 (F := F) d L G3 w fg) (trip5 (F := F) d L G3 w fg hsel _)) $$ [Hb3 Hs]
  · unfold I5
    isplitl [Hb3]
    · iexists _; isplitr
      swap; · iexact Hb3
      ipureintro; intro j
      unfold marked
      rw [if_neg (by omega)]
      exact slab_read slab3 _ _ j
    · iexact Hs
  iintro %acc3 HI
  unfold I5
  icases HI with ⟨⟨%fb3, %hfb3, Hb3⟩, Hs⟩
  sl_exec
  sl_step
  isplitl [Ho0]
  · iexists _; isplitr
    swap; · iexact Ho0
    ipureintro; intro j
    rw [slab_read (out0 L)]
    show (slab0).view.read (Elt F) fb0 j = _
    rw [hfb0]
    exact marked_rowVal tbl G0 w 0 hG0' j
  isplitl [Ho1]
  · iexists _; isplitr
    swap; · iexact Ho1
    ipureintro; intro j
    rw [slab_read (out1 L)]
    show (slab1).view.read (Elt F) fb1 j = _
    rw [hfb1]
    exact marked_rowVal tbl G1 w 128 hG1' j
  isplitl [Ho2]
  · iexists _; isplitr
    swap; · iexact Ho2
    ipureintro; intro j
    rw [slab_read (out2 L)]
    show (slab2).view.read (Elt F) fb2 j = _
    rw [hfb2]
    exact marked_rowVal tbl G2 w 256 hG2' j
  isplitl [Ho3]
  · iexists _; isplitr
    swap; · iexact Ho3
    ipureintro; intro j
    rw [slab_read (out3 L)]
    show (slab3).view.read (Elt F) fb3 j = _
    rw [hfb3]
    exact marked_rowVal tbl G3 w 384 hG3' j
  isplitl [Hr0 Hr1 Hr2 Hr3]
  · iexists _
    iapply (Entails.of_eq (lists_split (F := F) d L fl).symm)
    isplitl [Hr0]; · iexact Hr0
    isplitl [Hr1]; · iexact Hr1
    isplitl [Hr2]; · iexact Hr2
    iexact Hr3
  isplitl [Hs]; · iexists _; iexact Hs
  isplitl [Hb0]; · iexists _; iexact Hb0
  isplitl [Hb1]; · iexists _; iexact Hb1
  isplitl [Hb2]; · iexists _; iexact Hb2
  isplitl [Hb3]; · iexists _; iexact Hb3
  isplitl [HsI]; · iexact HsI
  isplitl [HsA0]; · iexact HsA0
  isplitl [HsA1]; · iexact HsA1
  isplitl [HsA2]; · iexact HsA2
  isplitl [HsA3]; · iexact HsA3
  isplitl [HsB0]; · iexact HsB0
  isplitl [HsB1]; · iexact HsB1
  isplitl [HsB2]; · iexact HsB2
  isplitl [HsB3]; · iexact HsB3
  iexists _; isplitr
  swap; · iexact HO
  ipureintro; intro p hp
  repeat (rcases Finset.mem_insert.mp hp with hp | hp; · exact .inr (hp ▸ rfl))
  exact .inl hp

end Body
end Cert.Proof.I.Tile3
-- ==== Proof.ITask3.lean ====
/-
  The task of one tile of the first SparseCore call as the launch gives it: the tile's shares of the packed
  table and of the ids, its four blocks of the result, its scratch and its semaphores; and, back, the four
  blocks at the rows of the tile's ids.
-/
module

public import proofs.«01_k».proof.Proof.ITile3
public import Idealize.ShloMosaic.Lib.ViewIndex

@[expose] public section

noncomputable section

namespace Cert.Proof.I.Tile3

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable [FloatOps F] (T : (S50176x128.Idx → F .f32) → Prop) (ids : S16384.Idx → BitVec 32) (d : Dev nD)

/-- What a tile is given. -/
def goPts (c : Fin 2) (i : Fin 16) : sProp 𝕄 :=
  iprop((∃ f : Buf (Elt F) (tblLoc d), ⌜T f⌝ ∗ (tblLoc d ↦{ShareLeaves.leaf 5 fullShare (tix c i)} f))
    ∗ (idsLoc d ↦{ShareLeaves.leaf 5 fullShare (tix c i)} (ids : Buf (Elt F) (idsLoc d)))
    ∗ bigSep Finset.univ fun r : Fin 4 => iprop(∃ g : Buf (Elt F) (outLoc d), outLoc d ↦[oSet c i r]{fullShare} g))
/-- What it brings back. -/
def tdPts (c : Fin 2) (i : Fin 16) : sProp 𝕄 :=
  bigSep Finset.univ fun r : Fin 4 => iprop(∃ g : Buf (Elt F) (outLoc d), ⌜∀ j ∈ oSet c i r, OutRel T ids j (g j)⌝ ∗ (outLoc d ↦[oSet c i r]{fullShare} g))

section Task
variable (L : grid3.Coords)

abbrev cL (L : grid3.Coords) : Fin 2 := L 0
abbrev iL (L : grid3.Coords) : Fin 16 := L 1

abbrev cell (x : DmaSem sig) : GSem nD τ sig := (thr d L, .dma x)

/-- The tile's nine semaphores are among its own. -/
theorem ownSems0_V :
    ∃ rest : sProp 𝕄, (ownSems0 (thr d L) : sProp 𝕄)
      = iprop(semVal (cell d L cc3_scoped0.sem) 0 ∗ semVal (cell d L cc3_scratch3.sem) 0 ∗ semVal (cell d L cc3_scratch4.sem) 0 ∗ semVal (cell d L cc3_scratch5.sem) 0 ∗ semVal (cell d L cc3_scratch6.sem) 0 ∗ semVal (cell d L cc3_scratch7.sem) 0 ∗ semVal (cell d L cc3_scratch8.sem) 0 ∗ semVal (cell d L cc3_scratch9.sem) 0 ∗ semVal (cell d L cc3_scratch10.sem) 0 ∗ rest) := by
  apply Exists.intro
  unfold SparseCore.Cfg.ownSems0
  rw [SparseCore.bigSep_erase' ((mem_ownCells (g := cell d L cc3_scoped0.sem)).mpr ⟨rfl, by show (SemLoc.dma cc3_scoped0.sem : SemLoc sig).isScoped .scVector = true; decide⟩),
    SparseCore.bigSep_erase' (Finset.mem_erase.mpr ⟨by simp [cell]; decide, (mem_ownCells (g := cell d L cc3_scratch3.sem)).mpr ⟨rfl, by show (SemLoc.dma cc3_scratch3.sem : SemLoc sig).isScoped .scVector = true; decide⟩⟩),
    SparseCore.bigSep_erase' (Finset.mem_erase.mpr ⟨by simp [cell]; decide, Finset.mem_erase.mpr ⟨by simp [cell]; decide, (mem_ownCells (g := cell d L cc3_scratch4.sem)).mpr ⟨rfl, by show (SemLoc.dma cc3_scratch4.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide, (mem_ownCells (g := cell d L cc3_scratch5.sem)).mpr ⟨rfl, by show (SemLoc.dma cc3_scratch5.sem : SemLoc sig).isScoped .scVector = true; decide⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc3_scratch6.sem)).mpr ⟨rfl, by show (SemLoc.dma cc3_scratch6.sem : SemLoc sig).isScoped .scVector = true; decide⟩⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc3_scratch7.sem)).mpr ⟨rfl, by show (SemLoc.dma cc3_scratch7.sem : SemLoc sig).isScoped .scVector = true; decide⟩⟩⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc3_scratch8.sem)).mpr ⟨rfl, by show (SemLoc.dma cc3_scratch8.sem : SemLoc sig).isScoped .scVector = true; decide⟩⟩⟩⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc3_scratch9.sem)).mpr ⟨rfl, by show (SemLoc.dma cc3_scratch9.sem : SemLoc sig).isScoped .scVector = true; decide⟩⟩⟩⟩⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, Finset.mem_erase.mpr ⟨by simp [cell]; decide, (mem_ownCells (g := cell d L cc3_scratch10.sem)).mpr ⟨rfl, by show (SemLoc.dma cc3_scratch10.sem : SemLoc sig).isScoped .scVector = true; decide⟩⟩⟩⟩⟩⟩⟩⟩⟩)]

/-- The three scratch buffers are among the tile's own. -/
theorem ownBufs_V :
    ∃ rest : sProp 𝕄, (ownBufs (thr d L) : sProp 𝕄)
      = iprop((∃ f, (thr d L).loc cc3_scratch0 ↦{fullShare} f) ∗ (∃ f, (thr d L).loc cc3_scratch1 ↦{fullShare} f)
          ∗ (∃ f, (thr d L).loc cc3_scratch2 ↦{fullShare} f) ∗ rest) := by
  apply Exists.intro
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
      SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
      SparseCore.Cfg.mem_ownRefs_of_owner (p := Proc.scVector (cV L) (jV L)) (b := (Proc.scVector (cV L) (jV L)).devRef cc3_scratch2) rfl⟩⟩)]

theorem out0_rect : Rect.unit (s := S16384x128) (k3_off4 L 0#32) S128x128.size (k3_off4_inb L 0)
    = Rect.part (s := S16384x128) (a₀ := 0) odiv (blk (cL L) (iL L) 0) := by
  unfold Rect.part Rect.block
  congr 1 <;> funext a
  · rw [show k3_off4 L 0#32 = _ from k3_off4_eq L 0]
    match a with
    | 0 => show 1024 * (L 1).val + 512 * (L 0).val + 128 * 0 = (8 * (L 1).val + 4 * (L 0).val + 0) * 128; omega
    | 1 => rfl
  · match a with
    | 0 => rfl
    | 1 => rfl
theorem out0_set : (out0 L).view.set = oSet (cL L) (iL L) 0 :=
  (View.set_slice_whole main_v23_scv _).trans (congrArg (fun r : Rect S16384x128 => r.set) (out0_rect L))
/-- Block 0 read element by element. -/
theorem out0_rel {tbl : S50176x128.Idx → F .f32} (hT : T tbl) (g : Buf (Elt F) (outLoc d))
    (hg : ∀ j : S128x128.Idx, (out0 L).view.read (Elt F) g j = rowVal tbl (idW L ids (0 + (j 0).val)) (j 1)) :
    ∀ j ∈ oSet (cL L) (iL L) 0, OutRel T ids j (g j) := by
  intro j hj
  rw [← out0_set L] at hj
  obtain ⟨x, hx⟩ := View.exists_of_mem_set_slice (v := View.whole main_v23_scv) hj
  refine ⟨tbl, hT, ?_⟩
  have h := hg x
  have e0 : (j 0).val = base L + (0 + (x 0).val) := by
    have h1 : (j 0).val = k3_off4 L 0#32 0 + 1 * (x 0).val := by rw [← hx]; rfl
    have h2 : k3_off4 L 0#32 0 = 1024 * (L 1).val + 512 * (L 0).val + 128 * 0 := congrFun (k3_off4_eq L 0) 0
    rw [h1, h2]; show _ = 1024 * (L 1).val + 512 * (L 0).val + (0 + (x 0).val); omega
  have e1 : (j 1).val = (x 1).val := by
    have h1 : (j 1).val = k3_off4 L 0#32 1 + 1 * (x 1).val := by rw [← hx]; rfl
    have h2 : k3_off4 L 0#32 1 = 0 := congrFun (k3_off4_eq L 0) 1
    rw [h1, h2]; omega
  have e : g j = (out0 L).view.read (Elt F) g x := congrArg g hx.symm
  have hj0 : (j 0).val < 16384 := (j 0).isLt
  rw [e, h, show (x 1 : Fin 128) = j 1 from Fin.ext e1.symm]
  congr 1
  unfold idW
  rw [dif_pos (by omega)]
  refine congrArg ids (funext fun a => Fin.ext ?_)
  match a with
  | ⟨0, _⟩ => exact e0.symm
theorem out1_rect : Rect.unit (s := S16384x128) (k3_off4 L 128#32) S128x128.size (k3_off4_inb L 1)
    = Rect.part (s := S16384x128) (a₀ := 0) odiv (blk (cL L) (iL L) 1) := by
  unfold Rect.part Rect.block
  congr 1 <;> funext a
  · rw [show k3_off4 L 128#32 = _ from k3_off4_eq L 1]
    match a with
    | 0 => show 1024 * (L 1).val + 512 * (L 0).val + 128 * 1 = (8 * (L 1).val + 4 * (L 0).val + 1) * 128; omega
    | 1 => rfl
  · match a with
    | 0 => rfl
    | 1 => rfl
theorem out1_set : (out1 L).view.set = oSet (cL L) (iL L) 1 :=
  (View.set_slice_whole main_v23_scv _).trans (congrArg (fun r : Rect S16384x128 => r.set) (out1_rect L))
/-- Block 1 read element by element. -/
theorem out1_rel {tbl : S50176x128.Idx → F .f32} (hT : T tbl) (g : Buf (Elt F) (outLoc d))
    (hg : ∀ j : S128x128.Idx, (out1 L).view.read (Elt F) g j = rowVal tbl (idW L ids (128 + (j 0).val)) (j 1)) :
    ∀ j ∈ oSet (cL L) (iL L) 1, OutRel T ids j (g j) := by
  intro j hj
  rw [← out1_set L] at hj
  obtain ⟨x, hx⟩ := View.exists_of_mem_set_slice (v := View.whole main_v23_scv) hj
  refine ⟨tbl, hT, ?_⟩
  have h := hg x
  have e0 : (j 0).val = base L + (128 + (x 0).val) := by
    have h1 : (j 0).val = k3_off4 L 128#32 0 + 1 * (x 0).val := by rw [← hx]; rfl
    have h2 : k3_off4 L 128#32 0 = 1024 * (L 1).val + 512 * (L 0).val + 128 * 1 := congrFun (k3_off4_eq L 1) 0
    rw [h1, h2]; show _ = 1024 * (L 1).val + 512 * (L 0).val + (128 + (x 0).val); omega
  have e1 : (j 1).val = (x 1).val := by
    have h1 : (j 1).val = k3_off4 L 128#32 1 + 1 * (x 1).val := by rw [← hx]; rfl
    have h2 : k3_off4 L 128#32 1 = 0 := congrFun (k3_off4_eq L 1) 1
    rw [h1, h2]; omega
  have e : g j = (out1 L).view.read (Elt F) g x := congrArg g hx.symm
  have hj0 : (j 0).val < 16384 := (j 0).isLt
  rw [e, h, show (x 1 : Fin 128) = j 1 from Fin.ext e1.symm]
  congr 1
  unfold idW
  rw [dif_pos (by omega)]
  refine congrArg ids (funext fun a => Fin.ext ?_)
  match a with
  | ⟨0, _⟩ => exact e0.symm
theorem out2_rect : Rect.unit (s := S16384x128) (k3_off4 L 256#32) S128x128.size (k3_off4_inb L 2)
    = Rect.part (s := S16384x128) (a₀ := 0) odiv (blk (cL L) (iL L) 2) := by
  unfold Rect.part Rect.block
  congr 1 <;> funext a
  · rw [show k3_off4 L 256#32 = _ from k3_off4_eq L 2]
    match a with
    | 0 => show 1024 * (L 1).val + 512 * (L 0).val + 128 * 2 = (8 * (L 1).val + 4 * (L 0).val + 2) * 128; omega
    | 1 => rfl
  · match a with
    | 0 => rfl
    | 1 => rfl
theorem out2_set : (out2 L).view.set = oSet (cL L) (iL L) 2 :=
  (View.set_slice_whole main_v23_scv _).trans (congrArg (fun r : Rect S16384x128 => r.set) (out2_rect L))
/-- Block 2 read element by element. -/
theorem out2_rel {tbl : S50176x128.Idx → F .f32} (hT : T tbl) (g : Buf (Elt F) (outLoc d))
    (hg : ∀ j : S128x128.Idx, (out2 L).view.read (Elt F) g j = rowVal tbl (idW L ids (256 + (j 0).val)) (j 1)) :
    ∀ j ∈ oSet (cL L) (iL L) 2, OutRel T ids j (g j) := by
  intro j hj
  rw [← out2_set L] at hj
  obtain ⟨x, hx⟩ := View.exists_of_mem_set_slice (v := View.whole main_v23_scv) hj
  refine ⟨tbl, hT, ?_⟩
  have h := hg x
  have e0 : (j 0).val = base L + (256 + (x 0).val) := by
    have h1 : (j 0).val = k3_off4 L 256#32 0 + 1 * (x 0).val := by rw [← hx]; rfl
    have h2 : k3_off4 L 256#32 0 = 1024 * (L 1).val + 512 * (L 0).val + 128 * 2 := congrFun (k3_off4_eq L 2) 0
    rw [h1, h2]; show _ = 1024 * (L 1).val + 512 * (L 0).val + (256 + (x 0).val); omega
  have e1 : (j 1).val = (x 1).val := by
    have h1 : (j 1).val = k3_off4 L 256#32 1 + 1 * (x 1).val := by rw [← hx]; rfl
    have h2 : k3_off4 L 256#32 1 = 0 := congrFun (k3_off4_eq L 2) 1
    rw [h1, h2]; omega
  have e : g j = (out2 L).view.read (Elt F) g x := congrArg g hx.symm
  have hj0 : (j 0).val < 16384 := (j 0).isLt
  rw [e, h, show (x 1 : Fin 128) = j 1 from Fin.ext e1.symm]
  congr 1
  unfold idW
  rw [dif_pos (by omega)]
  refine congrArg ids (funext fun a => Fin.ext ?_)
  match a with
  | ⟨0, _⟩ => exact e0.symm
theorem out3_rect : Rect.unit (s := S16384x128) (k3_off4 L 384#32) S128x128.size (k3_off4_inb L 3)
    = Rect.part (s := S16384x128) (a₀ := 0) odiv (blk (cL L) (iL L) 3) := by
  unfold Rect.part Rect.block
  congr 1 <;> funext a
  · rw [show k3_off4 L 384#32 = _ from k3_off4_eq L 3]
    match a with
    | 0 => show 1024 * (L 1).val + 512 * (L 0).val + 128 * 3 = (8 * (L 1).val + 4 * (L 0).val + 3) * 128; omega
    | 1 => rfl
  · match a with
    | 0 => rfl
    | 1 => rfl
theorem out3_set : (out3 L).view.set = oSet (cL L) (iL L) 3 :=
  (View.set_slice_whole main_v23_scv _).trans (congrArg (fun r : Rect S16384x128 => r.set) (out3_rect L))
/-- Block 3 read element by element. -/
theorem out3_rel {tbl : S50176x128.Idx → F .f32} (hT : T tbl) (g : Buf (Elt F) (outLoc d))
    (hg : ∀ j : S128x128.Idx, (out3 L).view.read (Elt F) g j = rowVal tbl (idW L ids (384 + (j 0).val)) (j 1)) :
    ∀ j ∈ oSet (cL L) (iL L) 3, OutRel T ids j (g j) := by
  intro j hj
  rw [← out3_set L] at hj
  obtain ⟨x, hx⟩ := View.exists_of_mem_set_slice (v := View.whole main_v23_scv) hj
  refine ⟨tbl, hT, ?_⟩
  have h := hg x
  have e0 : (j 0).val = base L + (384 + (x 0).val) := by
    have h1 : (j 0).val = k3_off4 L 384#32 0 + 1 * (x 0).val := by rw [← hx]; rfl
    have h2 : k3_off4 L 384#32 0 = 1024 * (L 1).val + 512 * (L 0).val + 128 * 3 := congrFun (k3_off4_eq L 3) 0
    rw [h1, h2]; show _ = 1024 * (L 1).val + 512 * (L 0).val + (384 + (x 0).val); omega
  have e1 : (j 1).val = (x 1).val := by
    have h1 : (j 1).val = k3_off4 L 384#32 1 + 1 * (x 1).val := by rw [← hx]; rfl
    have h2 : k3_off4 L 384#32 1 = 0 := congrFun (k3_off4_eq L 3) 1
    rw [h1, h2]; omega
  have e : g j = (out3 L).view.read (Elt F) g x := congrArg g hx.symm
  have hj0 : (j 0).val < 16384 := (j 0).isLt
  rw [e, h, show (x 1 : Fin 128) = j 1 from Fin.ext e1.symm]
  congr 1
  unfold idW
  rw [dif_pos (by omega)]
  refine congrArg ids (funext fun a => Fin.ext ?_)
  match a with
  | ⟨0, _⟩ => exact e0.symm

set_option maxHeartbeats 1000000 in
/-- The task. -/
theorem tile_body (hF : (SC (F := F)).Facts) (hids : ∀ x, (ids x).toNat < 100000)
    (O : CellTallies nD τ sig (HIx 2)) (W : Waits sig (HIx 2)) (hO : ∀ g, O g none = 0) :
    (iprop(levAts (SC (F := F)).L (SC (F := F)).lev ∗ emp ∗ goPts T ids d (cL L) (iL L)
        ∗ scopedBufs (thr d L) ∗ scopedSems0 (thr d L) ∗ owes (thr d L) O W) : sProp 𝕄)
      ⊢ wp frame (wpE (defs₀ (F := F)) 𝒱₀ (thr d L) none) Set.univ
          (cc3_gather_k (F := F) L tblM (Memref.isWhole_whole _) idsM (Memref.isWhole_whole _) outM (Memref.isWhole_whole _)
            rowM (Memref.isWhole_whole _) selM (Memref.isWhole_whole _) bufM (Memref.isWhole_whole _)
            cc3_scratch3 cc3_scratch4 cc3_scratch5 cc3_scratch6 cc3_scratch7 cc3_scratch8 cc3_scratch9 cc3_scratch10 cc3_scoped0)
          fun _ => (iprop(tdPts T ids d (cL L) (iL L) ∗ scopedBufs (thr d L) ∗ scopedSems0 (thr d L)
            ∗ ∃ W', ⌜∀ p ∈ W', p ∈ W ∨ p.2 = none⌝ ∗ owes (thr d L) O W') : sProp 𝕄) := by
  obtain ⟨restS, hS⟩ := ownSems0_V (F := F) d L
  obtain ⟨restB, hB⟩ := ownBufs_V (F := F) d L
  rw [(SC (F := F)).scopedBufs_V hF d (cV L) (jV L), SparseCore.Cfg.scopedSems0_V (Val := Elt F) d (cV L) (jV L), hS, hB]
  unfold goPts tdPts
  rw [bigSep_four, bigSep_four]
  iintro ⟨#Hlv, -, ⟨⟨%tbl, %hT, Ht⟩, Hi, ⟨%fo0, Ho0⟩, ⟨%fo1, Ho1⟩, ⟨%fo2, Ho2⟩, ⟨%fo3, Ho3⟩⟩, ⟨⟨%fr, Hr⟩, ⟨%fs, Hs⟩, ⟨%fb, Hb⟩, HBr⟩, ⟨HsI, HsA0, HsA1, HsA2, HsA3, HsB0, HsB1, HsB2, HsB3, HSr⟩, HO⟩
  ihave Hts := (Entails.of_eq (ShareLeaves.pointsTo_leaves (ℓ := tblLoc d) (Val := Elt F) (U := UU) (Ix := HIx 2) (Name := ℕ) (Lvl := ℕ) Finset.univ tbl 2 (ShareLeaves.leaf 5 fullShare (tix (cL L) (iL L))))) $$ Ht
  ihave Hts := (Entails.of_eq (bigSep_four _)) $$ Hts
  icases Hts with ⟨Ht0, Ht1, Ht2, Ht3⟩
  ihave Hts := (pointsTo_split_subset (q := ShareLeaves.leaf 2 (ShareLeaves.leaf 5 fullShare (tix (cL L) (iL L))) 0) (f := tbl) (S := Finset.univ) (Finset.subset_univ (tblAll).view.set)).1 $$ Ht0
  icases Hts with ⟨Ht0, -⟩
  ihave Hts := (pointsTo_split_subset (q := ShareLeaves.leaf 2 (ShareLeaves.leaf 5 fullShare (tix (cL L) (iL L))) 1) (f := tbl) (S := Finset.univ) (Finset.subset_univ (tblAll).view.set)).1 $$ Ht1
  icases Hts with ⟨Ht1, -⟩
  ihave Hts := (pointsTo_split_subset (q := ShareLeaves.leaf 2 (ShareLeaves.leaf 5 fullShare (tix (cL L) (iL L))) 2) (f := tbl) (S := Finset.univ) (Finset.subset_univ (tblAll).view.set)).1 $$ Ht2
  icases Hts with ⟨Ht2, -⟩
  ihave Hts := (pointsTo_split_subset (q := ShareLeaves.leaf 2 (ShareLeaves.leaf 5 fullShare (tix (cL L) (iL L))) 3) (f := tbl) (S := Finset.univ) (Finset.subset_univ (tblAll).view.set)).1 $$ Ht3
  icases Hts with ⟨Ht3, -⟩
  ihave Hbs := (Entails.of_eq (slabs_split (F := F) d L fb)) $$ Hb
  icases Hbs with ⟨Hb0, Hb1, Hb2, Hb3⟩
  ihave Ho0 := (Entails.of_eq (show (outLoc d ↦[oSet (cL L) (iL L) 0]{fullShare} fo0 : sProp 𝕄)
      = (out0 L).view.loc (thr d L) ↦[(out0 L).view.set]{fullShare} fo0 by rw [out0_set])) $$ Ho0
  ihave Ho1 := (Entails.of_eq (show (outLoc d ↦[oSet (cL L) (iL L) 1]{fullShare} fo1 : sProp 𝕄)
      = (out1 L).view.loc (thr d L) ↦[(out1 L).view.set]{fullShare} fo1 by rw [out1_set])) $$ Ho1
  ihave Ho2 := (Entails.of_eq (show (outLoc d ↦[oSet (cL L) (iL L) 2]{fullShare} fo2 : sProp 𝕄)
      = (out2 L).view.loc (thr d L) ↦[(out2 L).view.set]{fullShare} fo2 by rw [out2_set])) $$ Ho2
  ihave Ho3 := (Entails.of_eq (show (outLoc d ↦[oSet (cL L) (iL L) 3]{fullShare} fo3 : sProp 𝕄)
      = (out3 L).view.loc (thr d L) ↦[(out3 L).view.set]{fullShare} fo3 by rw [out3_set])) $$ Ho3
  iapply (wp_wand_r frame (wpE (defs₀ (F := F)) 𝒱₀ (thr d L) none) Set.univ)
  isplitl [Ht0 Ht1 Ht2 Ht3 Hi Hr Hs Hb0 Hb1 Hb2 Hb3 Ho0 Ho1 Ho2 Ho3 HsI HsA0 HsA1 HsA2 HsA3 HsB0 HsB1 HsB2 HsB3 HO]
  · iapply (tile_core (F := F) d L _ _ _ _ _ tbl ids hids O W hO fo0 fo1 fo2 fo3 fr fs fb)
    isplitr; · iexact Hlv
    isplitl [Ht0]; · iexact Ht0
    isplitl [Ht1]; · iexact Ht1
    isplitl [Ht2]; · iexact Ht2
    isplitl [Ht3]; · iexact Ht3
    isplitl [Hi]; · iexact Hi
    isplitl [Hr]; · iexact Hr
    isplitl [Hs]; · iexact Hs
    isplitl [Hb0]; · iexact Hb0
    isplitl [Hb1]; · iexact Hb1
    isplitl [Hb2]; · iexact Hb2
    isplitl [Hb3]; · iexact Hb3
    isplitl [Ho0]; · iexact Ho0
    isplitl [Ho1]; · iexact Ho1
    isplitl [Ho2]; · iexact Ho2
    isplitl [Ho3]; · iexact Ho3
    isplitl [HsI]; · iexact HsI
    isplitl [HsA0]; · iexact HsA0
    isplitl [HsA1]; · iexact HsA1
    isplitl [HsA2]; · iexact HsA2
    isplitl [HsA3]; · iexact HsA3
    isplitl [HsB0]; · iexact HsB0
    isplitl [HsB1]; · iexact HsB1
    isplitl [HsB2]; · iexact HsB2
    isplitl [HsB3]; · iexact HsB3
    iexact HO
  · iintro %_ ⟨⟨%g0, %hg0, Ho0⟩, ⟨%g1, %hg1, Ho1⟩, ⟨%g2, %hg2, Ho2⟩, ⟨%g3, %hg3, Ho3⟩, ⟨%fr', Hr⟩, ⟨%fs', Hs⟩, ⟨%e0, Hb0⟩, ⟨%e1, Hb1⟩, ⟨%e2, Hb2⟩, ⟨%e3, Hb3⟩, HsI, HsA0, HsA1, HsA2, HsA3, HsB0, HsB1, HsB2, HsB3, %W', %hW', HO⟩
    isplitl [Ho0 Ho1 Ho2 Ho3]
    · isplitl [Ho0]
      · iexists g0; isplitr
        · ipureintro; exact out0_rel T ids d L hT g0 hg0
        · iapply (Entails.of_eq (show ((out0 L).view.loc (thr d L) ↦[(out0 L).view.set]{fullShare} g0 : sProp 𝕄)
              = outLoc d ↦[oSet (cL L) (iL L) 0]{fullShare} g0 by rw [out0_set])); iexact Ho0
      isplitl [Ho1]
      · iexists g1; isplitr
        · ipureintro; exact out1_rel T ids d L hT g1 hg1
        · iapply (Entails.of_eq (show ((out1 L).view.loc (thr d L) ↦[(out1 L).view.set]{fullShare} g1 : sProp 𝕄)
              = outLoc d ↦[oSet (cL L) (iL L) 1]{fullShare} g1 by rw [out1_set])); iexact Ho1
      isplitl [Ho2]
      · iexists g2; isplitr
        · ipureintro; exact out2_rel T ids d L hT g2 hg2
        · iapply (Entails.of_eq (show ((out2 L).view.loc (thr d L) ↦[(out2 L).view.set]{fullShare} g2 : sProp 𝕄)
              = outLoc d ↦[oSet (cL L) (iL L) 2]{fullShare} g2 by rw [out2_set])); iexact Ho2
      iexists g3; isplitr
      · ipureintro; exact out3_rel T ids d L hT g3 hg3
      · iapply (Entails.of_eq (show ((out3 L).view.loc (thr d L) ↦[(out3 L).view.set]{fullShare} g3 : sProp 𝕄)
            = outLoc d ↦[oSet (cL L) (iL L) 3]{fullShare} g3 by rw [out3_set])); iexact Ho3
    isplitl [Hr Hs Hb0 Hb1 Hb2 Hb3 HBr]
    · isplitl [Hr]; · iexists _; iexact Hr
      isplitl [Hs]; · iexists _; iexact Hs
      isplitl [Hb0 Hb1 Hb2 Hb3]
      · iapply (slabs_join (F := F) d L e0 e1 e2 e3)
        isplitl [Hb0]; · iexact Hb0
        isplitl [Hb1]; · iexact Hb1
        isplitl [Hb2]; · iexact Hb2
        iexact Hb3
      iexact HBr
    isplitl [HsI HsA0 HsA1 HsA2 HsA3 HsB0 HsB1 HsB2 HsB3 HSr]
    · isplitl [HsI]; · iexact HsI
      isplitl [HsA0]; · iexact HsA0
      isplitl [HsA1]; · iexact HsA1
      isplitl [HsA2]; · iexact HsA2
      isplitl [HsA3]; · iexact HsA3
      isplitl [HsB0]; · iexact HsB0
      isplitl [HsB1]; · iexact HsB1
      isplitl [HsB2]; · iexact HsB2
      isplitl [HsB3]; · iexact HsB3
      iexact HSr
    iexists W'; isplitr
    · ipureintro; exact hW'
    · iexact HO

end Task

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_gather_k (F := F) (coordsV c s) tblM (Memref.isWhole_whole _) idsM (Memref.isWhole_whole _) outM (Memref.isWhole_whole _)
            rowM (Memref.isWhole_whole _) selM (Memref.isWhole_whole _) bufM (Memref.isWhole_whole _)
            cc3_scratch3 cc3_scratch4 cc3_scratch5 cc3_scratch6 cc3_scratch7 cc3_scratch8 cc3_scratch9 cc3_scratch10 cc3_scoped0) ⟨⟩ c s := rfl

end Cert.Proof.I.Tile3
-- ==== Proof.IPay.lean ====
/-
  What the two SparseCore calls carry between the TensorCore, the sequencers and the tiles, and the obligations the two
  kernels' proofs discharge over it.
-/
module

public import proofs.«01_k».proof.Proof.ITask1
public import proofs.«01_k».proof.Proof.ITask3

@[expose] public section

noncomputable section

namespace Cert.Proof.I

open Cert.KernelIdeal Cert.KernelIdeal.Gen
open Idealize.ShloMosaic Idealize.ShloMosaic.Tactic
open Idealize.ShloMosaic.SparseCore.Cfg (HIx)
open Idealize.ShloMosaic.SparseCore (S V)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (T : Fin 2 → Dev nD → (S50176x128.Idx → F .f32) → Prop) (ids : Fin 2 → Dev nD → S16384.Idx → BitVec 32)

/-- What a tile is given at a call, -/
def goP (q : Fin 2) (d : Dev nD) (c : Fin 2) (i : Fin 16) : sProp 𝕄 :=
  match q with
  | 0 => Tile1.goPts (T 0 d) (ids 0 d) d c i
  | 1 => Tile3.goPts (T 1 d) (ids 1 d) d c i
/-- and what it brings back. -/
def tdP (q : Fin 2) (d : Dev nD) (c : Fin 2) (i : Fin 16) : sProp 𝕄 :=
  match q with
  | 0 => Tile1.tdPts (T 0 d) (ids 0 d) d c i
  | 1 => Tile3.tdPts (T 1 d) (ids 1 d) d c i

instance goP_storable (q : Fin 2) (d : Dev nD) (c : Fin 2) (i : Fin 16) : BI.Storable (upEmb : UEmb _ 𝕄) (goP T ids q d c i) := by
  match q with
  | 0 => unfold goP Tile1.goPts; infer_instance
  | 1 => unfold goP Tile3.goPts; infer_instance
instance tdP_storable (q : Fin 2) (d : Dev nD) (c : Fin 2) (i : Fin 16) : BI.Storable (upEmb : UEmb _ 𝕄) (tdP T ids q d c i) := by
  match q with
  | 0 => unfold tdP Tile1.tdPts; infer_instance
  | 1 => unfold tdP Tile3.tdPts; infer_instance

/-- The payloads: a SparseCore's are its tiles'. -/
def P : (SC (F := F)).Pay (nD := nD) (Val := Elt F) (Name := ℕ) (U := UU) where
  st := fun q d c => bigSep Finset.univ fun i : Fin ((SC (F := F)).nSub q) => goP T ids q d (Fin.cast (nCore_eq q) c) (Fin.cast (nSub_eq q) i)
  dn := fun q d c => bigSep Finset.univ fun i : Fin ((SC (F := F)).nSub q) => tdP T ids q d (Fin.cast (nCore_eq q) c) (Fin.cast (nSub_eq q) i)
  go := fun q d c i => goP T ids q d (Fin.cast (nCore_eq q) c) (Fin.cast (nSub_eq q) i)
  td := fun q d c i => tdP T ids q d (Fin.cast (nCore_eq q) c) (Fin.cast (nSub_eq q) i)
  x := fun _ _ => iprop(emp)

instance P_storable : (P (F := F) T ids).IsStorable where
  st q d c := by unfold P; infer_instance
  dn q d c := by unfold P; infer_instance
  go q d c i := by unfold P; infer_instance
  td q d c i := by unfold P; infer_instance

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (hids : ∀ q d x, (ids q d x).toNat < 100000)
include hids

set_option maxRecDepth 16384 in
theorem tileObl0 : (SC (F := F)).TileObl (DD (F := F)) 𝒱P (P T ids) vP 0 := by
  intro d c i O W hO _ _
  simp only [show (P T ids).ox = fun _ _ => 0 from rfl, add_zero]
  have hci : ((SC (F := F)).core 0 c).val < grid1.bound 0 ∧ ((SC (F := F)).sub 0 i).val < grid1.bound 1 := ⟨c.isLt, i.isLt⟩
  change _ ⊢ wp _ _ _ (Pipeline.liftProg (defs₀ (F := F) (.scVector ((SC (F := F)).core 0 c) ((SC (F := F)).sub 0 i)) 1 ())) _
  refine BI.Entails.trans ?_ (Pipeline.wp_liftProg (DD (F := F)) (Pipeline.defs_kernel pcfgs defs₀) 𝒱₀ _ Set.univ none _ _)
  rw [Tile1.defs₀_vector]; simp only [SparseCore.onTile, hci, and_self, ↓reduceDIte]
  exact (Tile1.tile_body (T 0 d) (ids 0 d) d (Tile1.coordsV ⟨_, hci.1⟩ ⟨_, hci.2⟩) facts (hids 0 d) O W hO).trans (wp_mono frame _ _ fun _ => obl_post)

set_option maxRecDepth 16384 in
theorem tileObl1 : (SC (F := F)).TileObl (DD (F := F)) 𝒱P (P T ids) vP 1 := by
  intro d c i O W hO _ _
  simp only [show (P T ids).ox = fun _ _ => 0 from rfl, add_zero]
  have hci : ((SC (F := F)).core 1 c).val < grid3.bound 0 ∧ ((SC (F := F)).sub 1 i).val < grid3.bound 1 := ⟨c.isLt, i.isLt⟩
  change _ ⊢ wp _ _ _ (Pipeline.liftProg (defs₀ (F := F) (.scVector ((SC (F := F)).core 1 c) ((SC (F := F)).sub 1 i)) 3 ())) _
  refine BI.Entails.trans ?_ (Pipeline.wp_liftProg (DD (F := F)) (Pipeline.defs_kernel pcfgs defs₀) 𝒱₀ _ Set.univ none _ _)
  rw [Tile3.defs₀_vector]; simp only [SparseCore.onTile, hci, and_self, ↓reduceDIte]
  exact (Tile3.tile_body (T 1 d) (ids 1 d) d (Tile3.coordsV ⟨_, hci.1⟩ ⟨_, hci.2⟩) facts (hids 1 d) O W hO).trans (wp_mono frame _ _ fun _ => obl_post)

omit hids in
theorem vecSplit (q : Fin 2) : (SC (F := F)).VecSplit' (P T ids) q := by
  intro d c
  show (bigSep Finset.univ fun i : Fin ((SC (F := F)).nSub q) => goP T ids q d (Fin.cast (nCore_eq q) c) (Fin.cast (nSub_eq q) i)) ⊢ |={Set.univ}=> iprop(
    (bigSep Finset.univ fun i : Fin ((SC (F := F)).nSub q) => goP T ids q d (Fin.cast (nCore_eq q) c) (Fin.cast (nSub_eq q) i))
      ∗ ((bigSep Finset.univ fun i : Fin ((SC (F := F)).nSub q) => tdP T ids q d (Fin.cast (nCore_eq q) c) (Fin.cast (nSub_eq q) i))
        -∗ (bigSep Finset.univ fun i : Fin ((SC (F := F)).nSub q) => tdP T ids q d (Fin.cast (nCore_eq q) c) (Fin.cast (nSub_eq q) i))))
  iintro H; imodintro
  isplitl [H]; · iexact H
  iintro H; iexact H

end Cert.Proof.I
-- ==== Proof.ISplit.lean ====
/-
  The arrays of a SparseCore call, shared out among the thirty-two tiles and put together again.
-/
module

public import proofs.«01_k».proof.Proof.IPay

@[expose] public section

noncomputable section

namespace Cert.Proof.I

open Cert.KernelIdeal Cert.KernelIdeal.Gen
open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The tiles, numbered as the shares are, -/
def tixE : Fin 2 × Fin 16 ≃ Fin (2 ^ 5) :=
  Equiv.ofBijective (fun p => tix p.1 p.2) ((Fintype.bijective_iff_injective_and_card _).mpr ⟨fun p p' h => by
    have h' : 2 * p.2.val + p.1.val = 2 * p'.2.val + p'.1.val := congrArg Fin.val h
    have := p.1.isLt; have := p'.1.isLt
    exact Prod.ext (Fin.ext (by omega)) (Fin.ext (by omega)), by simp⟩)
/-- and their blocks of rows. -/
def blkE : (Fin 2 × Fin 16) × Fin 4 ≃ Fin 128 :=
  Equiv.ofBijective (fun p => blk p.1.1 p.1.2 p.2) ((Fintype.bijective_iff_injective_and_card _).mpr ⟨fun p p' h => by
    have h' : 8 * p.1.2.val + 4 * p.1.1.val + p.2.val = 8 * p'.1.2.val + 4 * p'.1.1.val + p'.2.val := congrArg Fin.val h
    have := p.1.1.isLt; have := p'.1.1.isLt; have := p.2.isLt; have := p'.2.isLt
    exact Prod.ext (Prod.ext (Fin.ext (by omega)) (Fin.ext (by omega))) (Fin.ext (by omega)), by simp⟩)

theorem oSets_disjoint : ∀ p ∈ (Finset.univ : Finset ((Fin 2 × Fin 16) × Fin 4)), ∀ p' ∈ (Finset.univ : Finset ((Fin 2 × Fin 16) × Fin 4)), p ≠ p' →
    Disjoint (oSet p.1.1 p.1.2 p.2) (oSet p'.1.1 p'.1.2 p'.2) := fun p _ p' _ h =>
  Rect.part_disjoint odiv fun e => h (blkE.injective e)

theorem oSets_cover : (Finset.univ : Finset ((Fin 2 × Fin 16) × Fin 4)).biUnion (fun p => oSet p.1.1 p.1.2 p.2) = Finset.univ := by
  refine Finset.eq_univ_of_forall fun x => ?_
  have hx : x ∈ (Finset.univ : Finset (Fin 128)).biUnion fun k => (Rect.part (s := S16384x128) (a₀ := 0) odiv k).set := by
    rw [Rect.biUnion_part odiv]; exact Finset.mem_univ x
  obtain ⟨k, -, hk⟩ := Finset.mem_biUnion.mp hx
  refine Finset.mem_biUnion.mpr ⟨blkE.symm k, Finset.mem_univ _, ?_⟩
  have e : blk (blkE.symm k).1.1 (blkE.symm k).1.2 (blkE.symm k).2 = k := blkE.apply_symm_apply k
  show x ∈ (Rect.part (s := S16384x128) (a₀ := 0) odiv _).set
  rw [e]; exact hk

/-- An array, a share of it to every tile. -/
theorem leaves_tiles {ℓ : Loc nD τ sig} (f : Buf (Elt F) ℓ) :
    (ℓ ↦{fullShare} f : sProp 𝕄) = bigSep Finset.univ fun p : Fin 2 × Fin 16 => ℓ ↦{ShareLeaves.leaf 5 fullShare (tix p.1 p.2)} f := by
  rw [ShareLeaves.pointsTo_leaves Finset.univ f 5 fullShare]
  exact bigSep_univ_equiv tixE _

/-- Pure facts, one for each index. -/
theorem pures {I : Type} [Fintype I] (φ : I → Prop) : (bigSep Finset.univ fun i => (iprop(⌜φ i⌝) : sProp 𝕄)) ⊢ (iprop(⌜∀ i, φ i⌝) : sProp 𝕄) := by
  classical
  have one (i : I) : (bigSep Finset.univ fun i => (iprop(⌜φ i⌝) : sProp 𝕄)) ⊢ (iprop(⌜φ i⌝) : sProp 𝕄) := by
    rw [bigSep_univ_split i]
    exact sep_elim_left
  exact (forall_intro one).trans pure_forall.2

namespace Tile1

variable (T : (S50176x128.Idx → F .f32) → Prop) (ids : S16384.Idx → BitVec 32) (d : Dev nD)

/-- The array written, a block of rows to every copy out. -/
theorem out_blocks (g : Buf (Elt F) (outLoc d)) :
    (outLoc d ↦{fullShare} g : sProp 𝕄) = bigSep Finset.univ fun p : (Fin 2 × Fin 16) × Fin 4 => outLoc d ↦[oSet p.1.1 p.1.2 p.2]{fullShare} g := by
  rw [← pointsTo_biUnion Finset.univ (ℓ := outLoc d) (fun p : (Fin 2 × Fin 16) × Fin 4 => oSet p.1.1 p.1.2 p.2) oSets_disjoint]
  rw [oSets_cover]

/-- The table, the ids and the array written, shared out. -/
theorem split (f : Buf (Elt F) (tblLoc d)) (hf : T f) (g : Buf (Elt F) (outLoc d)) :
    (iprop((tblLoc d ↦{fullShare} f) ∗ (idsLoc d ↦{fullShare} (ids : Buf (Elt F) (idsLoc d))) ∗ (outLoc d ↦{fullShare} g)) : sProp 𝕄)
      ⊢ bigSep Finset.univ fun c : Fin 2 => bigSep Finset.univ fun i : Fin 16 => goPts T ids d c i := by
  rw [← bigSep_univ_prod (fun p : Fin 2 × Fin 16 => goPts T ids d p.1 p.2)]
  unfold goPts
  rw [bigSep_sep', bigSep_sep', leaves_tiles, leaves_tiles, out_blocks,
    bigSep_univ_prod (fun p : (Fin 2 × Fin 16) × Fin 4 => (outLoc d ↦[oSet p.1.1 p.1.2 p.2]{fullShare} g : sProp 𝕄))]
  have h1 (p : Fin 2 × Fin 16) : (tblLoc d ↦{ShareLeaves.leaf 5 fullShare (tix p.1 p.2)} f : sProp 𝕄)
      ⊢ iprop(∃ f : Buf (Elt F) (tblLoc d), ⌜T f⌝ ∗ (tblLoc d ↦{ShareLeaves.leaf 5 fullShare (tix p.1 p.2)} f)) := by
    iintro H
    iexists f
    isplitr; · ipureintro; exact hf
    iexact H
  have h2 (p : Fin 2 × Fin 16) (r : Fin 4) : (outLoc d ↦[oSet p.1 p.2 r]{fullShare} g : sProp 𝕄)
      ⊢ iprop(∃ g : Buf (Elt F) (outLoc d), outLoc d ↦[oSet p.1 p.2 r]{fullShare} g) := by
    iintro H
    iexists g
    iexact H
  exact sep_mono (bigSep_mono fun p _ => h1 p) (sep_mono .rfl (bigSep_mono fun p _ => bigSep_mono fun r _ => h2 p r))

/-- The blocks brought back, put together. -/
theorem join [∀ e, Nonempty (Elt F e)] :
    (bigSep Finset.univ fun c : Fin 2 => bigSep Finset.univ fun i : Fin 16 => tdPts T ids d c i)
      ⊢ (iprop(∃ g : Buf (Elt F) (outLoc d), ⌜∀ j, OutRel T ids j (g j)⌝ ∗ (outLoc d ↦{fullShare} g)) : sProp 𝕄) := by
  rw [← bigSep_univ_prod (fun p : Fin 2 × Fin 16 => tdPts T ids d p.1 p.2)]
  unfold tdPts
  rw [← bigSep_univ_prod (fun p : (Fin 2 × Fin 16) × Fin 4 => (iprop(∃ g : Buf (Elt F) (outLoc d), ⌜∀ j ∈ oSet p.1.1 p.1.2 p.2, OutRel T ids j (g j)⌝
    ∗ (outLoc d ↦[oSet p.1.1 p.1.2 p.2]{fullShare} g)) : sProp 𝕄))]
  refine (bigSep_exists_pi Finset.univ (fun (p : (Fin 2 × Fin 16) × Fin 4) (g : Buf (Elt F) (outLoc d)) =>
    (iprop(⌜∀ j ∈ oSet p.1.1 p.1.2 p.2, OutRel T ids j (g j)⌝ ∗ (outLoc d ↦[oSet p.1.1 p.1.2 p.2]{fullShare} g)) : sProp 𝕄))).trans ?_
  iintro ⟨%gs, H⟩
  ihave H := (Entails.of_eq (bigSep_sep' Finset.univ _ _)) $$ H
  icases H with ⟨Hp, H⟩
  ihave Hp := (pures (fun p : (Fin 2 × Fin 16) × Fin 4 => ∀ j ∈ oSet p.1.1 p.1.2 p.2, OutRel T ids j (gs p j))) $$ Hp
  icases Hp with %hp
  ihave H' := (pointsTo_biUnion_join (ℓ := outLoc d) (q := fullShare) (Val := Elt F) Finset.univ (fun p : (Fin 2 × Fin 16) × Fin 4 => oSet p.1.1 p.1.2 p.2)
    gs (gs ((0, 0), 0)) oSets_disjoint) $$ H
  icases H' with ⟨%g, %hg, Hg⟩
  rw [oSets_cover]
  iexists g
  isplitr
  · ipureintro
    intro j
    have hj : j ∈ (Finset.univ : Finset ((Fin 2 × Fin 16) × Fin 4)).biUnion (fun p => oSet p.1.1 p.1.2 p.2) := by rw [oSets_cover]; exact Finset.mem_univ j
    obtain ⟨p, -, hj⟩ := Finset.mem_biUnion.mp hj
    rw [hg p (Finset.mem_univ p) j hj]
    exact hp p j hj
  iexact Hg

end Tile1

namespace Tile3

variable (T : (S50176x128.Idx → F .f32) → Prop) (ids : S16384.Idx → BitVec 32) (d : Dev nD)

/-- The array written, a block of rows to every copy out. -/
theorem out_blocks (g : Buf (Elt F) (outLoc d)) :
    (outLoc d ↦{fullShare} g : sProp 𝕄) = bigSep Finset.univ fun p : (Fin 2 × Fin 16) × Fin 4 => outLoc d ↦[oSet p.1.1 p.1.2 p.2]{fullShare} g := by
  rw [← pointsTo_biUnion Finset.univ (ℓ := outLoc d) (fun p : (Fin 2 × Fin 16) × Fin 4 => oSet p.1.1 p.1.2 p.2) oSets_disjoint]
  rw [oSets_cover]

/-- The table, the ids and the array written, shared out. -/
theorem split (f : Buf (Elt F) (tblLoc d)) (hf : T f) (g : Buf (Elt F) (outLoc d)) :
    (iprop((tblLoc d ↦{fullShare} f) ∗ (idsLoc d ↦{fullShare} (ids : Buf (Elt F) (idsLoc d))) ∗ (outLoc d ↦{fullShare} g)) : sProp 𝕄)
      ⊢ bigSep Finset.univ fun c : Fin 2 => bigSep Finset.univ fun i : Fin 16 => goPts T ids d c i := by
  rw [← bigSep_univ_prod (fun p : Fin 2 × Fin 16 => goPts T ids d p.1 p.2)]
  unfold goPts
  rw [bigSep_sep', bigSep_sep', leaves_tiles, leaves_tiles, out_blocks,
    bigSep_univ_prod (fun p : (Fin 2 × Fin 16) × Fin 4 => (outLoc d ↦[oSet p.1.1 p.1.2 p.2]{fullShare} g : sProp 𝕄))]
  have h1 (p : Fin 2 × Fin 16) : (tblLoc d ↦{ShareLeaves.leaf 5 fullShare (tix p.1 p.2)} f : sProp 𝕄)
      ⊢ iprop(∃ f : Buf (Elt F) (tblLoc d), ⌜T f⌝ ∗ (tblLoc d ↦{ShareLeaves.leaf 5 fullShare (tix p.1 p.2)} f)) := by
    iintro H
    iexists f
    isplitr; · ipureintro; exact hf
    iexact H
  have h2 (p : Fin 2 × Fin 16) (r : Fin 4) : (outLoc d ↦[oSet p.1 p.2 r]{fullShare} g : sProp 𝕄)
      ⊢ iprop(∃ g : Buf (Elt F) (outLoc d), outLoc d ↦[oSet p.1 p.2 r]{fullShare} g) := by
    iintro H
    iexists g
    iexact H
  exact sep_mono (bigSep_mono fun p _ => h1 p) (sep_mono .rfl (bigSep_mono fun p _ => bigSep_mono fun r _ => h2 p r))

/-- The blocks brought back, put together. -/
theorem join [∀ e, Nonempty (Elt F e)] :
    (bigSep Finset.univ fun c : Fin 2 => bigSep Finset.univ fun i : Fin 16 => tdPts T ids d c i)
      ⊢ (iprop(∃ g : Buf (Elt F) (outLoc d), ⌜∀ j, OutRel T ids j (g j)⌝ ∗ (outLoc d ↦{fullShare} g)) : sProp 𝕄) := by
  rw [← bigSep_univ_prod (fun p : Fin 2 × Fin 16 => tdPts T ids d p.1 p.2)]
  unfold tdPts
  rw [← bigSep_univ_prod (fun p : (Fin 2 × Fin 16) × Fin 4 => (iprop(∃ g : Buf (Elt F) (outLoc d), ⌜∀ j ∈ oSet p.1.1 p.1.2 p.2, OutRel T ids j (g j)⌝
    ∗ (outLoc d ↦[oSet p.1.1 p.1.2 p.2]{fullShare} g)) : sProp 𝕄))]
  refine (bigSep_exists_pi Finset.univ (fun (p : (Fin 2 × Fin 16) × Fin 4) (g : Buf (Elt F) (outLoc d)) =>
    (iprop(⌜∀ j ∈ oSet p.1.1 p.1.2 p.2, OutRel T ids j (g j)⌝ ∗ (outLoc d ↦[oSet p.1.1 p.1.2 p.2]{fullShare} g)) : sProp 𝕄))).trans ?_
  iintro ⟨%gs, H⟩
  ihave H := (Entails.of_eq (bigSep_sep' Finset.univ _ _)) $$ H
  icases H with ⟨Hp, H⟩
  ihave Hp := (pures (fun p : (Fin 2 × Fin 16) × Fin 4 => ∀ j ∈ oSet p.1.1 p.1.2 p.2, OutRel T ids j (gs p j))) $$ Hp
  icases Hp with %hp
  ihave H' := (pointsTo_biUnion_join (ℓ := outLoc d) (q := fullShare) (Val := Elt F) Finset.univ (fun p : (Fin 2 × Fin 16) × Fin 4 => oSet p.1.1 p.1.2 p.2)
    gs (gs ((0, 0), 0)) oSets_disjoint) $$ H
  icases H' with ⟨%g, %hg, Hg⟩
  rw [oSets_cover]
  iexists g
  isplitr
  · ipureintro
    intro j
    have hj : j ∈ (Finset.univ : Finset ((Fin 2 × Fin 16) × Fin 4)).biUnion (fun p => oSet p.1.1 p.1.2 p.2) := by rw [oSets_cover]; exact Finset.mem_univ j
    obtain ⟨p, -, hj⟩ := Finset.mem_biUnion.mp hj
    rw [hg p (Finset.mem_univ p) j hj]
    exact hp p j hj
  iexact Hg

end Tile3

end Cert.Proof.I
-- ==== Proof.IPrep0.lean ====
/-
  The first packing call: its body at one grid point, and the call as a region of @main — from the transposed
  table, the two unit-matrix blocks and the packed table's array at anything, to the packed table related
  element by element to the table.
-/
module

public import proofs.«01_k».proof.Proof.ISc
public import Idealize.ShloMosaic.Lib.Pipeline.FrameBody

@[expose] public section

noncomputable section

namespace Cert.Proof.I.Prep0

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig (HIx 2) (Elt F) ℕ UU ℕ

/-- What the body stores, from the two staged blocks of the table and the two unit-matrix blocks. -/
def prepVal (a b : S20x12544.Idx → F .f32) (e : S1x2x20x128.Idx → F .f32) : S12544x128.Idx → F .f32 :=
  k0_pay1 a (fun j => e ((Rect.unit (s := S1x2x20x128) ![0, 0, 0, 0] S1x1x20x128.size inb_S1x2x20x128_S1x1x20x128_0_0_0_0).emb j))
    b (fun j => e ((Rect.unit (s := S1x2x20x128) ![0, 1, 0, 0] S1x1x20x128.size inb_S1x2x20x128_S1x1x20x128_0_1_0_0).emb j))

theorem zero2 : ∀ a, (![0, 0] : Fin 2 → ℕ) a = 0 := by decide

/-- The body run once. -/
theorem prep_run (c : Dev nD) (i : grid0.Coords) (M1 : Memref sig .tc .vmem S20x12544 .f32) (h1 : M1.IsWhole)
    (M2 : Memref sig .tc .vmem S20x12544 .f32) (h2 : M2.IsWhole) (M3 : Memref sig .tc .vmem S1x2x20x128 .f32) (h3 : M3.IsWhole)
    (M4 : Memref sig .tc .vmem S12544x128 .f32) (h4 : M4.IsWhole)
    (Y1 Y2 : S20x12544.Idx → F .f32) (Y3 : S1x2x20x128.Idx → F .f32) (Y4 : S12544x128.Idx → F .f32) :
    (iprop(owns (Val := Elt F) (c : Thread nD τ) M1 fullShare Y1 ∗ owns (Val := Elt F) (c : Thread nD τ) M2 fullShare Y2 ∗ owns (Val := Elt F) (c : Thread nD τ) M3 fullShare Y3
        ∗ owns (Val := Elt F) (c : Thread nD τ) M4 fullShare Y4) : sProp 𝕄)
      ⊢ wp frame (wpE (defs₀ (F := F)) 𝒱₀ (c : Thread nD τ) none) Set.univ (cc0__prep_body i M1 h1 M2 h2 M3 h3 M4 h4)
          fun _ => (iprop(owns (Val := Elt F) (c : Thread nD τ) M1 fullShare Y1 ∗ owns (Val := Elt F) (c : Thread nD τ) M2 fullShare Y2 ∗ owns (Val := Elt F) (c : Thread nD τ) M3 fullShare Y3
            ∗ owns (Val := Elt F) (c : Thread nD τ) M4 fullShare (prepVal Y1 Y2 Y3)) : sProp 𝕄) := by
  rw [cc0__prep_body_eq_skeleton]
  unfold owns cc0__prep_body_skel
  iintro ⟨⟨%f1, %e1, H1⟩, ⟨%f2, %e2, H2⟩, ⟨%f3, %e3, H3⟩, ⟨%f4, %e4, H4⟩⟩
  sl_exec!
  sl_step
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr; swap; · iexact H4
  ipureintro
  subst e1 e2 e3
  unfold prep_run.sl.H4_1
  rw [read_whole_write _ _ zero2, readAt_whole _ _ zero2, readAt_whole _ _ zero2]
  rfl

/-- The packed table related to the transposed table `src`: each of its rows was stored by the grid point the row belongs to, from a
    first block that is the table's, and a second that is the table's wherever it lies inside the table. -/
def Packed (src : S20x100000.Idx → F .f32) (e : S1x2x20x128.Idx → F .f32) (x : S50176x128.Idx) (v : F .f32) : Prop :=
  ∃ a b : S20x12544.Idx → F .f32,
    (∀ (j : S20x12544.Idx) (y : S20x100000.Idx), (y 0).val = (j 0).val → (y 1).val = 12544 * ((x 0).val / 12544) + (j 1).val → a j = src y)
    ∧ (∀ (j : S20x12544.Idx) (y : S20x100000.Idx), (y 0).val = (j 0).val → (y 1).val = 50176 + 12544 * ((x 0).val / 12544) + (j 1).val → b j = src y)
    ∧ ∀ j : S12544x128.Idx, (j 0).val = (x 0).val % 12544 → (j 1).val = (x 1).val → v = prepVal a b e j

/-! ## The region -/

variable (src : S20x100000.Idx → F .f32) (eyes : S1x2x20x128.Idx → F .f32) (O : CellTallies nD τ sig (HIx 2)) (B : Set (SemLoc sig × HIx 2))

/-- The region's proof data. -/
def rdat (A19 : S50176x128.Idx → F .f32) (c : Dev nD) : RDat τ (Elt F) (HIx 2) ℕ UU ℕ cfg0 c where
  A w := match w with
    | 0 => (src : Buf (Elt F) ((c : Thread nD τ).loc main_v18))
    | 1 => (src : Buf (Elt F) ((c : Thread nD τ).loc main_v18))
    | 2 => (eyes : Buf (Elt F) ((c : Thread nD τ).loc main_v17))
    | 3 => (A19 : Buf (Elt F) ((c : Thread nD τ).loc main_v19))
    | ⟨_ + 4, h⟩ => absurd h (Nat.not_lt.2 (Nat.le_add_left _ _))
  after w t _ := match w with
    | 0 => fun _ => True
    | 1 => fun _ => True
    | 2 => fun X => X = eyes
    | 3 => fun X => ∃ d0 d1 : S20x12544.Idx → F .f32,
        X = prepVal ((cfg0.win 0).fill (grid0.coords t) d0 (((cfg0.win 0).blk t).view.read (Elt F) src))
          ((cfg0.win 1).fill (grid0.coords t) d1 (((cfg0.win 1).blk t).view.read (Elt F) src)) eyes
    | ⟨_ + 4, h⟩ => absurd h (Nat.not_lt.2 (Nat.le_add_left _ _))
  Φ _ := Pipeline.scopedRest (Ix := HIx 2) (Name := ℕ) (U := UU) (Lvl := ℕ) (Val := Elt F) spec0 c
  q w := match w with
    | 0 => fullShare.left
    | 1 => fullShare.right
    | _ => fullShare
  owed _ := O
  recorded _ := B

/-- Proof data for a pipeline this region does not run: anything. -/
def junk {cfg : Pipeline.Cfg sig Λ₀} (c : Dev nD) : RDat τ (Elt F) (HIx 2) ℕ UU ℕ cfg c where
  A _ := fun _ => Classical.arbitrary _
  after _ _ _ _ := True
  Φ _ := BI.emp
  q _ := fullShare
  owed _ := 0

abbrev adm : (p : Fin 3) → (pcfgs (F := F) p).Adm := fun p => (cfgs p).toPCfg_adm

theorem index2 : ∀ (t : Fin grid0.N) (a : Fin 4), win0_2.index t a = 0 := by decide +kernel
theorem index0 : ∀ t : Fin grid0.N, win0_0.index t 0 = 0 ∧ win0_0.index t 1 = t.val := by decide +kernel
theorem index1 : ∀ t : Fin grid0.N, win0_1.index t 0 = 0 ∧ win0_1.index t 1 = 4 + t.val := by decide +kernel
theorem index3 : ∀ t : Fin grid0.N, win0_3.index t 0 = t.val ∧ win0_3.index t 1 = 0 := by decide +kernel
theorem xsize0 : ∀ t : Fin grid0.N, win0_0.xsize (grid0.coords t) 0 = 20 ∧ win0_0.xsize (grid0.coords t) 1 = 12544 := by decide +kernel
theorem xsize1 : ∀ t : Fin grid0.N, win0_1.xsize (grid0.coords t) 0 = 20 ∧ win0_1.xsize (grid0.coords t) 1 = min 12544 (49824 - 12544 * t.val) := by decide +kernel

theorem wholeEyes (t : Fin grid0.N) (d : S1x2x20x128.Idx → F .f32) :
    (cfg0.win 2).fill (grid0.coords t) d (((cfg0.win 2).blk t).view.read (Elt F) eyes) = eyes := by
  funext j
  show eyes ((win0_2.rect t).emb j) = eyes j
  exact congrArg eyes (funext fun a => Fin.ext (Pipeline.Window.rect_emb_val_of_index_zero win0_2 t a (index2 t a) j))

/-- The first staged block is the table's. -/
theorem first_block (t : Fin grid0.N) (d : S20x12544.Idx → F .f32) (j : S20x12544.Idx) (y : S20x100000.Idx) (h0 : (y 0).val = (j 0).val)
    (h1 : (y 1).val = 12544 * t.val + (j 1).val) :
    (cfg0.win 0).fill (grid0.coords t) d (((cfg0.win 0).blk t).view.read (Elt F) src) j = src y := by
  have hm : win0_0.moved (grid0.coords t) j = true := (win0_0.moved_iff _ j).mpr fun a => by
    match a with
    | ⟨0, _⟩ => exact lt_of_lt_of_eq (j 0).isLt (xsize0 t).1.symm
    | ⟨1, _⟩ => exact lt_of_lt_of_eq (j 1).isLt (xsize0 t).2.symm
  unfold Pipeline.Window.fill
  rw [dif_pos hm]
  refine congrArg src (funext fun a => Fin.ext ?_)
  refine (Pipeline.Window.rect_emb_val win0_0 t _ a).trans ?_
  match a with
  | ⟨0, _⟩ => show win0_0.index t 0 * 20 + (j 0).val = (y 0).val; rw [(index0 t).1, h0]; omega
  | ⟨1, _⟩ => show win0_0.index t 1 * 12544 + (j 1).val = (y 1).val; rw [(index0 t).2, h1]; omega

/-- The second is the table's where it lies inside the table. -/
theorem second_block (t : Fin grid0.N) (d : S20x12544.Idx → F .f32) (j : S20x12544.Idx) (y : S20x100000.Idx) (h0 : (y 0).val = (j 0).val)
    (h1 : (y 1).val = 50176 + 12544 * t.val + (j 1).val) :
    (cfg0.win 1).fill (grid0.coords t) d (((cfg0.win 1).blk t).view.read (Elt F) src) j = src y := by
  have hy : (y 1).val < 100000 := (y 1).isLt
  have hj : (j 1).val < 12544 := (j 1).isLt
  have hm : win0_1.moved (grid0.coords t) j = true := (win0_1.moved_iff _ j).mpr fun a => by
    match a with
    | ⟨0, _⟩ => exact lt_of_lt_of_eq (j 0).isLt (xsize1 t).1.symm
    | ⟨1, _⟩ => exact lt_of_lt_of_eq (show (j 1).val < min 12544 (49824 - 12544 * t.val) by omega) (xsize1 t).2.symm
  unfold Pipeline.Window.fill
  rw [dif_pos hm]
  refine congrArg src (funext fun a => Fin.ext ?_)
  refine (Pipeline.Window.rect_emb_val win0_1 t _ a).trans ?_
  match a with
  | ⟨0, _⟩ => show win0_1.index t 0 * 20 + (j 0).val = (y 0).val; rw [(index1 t).1, h0]; omega
  | ⟨1, _⟩ => show win0_1.index t 1 * 12544 + (j 1).val = (y 1).val; rw [(index1 t).2, h1]; omega

/-- What the array may hold at the end is packed from the table. -/
theorem packed_of_arr (A19 : S50176x128.Idx → F .f32) (c : Dev nD) (G : S50176x128.Idx → F .f32)
    (hG : (rdat src eyes O B A19 c).ArrAt 3 cfg0.N G) (x : S50176x128.Idx) : Packed src eyes x (G x) := by
  obtain ⟨X, hX, hA⟩ := hG.exists_exact
  let aft : (w : Fin cfg0.W) → Fin cfg0.N → (cfg0.win w).block.Idx → Elt F (cfg0.win w).elt := Function.update (fun _ _ _ => Classical.arbitrary _) 3 X
  have haft : aft 3 = X := Function.update_self ..
  have e := hA aft fun u _ _ => by rw [haft]
  rw [e]
  refine Pipeline.Dat.arrAt_forall_of_covers ((rdat src eyes O B A19 c).withAfter aft) 3 (harr := arr_whole0 3) (fun x v => Packed src eyes x v) (by decide +kernel) (fun t hf y => ?_) x
  obtain ⟨Y, -, d0, d1, hXt⟩ := hX t t.isLt hf
  have e0 : ((win0_3.rect t).emb y 0).val = win0_3.index t 0 * 12544 + (y 0).val := Pipeline.Window.rect_emb_val win0_3 t y 0
  have e1 : ((win0_3.rect t).emb y 1).val = win0_3.index t 1 * 128 + (y 1).val := Pipeline.Window.rect_emb_val win0_3 t y 1
  rw [(index3 t).1] at e0
  rw [(index3 t).2] at e1
  have hy : (y 0).val < 12544 := (y 0).isLt
  have hd : ((win0_3.rect t).emb y 0).val / 12544 = t.val := by omega
  have hr : ((win0_3.rect t).emb y 0).val % 12544 = (y 0).val := by omega
  show Packed src eyes ((win0_3.rect t).emb y) _
  refine ⟨_, _, fun j z h0 h1 => first_block src t d0 j z h0 (by rw [hd] at h1; exact h1),
    fun j z h0 h1 => second_block src t d1 j z h0 (by rw [hd] at h1; exact h1), fun j h0 h1 => ?_⟩
  rw [hr] at h0
  have ej : j = y := funext fun a => Fin.ext (by
    match a with
    | ⟨0, _⟩ => exact h0
    | ⟨1, _⟩ => exact h1.trans (e1.trans (by show 0 * 128 + (y 1).val = (y 1).val; omega)))
  rw [ej]
  show aft 3 t y = _
  rw [haft, hXt]

/-- What the body finds of the unit-matrix blocks: them. -/
theorem finds_eyes (A19 : S50176x128.Idx → F .f32) (c : Dev nD) (t : Fin cfg0.N) (X) (h : (rdat src eyes O B A19 c).Finds 2 t X) : X = eyes := by
  by_cases hf : (cfg0.win 2).fetch t = true
  · obtain ⟨d, rfl⟩ := (RDat.finds_of_fetch _ hf X).1 h
    exact wholeEyes eyes t d
  · have ht : t.val ≠ 0 := fun h0 => hf ((fetch0_2 t).2 (by rw [h0]))
    rcases (RDat.finds_of_pos _ (Bool.eq_false_iff.2 hf) ht X).1 h with hfl | ⟨Y, -, hY⟩
    · exact absurd hfl (by rw [(cfg0.win 2).flush_in rfl]; exact Bool.false_ne_true)
    · exact hY

theorem body_obligation (A19 : S50176x128.Idx → F .f32) (c : Dev nD) :
    (rdat src eyes O B A19 c).BodyObligation (defs₀ (F := F)) 𝒱₀ none Set.univ := fun t Y hY => by
  have h2 := finds_eyes src eyes O B A19 c t _ (hY 2)
  obtain ⟨d0, h0⟩ := (RDat.finds_of_fetch _ (fetch0_0 t) _).1 (hY 0)
  obtain ⟨d1, h1⟩ := (RDat.finds_of_fetch _ (fetch0_1 t) _).1 (hY 1)
  rw [bigSep_W0, bigSep_W0, show (rdat src eyes O B A19 c).Φ t.succ = (rdat src eyes O B A19 c).Φ t.castSucc from rfl,
    show (rdat src eyes O B A19 c).owesAt none t.succ = (rdat src eyes O B A19 c).owesAt none t.castSucc from rfl]
  change _ ⊢ wp frame (wpE (defs₀ (F := F)) 𝒱₀ (c : Thread nD τ) none) Set.univ (bodyAt0 t) _
  iintro ⟨HΦ, HO, H0, H1, H2, H3⟩
  iapply (wp_wand_r frame (wpE (defs₀ (F := F)) 𝒱₀ (c : Thread nD τ) none) Set.univ)
  isplitl [H0 H1 H2 H3]
  · iapply (prep_run (F := F) c (grid0.coords t) _ _ _ _ _ _ _ _ (Y 0) (Y 1) (Y 2) (Y 3))
    isplitl [H0]; · iexact H0
    isplitl [H1]; · iexact H1
    isplitl [H2]; · iexact H2
    iexact H3
  · iintro %_ ⟨H0, H1, H2, H3⟩
    isplitl [HΦ]; · iexact HΦ
    isplitl [HO]; · iexact HO
    isplitl [H0]; · iexists _; isplitr; swap; · iexact H0
                    ipureintro; trivial
    isplitl [H1]; · iexists _; isplitr; swap; · iexact H1
                    ipureintro; trivial
    isplitl [H2]; · iexists _; isplitr; swap; · iexact H2
                    ipureintro; exact h2
    iexists _; isplitr; swap; · iexact H3
    ipureintro
    refine ⟨d0, d1, ?_⟩
    rw [h0, h1, h2]; rfl

end Cert.Proof.I.Prep0
-- ==== Proof.IReg0.lean ====
/-
  The first packing call as a region of @main: from the transposed table, the two unit-matrix blocks and the packed
  table's array at anything, to the packed table related element by element to the table.
-/
module

public import proofs.«01_k».proof.Proof.IPrep0
public import Idealize.ShloMosaic.Lib.Pipeline.RegionsLoop

@[expose] public section

noncomputable section

namespace Cert.Proof.I.Prep0

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig (HIx 2) (Elt F) ℕ UU ℕ

variable (src : S20x100000.Idx → F .f32) (eyes : S1x2x20x128.Idx → F .f32) (O : CellTallies nD τ sig (HIx 2)) (B : Set (SemLoc sig × HIx 2))

abbrev srcLoc (d : Dev nD) : Loc nD τ sig := (d : Thread nD τ).loc main_v18
abbrev eyesLoc (d : Dev nD) : Loc nD τ sig := (d : Thread nD τ).loc main_v17
abbrev tblLoc (d : Dev nD) : Loc nD τ sig := (d : Thread nD τ).loc main_v19

/-- The proof data of the three TensorCore calls, when this one is run: its own, anything elsewhere. -/
def rdats (A19 : S50176x128.Idx → F .f32) : (p : Fin 3) → (c : Dev nD) → RDat τ (Elt F) (HIx 2) ℕ UU ℕ (Pipeline.pin (pcfgs (F := F)) adm p) c
  | 0 => fun c => rdat src eyes O B A19 c
  | 1 => fun c => junk c
  | 2 => fun c => junk c

/-- The windows' arrays, from the three buffers. -/
theorem arrays_intro (A19 : S50176x128.Idx → F .f32) (d : Dev nD) :
    (iprop((srcLoc d ↦{fullShare} (src : Buf (Elt F) (srcLoc d))) ∗ (eyesLoc d ↦{fullShare} (eyes : Buf (Elt F) (eyesLoc d)))
        ∗ (tblLoc d ↦{fullShare} (A19 : Buf (Elt F) (tblLoc d)))) : sProp 𝕄)
      ⊢ (rdat src eyes O B A19 d).arrays (rdat src eyes O B A19 d).A := by
  unfold Pipeline.RDat.arrays
  rw [bigSep_W0, show (cfg0.win 0).arr.view.set = Finset.univ from (arr_whole0 0).set_eq_univ,
    show (cfg0.win 2).arr.view.set = Finset.univ from (arr_whole0 2).set_eq_univ, show (cfg0.win 3).arr.view.set = Finset.univ from (arr_whole0 3).set_eq_univ,
    show (rdat src eyes O B A19 d).share 0 = fullShare.left from rfl, show (rdat src eyes O B A19 d).share 1 = fullShare.right from rfl,
    show (rdat src eyes O B A19 d).share 2 = fullShare from rfl, show (rdat src eyes O B A19 d).share 3 = fullShare from rfl]
  iintro ⟨H0, H2, H3⟩
  ihave H0 := (pointsTo_share (ℓ := srcLoc d) (f := (src : Buf (Elt F) (srcLoc d))) (PosShare.mem_left_op_right fullShare)).1 $$ H0
  icases H0 with ⟨H0, H1⟩
  isplitl [H0]; · iexact H0
  isplitl [H1]; · iexact H1
  isplitl [H2]; · iexact H2
  iexact H3

/-- What the region leaves of them. -/
theorem arrays_elim (A19 : S50176x128.Idx → F .f32) (d : Dev nD) :
    (rdat src eyes O B A19 d).arraysAt cfg0.N
      ⊢ (iprop((eyesLoc d ↦{fullShare} (eyes : Buf (Elt F) (eyesLoc d)))
        ∗ ∃ f : S50176x128.Idx → F .f32, ⌜∀ x, Packed src eyes x (f x)⌝ ∗ (tblLoc d ↦{fullShare} (f : Buf (Elt F) (tblLoc d)))) : sProp 𝕄) := by
  unfold Pipeline.RDat.arraysAt
  rw [bigSep_W0]
  iintro ⟨-, -, ⟨%f2, %h2, H2⟩, ⟨%f3, %h3, H3⟩⟩
  isplitl [H2]
  · have e2 : f2 = (rdat src eyes O B A19 d).A 2 := by rw [(rdat src eyes O B A19 d).ArrAt_in 2 rfl] at h2; exact h2
    subst e2
    rw [show (cfg0.win 2).arr.view.set = Finset.univ from (arr_whole0 2).set_eq_univ]
    iexact H2
  · iexists f3
    isplitr; · ipureintro; exact packed_of_arr src eyes O B A19 d f3 h3
    rw [show (cfg0.win 3).arr.view.set = Finset.univ from (arr_whole0 3).set_eq_univ]
    iexact H3

/-- The tallies within the region's bound are those within `B`. -/
theorem bound_sub (hB : ∀ p : SemLoc sig × HIx 2, p.2 = none → p ∈ B) (A19 : S50176x128.Idx → F .f32) (d : Dev nD) (t) :
    ∀ p ∈ (rdat src eyes O B A19 d).bound none t, p ∈ B := fun p hp => by
  rcases hp with hp | ⟨w, s, rfl⟩
  · exact hp
  · exact hB _ rfl

/-- What the region is entered with, -/
def preP (A19 : S50176x128.Idx → F .f32) (d : Dev nD) : sProp 𝕄 :=
  iprop((srcLoc d ↦{fullShare} (src : Buf (Elt F) (srcLoc d))) ∗ (eyesLoc d ↦{fullShare} (eyes : Buf (Elt F) (eyesLoc d)))
        ∗ (tblLoc d ↦{fullShare} (A19 : Buf (Elt F) (tblLoc d))) ∗ Pipeline.owesWithin d O B)

/-- and what it leaves. -/
def postP (d : Dev nD) : sProp 𝕄 :=
  iprop(((eyesLoc d ↦{fullShare} (eyes : Buf (Elt F) (eyesLoc d)))
        ∗ ∃ f : S50176x128.Idx → F .f32, ⌜∀ x, Packed src eyes x (f x)⌝ ∗ (tblLoc d ↦{fullShare} (f : Buf (Elt F) (tblLoc d)))) ∗ Pipeline.owesWithin d O B)

set_option backward.isDefEq.respectTransparency.types false in
/-- The region. -/
def reg (hO : ∀ g, O g none = 0) (hB : ∀ p : SemLoc sig × HIx 2, p.2 = none → p ∈ B) (A19 : S50176x128.Idx → F .f32) :
    RDat.RegionSeg (pcfgs (F := F)) adm (rdats src eyes O B A19) none defs₀ 𝒱₀ (SC (F := F)).L (SC (F := F)).lev 0 where
  win := winFacts₀0
  block_pos := block_pos0
  stage_whole := stage_whole0
  K := PEmpty
  osem k := k.elim
  ho := Pipeline.OwnSemFacts.none _
  hbody c := body_obligation src eyes O B A19 c
  hwaits c := RDat.cellsWaits_intro (Pipeline.pin (pcfgs (F := F)) adm) (rdats src eyes O B A19) none 0 c fun w s t => (SC (F := F)).mayWait_none _ hO
  pre d := preP src eyes O B A19 d
  post d := postP src eyes O B d
  X _ := BI.emp
  Y _ := BI.emp
  Z _ := BI.emp
  hentry c := by
    rw [Pipeline.ownSems0_none]
    unfold preP
    iintro ⟨⟨H0, H2, H3, HO⟩, -, -⟩
    imodintro
    isplitl [H0 H2 H3]
    · iapply (arrays_intro src eyes O B A19 c)
      isplitl [H0]; · iexact H0
      isplitl [H2]; · iexact H2
      iexact H3
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW hp)
      iexact HO
    isplitr <;> iempintro
  hin c := by
    rw [show (rdats src eyes O B A19 0 c).Φ 0 = Pipeline.scopedRest (Ix := HIx 2) (Name := ℕ) (U := UU) (Lvl := ℕ) (Val := Elt F) spec0 c from rfl]
    iintro ⟨-, -, Hr⟩; iexact Hr
  hout c := by
    rw [Pipeline.ownSems0_none, show (rdats src eyes O B A19 0 c).Φ (Fin.last _) = Pipeline.scopedRest (Ix := HIx 2) (Name := ℕ) (U := UU) (Lvl := ℕ) (Val := Elt F) spec0 c from rfl]
    iintro Hr
    isplitr; · iempintro
    isplitr; · iempintro
    iexact Hr
  hexit c := by
    unfold postP
    iintro ⟨Ha, HO, -, -⟩
    imodintro
    isplitl [Ha]
    · iapply (arrays_elim src eyes O B A19 c); iexact Ha
    unfold Pipeline.RDat.owesAt Pipeline.owesWithin
    icases HO with ⟨%W, %hW, HO⟩; iexists W; isplitr; · ipureintro; exact fun p hp => bound_sub src eyes O B hB A19 c _ p (hW hp)
    iexact HO

/-- The call, run. -/
theorem call_wp (d : Dev nD) (hO : ∀ g, O g none = 0) (hB : ∀ p : SemLoc sig × HIx 2, p.2 = none → p ∈ B) :
    (iprop(boundary (d : Thread nD τ) ∗ (srcLoc d ↦{fullShare} (src : Buf (Elt F) (srcLoc d))) ∗ (eyesLoc d ↦{fullShare} (eyes : Buf (Elt F) (eyesLoc d)))
        ∗ (∃ f : Buf (Elt F) (tblLoc d), tblLoc d ↦{fullShare} f) ∗ Pipeline.owesWithin d O B ∗ levAts (SC (F := F)).L (SC (F := F)).lev
        ∗ Pipeline.cellsGhost (Pipeline.pin (pcfgs (F := F)) adm) EP 0 d ∗ Pipeline.toksInit (Pipeline.pin (pcfgs (F := F)) adm) EP 0 d) : sProp 𝕄)
      ⊢ wp frame (wpE (DD (F := F)) 𝒱P (d : Thread nD τ) none) Set.univ (Prog.lift (.customCall (Pipeline.entry 0) ()))
          fun _ => (iprop(boundary (d : Thread nD τ) ∗ (eyesLoc d ↦{fullShare} (eyes : Buf (Elt F) (eyesLoc d)))
            ∗ (∃ f : S50176x128.Idx → F .f32, ⌜∀ x, Packed src eyes x (f x)⌝ ∗ (tblLoc d ↦{fullShare} (f : Buf (Elt F) (tblLoc d))))
            ∗ Pipeline.owesWithin d O B) : sProp 𝕄) := by
  iintro ⟨Hb, H0, H2, ⟨%A19, H3⟩, HO, HL, Hg, Ht⟩
  have H := RDat.RegionSeg.wp (pcfgs (F := F)) adm (rdats src eyes O B A19) none cellOf_inj EP defs₀ 𝒱₀ (SC (F := F)).L (SC (F := F)).lev
    (reg src eyes O B hO hB A19) d none (fun _ h => absurd h (Option.not_mem_none _)) Prog.ret
    (fun _ => (iprop(boundary (d : Thread nD τ) ∗ (eyesLoc d ↦{fullShare} (eyes : Buf (Elt F) (eyesLoc d)))
            ∗ (∃ f : S50176x128.Idx → F .f32, ⌜∀ x, Packed src eyes x (f x)⌝ ∗ (tblLoc d ↦{fullShare} (f : Buf (Elt F) (tblLoc d))))
            ∗ Pipeline.owesWithin d O B) : sProp 𝕄))
  rw [show (reg src eyes O B hO hB A19).pre d = preP src eyes O B A19 d from rfl, show (reg src eyes O B hO hB A19).post d = postP src eyes O B d from rfl, preP, postP] at H
  iapply H
  isplitr
  · iintro ⟨Hb, ⟨H2, H3⟩, HO⟩
    rw [wp_ret]
    imodintro
    isplitl [Hb]; · iexact Hb
    isplitl [H2]; · iexact H2
    isplitl [H3]; · iexact H3
    iexact HO
  isplitl [Hb]; · iexact Hb
  isplitl [H0 H2 H3 HO]
  · isplitl [H0]; · iexact H0
    isplitl [H2]; · iexact H2
    isplitl [H3]; · iexact H3
    iexact HO
  isplitl [HL]; · iexact HL
  isplitl [Hg]; · iexact Hg
  iexact Ht

end Cert.Proof.I.Prep0
-- ==== Proof.IPrep2.lean ====
/-
  The second packing call: its body at one grid point, and the call as a region of @main — from the transposed
  table, the two unit-matrix blocks and the packed table's array at anything, to the packed table related
  element by element to the table.
-/
module

public import proofs.«01_k».proof.Proof.ISc
public import Idealize.ShloMosaic.Lib.Pipeline.FrameBody

@[expose] public section

noncomputable section

namespace Cert.Proof.I.Prep2

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig (HIx 2) (Elt F) ℕ UU ℕ

/-- What the body stores, from the two staged blocks of the table and the two unit-matrix blocks. -/
def prepVal (a b : S20x12544.Idx → F .f32) (e : S1x2x20x128.Idx → F .f32) : S12544x128.Idx → F .f32 :=
  k2_pay1 a (fun j => e ((Rect.unit (s := S1x2x20x128) ![0, 0, 0, 0] S1x1x20x128.size inb_S1x2x20x128_S1x1x20x128_0_0_0_0).emb j))
    b (fun j => e ((Rect.unit (s := S1x2x20x128) ![0, 1, 0, 0] S1x1x20x128.size inb_S1x2x20x128_S1x1x20x128_0_1_0_0).emb j))

theorem zero2 : ∀ a, (![0, 0] : Fin 2 → ℕ) a = 0 := by decide

/-- The body run once. -/
theorem prep_run (c : Dev nD) (i : grid2.Coords) (M1 : Memref sig .tc .vmem S20x12544 .f32) (h1 : M1.IsWhole)
    (M2 : Memref sig .tc .vmem S20x12544 .f32) (h2 : M2.IsWhole) (M3 : Memref sig .tc .vmem S1x2x20x128 .f32) (h3 : M3.IsWhole)
    (M4 : Memref sig .tc .vmem S12544x128 .f32) (h4 : M4.IsWhole)
    (Y1 Y2 : S20x12544.Idx → F .f32) (Y3 : S1x2x20x128.Idx → F .f32) (Y4 : S12544x128.Idx → F .f32) :
    (iprop(owns (Val := Elt F) (c : Thread nD τ) M1 fullShare Y1 ∗ owns (Val := Elt F) (c : Thread nD τ) M2 fullShare Y2 ∗ owns (Val := Elt F) (c : Thread nD τ) M3 fullShare Y3
        ∗ owns (Val := Elt F) (c : Thread nD τ) M4 fullShare Y4) : sProp 𝕄)
      ⊢ wp frame (wpE (defs₀ (F := F)) 𝒱₀ (c : Thread nD τ) none) Set.univ (cc2__prep_body i M1 h1 M2 h2 M3 h3 M4 h4)
          fun _ => (iprop(owns (Val := Elt F) (c : Thread nD τ) M1 fullShare Y1 ∗ owns (Val := Elt F) (c : Thread nD τ) M2 fullShare Y2 ∗ owns (Val := Elt F) (c : Thread nD τ) M3 fullShare Y3
            ∗ owns (Val := Elt F) (c : Thread nD τ) M4 fullShare (prepVal Y1 Y2 Y3)) : sProp 𝕄) := by
  rw [cc2__prep_body_eq_skeleton]
  unfold owns cc2__prep_body_skel
  iintro ⟨⟨%f1, %e1, H1⟩, ⟨%f2, %e2, H2⟩, ⟨%f3, %e3, H3⟩, ⟨%f4, %e4, H4⟩⟩
  sl_exec!
  sl_step
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr; swap; · iexact H4
  ipureintro
  subst e1 e2 e3
  unfold prep_run.sl.H4_1
  rw [read_whole_write _ _ zero2, readAt_whole _ _ zero2, readAt_whole _ _ zero2]
  rfl

/-- The packed table related to the transposed table `src`: each of its rows was stored by the grid point the row belongs to, from a
    first block that is the table's, and a second that is the table's wherever it lies inside the table. -/
def Packed (src : S20x100000.Idx → F .f32) (e : S1x2x20x128.Idx → F .f32) (x : S50176x128.Idx) (v : F .f32) : Prop :=
  ∃ a b : S20x12544.Idx → F .f32,
    (∀ (j : S20x12544.Idx) (y : S20x100000.Idx), (y 0).val = (j 0).val → (y 1).val = 12544 * ((x 0).val / 12544) + (j 1).val → a j = src y)
    ∧ (∀ (j : S20x12544.Idx) (y : S20x100000.Idx), (y 0).val = (j 0).val → (y 1).val = 50176 + 12544 * ((x 0).val / 12544) + (j 1).val → b j = src y)
    ∧ ∀ j : S12544x128.Idx, (j 0).val = (x 0).val % 12544 → (j 1).val = (x 1).val → v = prepVal a b e j

/-! ## The region -/

variable (src : S20x100000.Idx → F .f32) (eyes : S1x2x20x128.Idx → F .f32) (O : CellTallies nD τ sig (HIx 2)) (B : Set (SemLoc sig × HIx 2))

/-- The region's proof data. -/
def rdat (A19 : S50176x128.Idx → F .f32) (c : Dev nD) : RDat τ (Elt F) (HIx 2) ℕ UU ℕ cfg2 c where
  A w := match w with
    | 0 => (src : Buf (Elt F) ((c : Thread nD τ).loc main_v21))
    | 1 => (src : Buf (Elt F) ((c : Thread nD τ).loc main_v21))
    | 2 => (eyes : Buf (Elt F) ((c : Thread nD τ).loc main_v17))
    | 3 => (A19 : Buf (Elt F) ((c : Thread nD τ).loc main_v22))
    | ⟨_ + 4, h⟩ => absurd h (Nat.not_lt.2 (Nat.le_add_left _ _))
  after w t _ := match w with
    | 0 => fun _ => True
    | 1 => fun _ => True
    | 2 => fun X => X = eyes
    | 3 => fun X => ∃ d0 d1 : S20x12544.Idx → F .f32,
        X = prepVal ((cfg2.win 0).fill (grid2.coords t) d0 (((cfg2.win 0).blk t).view.read (Elt F) src))
          ((cfg2.win 1).fill (grid2.coords t) d1 (((cfg2.win 1).blk t).view.read (Elt F) src)) eyes
    | ⟨_ + 4, h⟩ => absurd h (Nat.not_lt.2 (Nat.le_add_left _ _))
  Φ _ := Pipeline.scopedRest (Ix := HIx 2) (Name := ℕ) (U := UU) (Lvl := ℕ) (Val := Elt F) spec2 c
  q w := match w with
    | 0 => fullShare.left
    | 1 => fullShare.right
    | _ => fullShare
  owed _ := O
  recorded _ := B

/-- Proof data for a pipeline this region does not run: anything. -/
def junk {cfg : Pipeline.Cfg sig Λ₀} (c : Dev nD) : RDat τ (Elt F) (HIx 2) ℕ UU ℕ cfg c where
  A _ := fun _ => Classical.arbitrary _
  after _ _ _ _ := True
  Φ _ := BI.emp
  q _ := fullShare
  owed _ := 0

abbrev adm : (p : Fin 3) → (pcfgs (F := F) p).Adm := fun p => (cfgs p).toPCfg_adm

theorem index2 : ∀ (t : Fin grid2.N) (a : Fin 4), win2_2.index t a = 0 := by decide +kernel
theorem index0 : ∀ t : Fin grid2.N, win2_0.index t 0 = 0 ∧ win2_0.index t 1 = t.val := by decide +kernel
theorem index1 : ∀ t : Fin grid2.N, win2_1.index t 0 = 0 ∧ win2_1.index t 1 = 4 + t.val := by decide +kernel
theorem index3 : ∀ t : Fin grid2.N, win2_3.index t 0 = t.val ∧ win2_3.index t 1 = 0 := by decide +kernel
theorem xsize0 : ∀ t : Fin grid2.N, win2_0.xsize (grid2.coords t) 0 = 20 ∧ win2_0.xsize (grid2.coords t) 1 = 12544 := by decide +kernel
theorem xsize1 : ∀ t : Fin grid2.N, win2_1.xsize (grid2.coords t) 0 = 20 ∧ win2_1.xsize (grid2.coords t) 1 = min 12544 (49824 - 12544 * t.val) := by decide +kernel

theorem wholeEyes (t : Fin grid2.N) (d : S1x2x20x128.Idx → F .f32) :
    (cfg2.win 2).fill (grid2.coords t) d (((cfg2.win 2).blk t).view.read (Elt F) eyes) = eyes := by
  funext j
  show eyes ((win2_2.rect t).emb j) = eyes j
  exact congrArg eyes (funext fun a => Fin.ext (Pipeline.Window.rect_emb_val_of_index_zero win2_2 t a (index2 t a) j))

/-- The first staged block is the table's. -/
theorem first_block (t : Fin grid2.N) (d : S20x12544.Idx → F .f32) (j : S20x12544.Idx) (y : S20x100000.Idx) (h0 : (y 0).val = (j 0).val)
    (h1 : (y 1).val = 12544 * t.val + (j 1).val) :
    (cfg2.win 0).fill (grid2.coords t) d (((cfg2.win 0).blk t).view.read (Elt F) src) j = src y := by
  have hm : win2_0.moved (grid2.coords t) j = true := (win2_0.moved_iff _ j).mpr fun a => by
    match a with
    | ⟨0, _⟩ => exact lt_of_lt_of_eq (j 0).isLt (xsize0 t).1.symm
    | ⟨1, _⟩ => exact lt_of_lt_of_eq (j 1).isLt (xsize0 t).2.symm
  unfold Pipeline.Window.fill
  rw [dif_pos hm]
  refine congrArg src (funext fun a => Fin.ext ?_)
  refine (Pipeline.Window.rect_emb_val win2_0 t _ a).trans ?_
  match a with
  | ⟨0, _⟩ => show win2_0.index t 0 * 20 + (j 0).val = (y 0).val; rw [(index0 t).1, h0]; omega
  | ⟨1, _⟩ => show win2_0.index t 1 * 12544 + (j 1).val = (y 1).val; rw [(index0 t).2, h1]; omega

/-- The second is the table's where it lies inside the table. -/
theorem second_block (t : Fin grid2.N) (d : S20x12544.Idx → F .f32) (j : S20x12544.Idx) (y : S20x100000.Idx) (h0 : (y 0).val = (j 0).val)
    (h1 : (y 1).val = 50176 + 12544 * t.val + (j 1).val) :
    (cfg2.win 1).fill (grid2.coords t) d (((cfg2.win 1).blk t).view.read (Elt F) src) j = src y := by
  have hy : (y 1).val < 100000 := (y 1).isLt
  have hj : (j 1).val < 12544 := (j 1).isLt
  have hm : win2_1.moved (grid2.coords t) j = true := (win2_1.moved_iff _ j).mpr fun a => by
    match a with
    | ⟨0, _⟩ => exact lt_of_lt_of_eq (j 0).isLt (xsize1 t).1.symm
    | ⟨1, _⟩ => exact lt_of_lt_of_eq (show (j 1).val < min 12544 (49824 - 12544 * t.val) by omega) (xsize1 t).2.symm
  unfold Pipeline.Window.fill
  rw [dif_pos hm]
  refine congrArg src (funext fun a => Fin.ext ?_)
  refine (Pipeline.Window.rect_emb_val win2_1 t _ a).trans ?_
  match a with
  | ⟨0, _⟩ => show win2_1.index t 0 * 20 + (j 0).val = (y 0).val; rw [(index1 t).1, h0]; omega
  | ⟨1, _⟩ => show win2_1.index t 1 * 12544 + (j 1).val = (y 1).val; rw [(index1 t).2, h1]; omega

/-- What the array may hold at the end is packed from the table. -/
theorem packed_of_arr (A19 : S50176x128.Idx → F .f32) (c : Dev nD) (G : S50176x128.Idx → F .f32)
    (hG : (rdat src eyes O B A19 c).ArrAt 3 cfg2.N G) (x : S50176x128.Idx) : Packed src eyes x (G x) := by
  obtain ⟨X, hX, hA⟩ := hG.exists_exact
  let aft : (w : Fin cfg2.W) → Fin cfg2.N → (cfg2.win w).block.Idx → Elt F (cfg2.win w).elt := Function.update (fun _ _ _ => Classical.arbitrary _) 3 X
  have haft : aft 3 = X := Function.update_self ..
  have e := hA aft fun u _ _ => by rw [haft]
  rw [e]
  refine Pipeline.Dat.arrAt_forall_of_covers ((rdat src eyes O B A19 c).withAfter aft) 3 (harr := arr_whole2 3) (fun x v => Packed src eyes x v) (by decide +kernel) (fun t hf y => ?_) x
  obtain ⟨Y, -, d0, d1, hXt⟩ := hX t t.isLt hf
  have e0 : ((win2_3.rect t).emb y 0).val = win2_3.index t 0 * 12544 + (y 0).val := Pipeline.Window.rect_emb_val win2_3 t y 0
  have e1 : ((win2_3.rect t).emb y 1).val = win2_3.index t 1 * 128 + (y 1).val := Pipeline.Window.rect_emb_val win2_3 t y 1
  rw [(index3 t).1] at e0
  rw [(index3 t).2] at e1
  have hy : (y 0).val < 12544 := (y 0).isLt
  have hd : ((win2_3.rect t).emb y 0).val / 12544 = t.val := by omega
  have hr : ((win2_3.rect t).emb y 0).val % 12544 = (y 0).val := by omega
  show Packed src eyes ((win2_3.rect t).emb y) _
  refine ⟨_, _, fun j z h0 h1 => first_block src t d0 j z h0 (by rw [hd] at h1; exact h1),
    fun j z h0 h1 => second_block src t d1 j z h0 (by rw [hd] at h1; exact h1), fun j h0 h1 => ?_⟩
  rw [hr] at h0
  have ej : j = y := funext fun a => Fin.ext (by
    match a with
    | ⟨0, _⟩ => exact h0
    | ⟨1, _⟩ => exact h1.trans (e1.trans (by show 0 * 128 + (y 1).val = (y 1).val; omega)))
  rw [ej]
  show aft 3 t y = _
  rw [haft, hXt]

/-- What the body finds of the unit-matrix blocks: them. -/
theorem finds_eyes (A19 : S50176x128.Idx → F .f32) (c : Dev nD) (t : Fin cfg2.N) (X) (h : (rdat src eyes O B A19 c).Finds 2 t X) : X = eyes := by
  by_cases hf : (cfg2.win 2).fetch t = true
  · obtain ⟨d, rfl⟩ := (RDat.finds_of_fetch _ hf X).1 h
    exact wholeEyes eyes t d
  · have ht : t.val ≠ 0 := fun h0 => hf ((fetch2_2 t).2 (by rw [h0]))
    rcases (RDat.finds_of_pos _ (Bool.eq_false_iff.2 hf) ht X).1 h with hfl | ⟨Y, -, hY⟩
    · exact absurd hfl (by rw [(cfg2.win 2).flush_in rfl]; exact Bool.false_ne_true)
    · exact hY

theorem body_obligation (A19 : S50176x128.Idx → F .f32) (c : Dev nD) :
    (rdat src eyes O B A19 c).BodyObligation (defs₀ (F := F)) 𝒱₀ none Set.univ := fun t Y hY => by
  have h2 := finds_eyes src eyes O B A19 c t _ (hY 2)
  obtain ⟨d0, h0⟩ := (RDat.finds_of_fetch _ (fetch2_0 t) _).1 (hY 0)
  obtain ⟨d1, h1⟩ := (RDat.finds_of_fetch _ (fetch2_1 t) _).1 (hY 1)
  rw [bigSep_W2, bigSep_W2, show (rdat src eyes O B A19 c).Φ t.succ = (rdat src eyes O B A19 c).Φ t.castSucc from rfl,
    show (rdat src eyes O B A19 c).owesAt none t.succ = (rdat src eyes O B A19 c).owesAt none t.castSucc from rfl]
  change _ ⊢ wp frame (wpE (defs₀ (F := F)) 𝒱₀ (c : Thread nD τ) none) Set.univ (bodyAt2 t) _
  iintro ⟨HΦ, HO, H0, H1, H2, H3⟩
  iapply (wp_wand_r frame (wpE (defs₀ (F := F)) 𝒱₀ (c : Thread nD τ) none) Set.univ)
  isplitl [H0 H1 H2 H3]
  · iapply (prep_run (F := F) c (grid2.coords t) _ _ _ _ _ _ _ _ (Y 0) (Y 1) (Y 2) (Y 3))
    isplitl [H0]; · iexact H0
    isplitl [H1]; · iexact H1
    isplitl [H2]; · iexact H2
    iexact H3
  · iintro %_ ⟨H0, H1, H2, H3⟩
    isplitl [HΦ]; · iexact HΦ
    isplitl [HO]; · iexact HO
    isplitl [H0]; · iexists _; isplitr; swap; · iexact H0
                    ipureintro; trivial
    isplitl [H1]; · iexists _; isplitr; swap; · iexact H1
                    ipureintro; trivial
    isplitl [H2]; · iexists _; isplitr; swap; · iexact H2
                    ipureintro; exact h2
    iexists _; isplitr; swap; · iexact H3
    ipureintro
    refine ⟨d0, d1, ?_⟩
    rw [h0, h1, h2]; rfl

end Cert.Proof.I.Prep2
-- ==== Proof.IReg2.lean ====
/-
  The second packing call as a region of @main: from the transposed table, the two unit-matrix blocks and the packed
  table's array at anything, to the packed table related element by element to the table.
-/
module

public import proofs.«01_k».proof.Proof.IPrep2
public import Idealize.ShloMosaic.Lib.Pipeline.RegionsLoop

@[expose] public section

noncomputable section

namespace Cert.Proof.I.Prep2

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig (HIx 2) (Elt F) ℕ UU ℕ

variable (src : S20x100000.Idx → F .f32) (eyes : S1x2x20x128.Idx → F .f32) (O : CellTallies nD τ sig (HIx 2)) (B : Set (SemLoc sig × HIx 2))

abbrev srcLoc (d : Dev nD) : Loc nD τ sig := (d : Thread nD τ).loc main_v21
abbrev eyesLoc (d : Dev nD) : Loc nD τ sig := (d : Thread nD τ).loc main_v17
abbrev tblLoc (d : Dev nD) : Loc nD τ sig := (d : Thread nD τ).loc main_v22

/-- The proof data of the three TensorCore calls, when this one is run: its own, anything elsewhere. -/
def rdats (A19 : S50176x128.Idx → F .f32) : (p : Fin 3) → (c : Dev nD) → RDat τ (Elt F) (HIx 2) ℕ UU ℕ (Pipeline.pin (pcfgs (F := F)) adm p) c
  | 0 => fun c => junk c
  | 1 => fun c => rdat src eyes O B A19 c
  | 2 => fun c => junk c

/-- The windows' arrays, from the three buffers. -/
theorem arrays_intro (A19 : S50176x128.Idx → F .f32) (d : Dev nD) :
    (iprop((srcLoc d ↦{fullShare} (src : Buf (Elt F) (srcLoc d))) ∗ (eyesLoc d ↦{fullShare} (eyes : Buf (Elt F) (eyesLoc d)))
        ∗ (tblLoc d ↦{fullShare} (A19 : Buf (Elt F) (tblLoc d)))) : sProp 𝕄)
      ⊢ (rdat src eyes O B A19 d).arrays (rdat src eyes O B A19 d).A := by
  unfold Pipeline.RDat.arrays
  rw [bigSep_W2, show (cfg2.win 0).arr.view.set = Finset.univ from (arr_whole2 0).set_eq_univ,
    show (cfg2.win 2).arr.view.set = Finset.univ from (arr_whole2 2).set_eq_univ, show (cfg2.win 3).arr.view.set = Finset.univ from (arr_whole2 3).set_eq_univ,
    show (rdat src eyes O B A19 d).share 0 = fullShare.left from rfl, show (rdat src eyes O B A19 d).share 1 = fullShare.right from rfl,
    show (rdat src eyes O B A19 d).share 2 = fullShare from rfl, show (rdat src eyes O B A19 d).share 3 = fullShare from rfl]
  iintro ⟨H0, H2, H3⟩
  ihave H0 := (pointsTo_share (ℓ := srcLoc d) (f := (src : Buf (Elt F) (srcLoc d))) (PosShare.mem_left_op_right fullShare)).1 $$ H0
  icases H0 with ⟨H0, H1⟩
  isplitl [H0]; · iexact H0
  isplitl [H1]; · iexact H1
  isplitl [H2]; · iexact H2
  iexact H3

/-- What the region leaves of them. -/
theorem arrays_elim (A19 : S50176x128.Idx → F .f32) (d : Dev nD) :
    (rdat src eyes O B A19 d).arraysAt cfg2.N
      ⊢ (iprop((eyesLoc d ↦{fullShare} (eyes : Buf (Elt F) (eyesLoc d)))
        ∗ ∃ f : S50176x128.Idx → F .f32, ⌜∀ x, Packed src eyes x (f x)⌝ ∗ (tblLoc d ↦{fullShare} (f : Buf (Elt F) (tblLoc d)))) : sProp 𝕄) := by
  unfold Pipeline.RDat.arraysAt
  rw [bigSep_W2]
  iintro ⟨-, -, ⟨%f2, %h2, H2⟩, ⟨%f3, %h3, H3⟩⟩
  isplitl [H2]
  · have e2 : f2 = (rdat src eyes O B A19 d).A 2 := by rw [(rdat src eyes O B A19 d).ArrAt_in 2 rfl] at h2; exact h2
    subst e2
    rw [show (cfg2.win 2).arr.view.set = Finset.univ from (arr_whole2 2).set_eq_univ]
    iexact H2
  · iexists f3
    isplitr; · ipureintro; exact packed_of_arr src eyes O B A19 d f3 h3
    rw [show (cfg2.win 3).arr.view.set = Finset.univ from (arr_whole2 3).set_eq_univ]
    iexact H3

/-- The tallies within the region's bound are those within `B`. -/
theorem bound_sub (hB : ∀ p : SemLoc sig × HIx 2, p.2 = none → p ∈ B) (A19 : S50176x128.Idx → F .f32) (d : Dev nD) (t) :
    ∀ p ∈ (rdat src eyes O B A19 d).bound none t, p ∈ B := fun p hp => by
  rcases hp with hp | ⟨w, s, rfl⟩
  · exact hp
  · exact hB _ rfl

/-- What the region is entered with, -/
def preP (A19 : S50176x128.Idx → F .f32) (d : Dev nD) : sProp 𝕄 :=
  iprop((srcLoc d ↦{fullShare} (src : Buf (Elt F) (srcLoc d))) ∗ (eyesLoc d ↦{fullShare} (eyes : Buf (Elt F) (eyesLoc d)))
        ∗ (tblLoc d ↦{fullShare} (A19 : Buf (Elt F) (tblLoc d))) ∗ Pipeline.owesWithin d O B)

/-- and what it leaves. -/
def postP (d : Dev nD) : sProp 𝕄 :=
  iprop(((eyesLoc d ↦{fullShare} (eyes : Buf (Elt F) (eyesLoc d)))
        ∗ ∃ f : S50176x128.Idx → F .f32, ⌜∀ x, Packed src eyes x (f x)⌝ ∗ (tblLoc d ↦{fullShare} (f : Buf (Elt F) (tblLoc d)))) ∗ Pipeline.owesWithin d O B)

set_option backward.isDefEq.respectTransparency.types false in
/-- The region. -/
def reg (hO : ∀ g, O g none = 0) (hB : ∀ p : SemLoc sig × HIx 2, p.2 = none → p ∈ B) (A19 : S50176x128.Idx → F .f32) :
    RDat.RegionSeg (pcfgs (F := F)) adm (rdats src eyes O B A19) none defs₀ 𝒱₀ (SC (F := F)).L (SC (F := F)).lev 1 where
  win := winFacts₀2
  block_pos := block_pos2
  stage_whole := stage_whole2
  K := PEmpty
  osem k := k.elim
  ho := Pipeline.OwnSemFacts.none _
  hbody c := body_obligation src eyes O B A19 c
  hwaits c := RDat.cellsWaits_intro (Pipeline.pin (pcfgs (F := F)) adm) (rdats src eyes O B A19) none 1 c fun w s t => (SC (F := F)).mayWait_none _ hO
  pre d := preP src eyes O B A19 d
  post d := postP src eyes O B d
  X _ := BI.emp
  Y _ := BI.emp
  Z _ := BI.emp
  hentry c := by
    rw [Pipeline.ownSems0_none]
    unfold preP
    iintro ⟨⟨H0, H2, H3, HO⟩, -, -⟩
    imodintro
    isplitl [H0 H2 H3]
    · iapply (arrays_intro src eyes O B A19 c)
      isplitl [H0]; · iexact H0
      isplitl [H2]; · iexact H2
      iexact H3
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW hp)
      iexact HO
    isplitr <;> iempintro
  hin c := by
    rw [show (rdats src eyes O B A19 1 c).Φ 0 = Pipeline.scopedRest (Ix := HIx 2) (Name := ℕ) (U := UU) (Lvl := ℕ) (Val := Elt F) spec2 c from rfl]
    iintro ⟨-, -, Hr⟩; iexact Hr
  hout c := by
    rw [Pipeline.ownSems0_none, show (rdats src eyes O B A19 1 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    unfold postP
    iintro ⟨Ha, HO, -, -⟩
    imodintro
    isplitl [Ha]
    · iapply (arrays_elim src eyes O B A19 c); iexact Ha
    unfold Pipeline.RDat.owesAt Pipeline.owesWithin
    icases HO with ⟨%W, %hW, HO⟩; iexists W; isplitr; · ipureintro; exact fun p hp => bound_sub src eyes O B hB A19 c _ p (hW hp)
    iexact HO

/-- The call, run. -/
theorem call_wp (d : Dev nD) (hO : ∀ g, O g none = 0) (hB : ∀ p : SemLoc sig × HIx 2, p.2 = none → p ∈ B) :
    (iprop(boundary (d : Thread nD τ) ∗ (srcLoc d ↦{fullShare} (src : Buf (Elt F) (srcLoc d))) ∗ (eyesLoc d ↦{fullShare} (eyes : Buf (Elt F) (eyesLoc d)))
        ∗ (∃ f : Buf (Elt F) (tblLoc d), tblLoc d ↦{fullShare} f) ∗ Pipeline.owesWithin d O B ∗ levAts (SC (F := F)).L (SC (F := F)).lev
        ∗ Pipeline.cellsGhost (Pipeline.pin (pcfgs (F := F)) adm) EP 1 d ∗ Pipeline.toksInit (Pipeline.pin (pcfgs (F := F)) adm) EP 1 d) : sProp 𝕄)
      ⊢ wp frame (wpE (DD (F := F)) 𝒱P (d : Thread nD τ) none) Set.univ (Prog.lift (.customCall (Pipeline.entry 1) ()))
          fun _ => (iprop(boundary (d : Thread nD τ) ∗ (eyesLoc d ↦{fullShare} (eyes : Buf (Elt F) (eyesLoc d)))
            ∗ (∃ f : S50176x128.Idx → F .f32, ⌜∀ x, Packed src eyes x (f x)⌝ ∗ (tblLoc d ↦{fullShare} (f : Buf (Elt F) (tblLoc d))))
            ∗ Pipeline.owesWithin d O B) : sProp 𝕄) := by
  iintro ⟨Hb, H0, H2, ⟨%A19, H3⟩, HO, HL, Hg, Ht⟩
  have H := RDat.RegionSeg.wp (pcfgs (F := F)) adm (rdats src eyes O B A19) none cellOf_inj EP defs₀ 𝒱₀ (SC (F := F)).L (SC (F := F)).lev
    (reg src eyes O B hO hB A19) d none (fun _ h => absurd h (Option.not_mem_none _)) Prog.ret
    (fun _ => (iprop(boundary (d : Thread nD τ) ∗ (eyesLoc d ↦{fullShare} (eyes : Buf (Elt F) (eyesLoc d)))
            ∗ (∃ f : S50176x128.Idx → F .f32, ⌜∀ x, Packed src eyes x (f x)⌝ ∗ (tblLoc d ↦{fullShare} (f : Buf (Elt F) (tblLoc d))))
            ∗ Pipeline.owesWithin d O B) : sProp 𝕄))
  rw [show (reg src eyes O B hO hB A19).pre d = preP src eyes O B A19 d from rfl, show (reg src eyes O B hO hB A19).post d = postP src eyes O B d from rfl, preP, postP] at H
  iapply H
  isplitr
  · iintro ⟨Hb, ⟨H2, H3⟩, HO⟩
    rw [wp_ret]
    imodintro
    isplitl [Hb]; · iexact Hb
    isplitl [H2]; · iexact H2
    isplitl [H3]; · iexact H3
    iexact HO
  isplitl [Hb]; · iexact Hb
  isplitl [H0 H2 H3 HO]
  · isplitl [H0]; · iexact H0
    isplitl [H2]; · iexact H2
    isplitl [H3]; · iexact H3
    iexact HO
  isplitl [HL]; · iexact HL
  isplitl [Hg]; · iexact Hg
  iexact Ht

end Cert.Proof.I.Prep2
-- ==== Proof.IMlp.lean ====
/-
  The network's call: its body at one grid point, and what it leaves of the result's array.
-/
module

public import proofs.«01_k».proof.Proof.ISc
public import Idealize.ShloMosaic.Lib.Pipeline.FrameBody

@[expose] public section

noncomputable section

namespace Cert.Proof.I.Mlp

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig (HIx 2) (Elt F) ℕ UU ℕ

/-- What the body stores, from the blocks it loads. -/
def mlpVal (y0 : S4096x128.Idx → F .f32) (y1 : S4096x128.Idx → F .f32) (y2 : S20x4096.Idx → F .f32) (y3 : S1x4096.Idx → F .f32) (y4 : S20x8.Idx → F .f32) (y5 : S1x8.Idx → F .f32) (y6 : S20x128.Idx → F .f32) (y7 : S20x128.Idx → F .f32) (y8 : S8x128.Idx → F .f32) (y9 : S1x128.Idx → F .f32) (y10 : S1x128.Idx → F .f32) (y11 : S128x64.Idx → F .f32) (y12 : S1x64.Idx → F .f32) (y13 : S64x32.Idx → F .f32) (y14 : S1x32.Idx → F .f32) (y15 : S32x5.Idx → F .f32) (y16 : S5x1.Idx → F .f32) : S5x4096.Idx → F .f32 :=
  k4_pay1 (k4_pay4 (k4_pay2 y2 y4 y5) (k4_pay3 y0 y1 y6 y7) y8 y3 y9 y10 y11 y12 y13 y14 y15) y16

theorem zero2 : ∀ a, (![0, 0] : Fin 2 → ℕ) a = 0 := by decide

set_option maxHeartbeats 2000000 in
/-- The body run once. -/
theorem mlp_run (c : Dev nD) (i : grid4.Coords) (M0 : Memref sig .tc .vmem S4096x128 .f32) (h0 : M0.IsWhole) (M1 : Memref sig .tc .vmem S4096x128 .f32) (h1 : M1.IsWhole) (M2 : Memref sig .tc .vmem S20x4096 .f32) (h2 : M2.IsWhole) (M3 : Memref sig .tc .vmem S1x4096 .f32) (h3 : M3.IsWhole) (M4 : Memref sig .tc .vmem S20x8 .f32) (h4 : M4.IsWhole) (M5 : Memref sig .tc .vmem S1x8 .f32) (h5 : M5.IsWhole) (M6 : Memref sig .tc .vmem S20x128 .f32) (h6 : M6.IsWhole) (M7 : Memref sig .tc .vmem S20x128 .f32) (h7 : M7.IsWhole) (M8 : Memref sig .tc .vmem S8x128 .f32) (h8 : M8.IsWhole) (M9 : Memref sig .tc .vmem S1x128 .f32) (h9 : M9.IsWhole) (M10 : Memref sig .tc .vmem S1x128 .f32) (h10 : M10.IsWhole) (M11 : Memref sig .tc .vmem S128x64 .f32) (h11 : M11.IsWhole) (M12 : Memref sig .tc .vmem S1x64 .f32) (h12 : M12.IsWhole) (M13 : Memref sig .tc .vmem S64x32 .f32) (h13 : M13.IsWhole) (M14 : Memref sig .tc .vmem S1x32 .f32) (h14 : M14.IsWhole) (M15 : Memref sig .tc .vmem S32x5 .f32) (h15 : M15.IsWhole) (M16 : Memref sig .tc .vmem S5x1 .f32) (h16 : M16.IsWhole) (M17 : Memref sig .tc .vmem S5x4096 .f32) (h17 : M17.IsWhole)
    (Y0 : S4096x128.Idx → F .f32) (Y1 : S4096x128.Idx → F .f32) (Y2 : S20x4096.Idx → F .f32) (Y3 : S1x4096.Idx → F .f32) (Y4 : S20x8.Idx → F .f32) (Y5 : S1x8.Idx → F .f32) (Y6 : S20x128.Idx → F .f32) (Y7 : S20x128.Idx → F .f32) (Y8 : S8x128.Idx → F .f32) (Y9 : S1x128.Idx → F .f32) (Y10 : S1x128.Idx → F .f32) (Y11 : S128x64.Idx → F .f32) (Y12 : S1x64.Idx → F .f32) (Y13 : S64x32.Idx → F .f32) (Y14 : S1x32.Idx → F .f32) (Y15 : S32x5.Idx → F .f32) (Y16 : S5x1.Idx → F .f32) (Y17 : S5x4096.Idx → F .f32) :
    (iprop(owns (Val := Elt F) (c : Thread nD τ) M0 fullShare Y0
        ∗ owns (Val := Elt F) (c : Thread nD τ) M1 fullShare Y1
        ∗ owns (Val := Elt F) (c : Thread nD τ) M2 fullShare Y2
        ∗ owns (Val := Elt F) (c : Thread nD τ) M3 fullShare Y3
        ∗ owns (Val := Elt F) (c : Thread nD τ) M4 fullShare Y4
        ∗ owns (Val := Elt F) (c : Thread nD τ) M5 fullShare Y5
        ∗ owns (Val := Elt F) (c : Thread nD τ) M6 fullShare Y6
        ∗ owns (Val := Elt F) (c : Thread nD τ) M7 fullShare Y7
        ∗ owns (Val := Elt F) (c : Thread nD τ) M8 fullShare Y8
        ∗ owns (Val := Elt F) (c : Thread nD τ) M9 fullShare Y9
        ∗ owns (Val := Elt F) (c : Thread nD τ) M10 fullShare Y10
        ∗ owns (Val := Elt F) (c : Thread nD τ) M11 fullShare Y11
        ∗ owns (Val := Elt F) (c : Thread nD τ) M12 fullShare Y12
        ∗ owns (Val := Elt F) (c : Thread nD τ) M13 fullShare Y13
        ∗ owns (Val := Elt F) (c : Thread nD τ) M14 fullShare Y14
        ∗ owns (Val := Elt F) (c : Thread nD τ) M15 fullShare Y15
        ∗ owns (Val := Elt F) (c : Thread nD τ) M16 fullShare Y16
        ∗ owns (Val := Elt F) (c : Thread nD τ) M17 fullShare Y17) : sProp 𝕄)
      ⊢ wp frame (wpE (defs₀ (F := F)) 𝒱₀ (c : Thread nD τ) none) Set.univ (cc4__mlp_body i M0 h0 M1 h1 M2 h2 M3 h3 M4 h4 M5 h5 M6 h6 M7 h7 M8 h8 M9 h9 M10 h10 M11 h11 M12 h12 M13 h13 M14 h14 M15 h15 M16 h16 M17 h17)
          fun _ => (iprop(owns (Val := Elt F) (c : Thread nD τ) M0 fullShare Y0
        ∗ owns (Val := Elt F) (c : Thread nD τ) M1 fullShare Y1
        ∗ owns (Val := Elt F) (c : Thread nD τ) M2 fullShare Y2
        ∗ owns (Val := Elt F) (c : Thread nD τ) M3 fullShare Y3
        ∗ owns (Val := Elt F) (c : Thread nD τ) M4 fullShare Y4
        ∗ owns (Val := Elt F) (c : Thread nD τ) M5 fullShare Y5
        ∗ owns (Val := Elt F) (c : Thread nD τ) M6 fullShare Y6
        ∗ owns (Val := Elt F) (c : Thread nD τ) M7 fullShare Y7
        ∗ owns (Val := Elt F) (c : Thread nD τ) M8 fullShare Y8
        ∗ owns (Val := Elt F) (c : Thread nD τ) M9 fullShare Y9
        ∗ owns (Val := Elt F) (c : Thread nD τ) M10 fullShare Y10
        ∗ owns (Val := Elt F) (c : Thread nD τ) M11 fullShare Y11
        ∗ owns (Val := Elt F) (c : Thread nD τ) M12 fullShare Y12
        ∗ owns (Val := Elt F) (c : Thread nD τ) M13 fullShare Y13
        ∗ owns (Val := Elt F) (c : Thread nD τ) M14 fullShare Y14
        ∗ owns (Val := Elt F) (c : Thread nD τ) M15 fullShare Y15
        ∗ owns (Val := Elt F) (c : Thread nD τ) M16 fullShare Y16
        ∗ owns (Val := Elt F) (c : Thread nD τ) M17 fullShare (mlpVal Y0 Y1 Y2 Y3 Y4 Y5 Y6 Y7 Y8 Y9 Y10 Y11 Y12 Y13 Y14 Y15 Y16)) : sProp 𝕄) := by
  rw [cc4__mlp_body_eq_skeleton]
  unfold owns cc4__mlp_body_skel
  rw [k4_part1_eq_skeleton, k4_part2_eq_skeleton]
  unfold k4_part1_skel k4_part2_skel
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec!
  sl_step
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  isplitl [H15]
  · iexists f15; isplitr; · ipureintro; exact e15
    iexact H15
  isplitl [H16]
  · iexists f16; isplitr; · ipureintro; exact e16
    iexact H16
  iexists _; isplitr; swap; · iexact H17
  ipureintro
  subst e0 e1 e2 e3 e4 e5 e6 e7 e8 e9 e10 e11 e12 e13 e14 e15 e16
  unfold mlp_run.sl.H17_1
  rw [read_whole_write _ _ zero2]
  rw [readAt_whole M2.view _ zero2, readAt_whole M4.view _ zero2, readAt_whole M5.view _ zero2, readAt_whole M0.view _ zero2, readAt_whole M1.view _ zero2, readAt_whole M6.view _ zero2, readAt_whole M7.view _ zero2, readAt_whole M8.view _ zero2, readAt_whole M3.view _ zero2, readAt_whole M9.view _ zero2, readAt_whole M10.view _ zero2, readAt_whole M11.view _ zero2, readAt_whole M12.view _ zero2, readAt_whole M13.view _ zero2, readAt_whole M14.view _ zero2, readAt_whole M15.view _ zero2, readAt_whole M16.view _ zero2]
  rfl

/-! ## The call's proof data -/

variable (V : Valuation τ sig (Elt F)) (O : CellTallies nD τ sig (HIx 2)) (B : Set (SemLoc sig × HIx 2))

/-- Window 0's array as the call finds it. -/
def arr0 : S16384x128.Idx → F .f32 := V (Proc.devRef (τ := τ) .tc main_v20)
/-- Window 1's array as the call finds it. -/
def arr1 : S16384x128.Idx → F .f32 := V (Proc.devRef (τ := τ) .tc main_v23)
/-- Window 2's array as the call finds it. -/
def arr2 : S20x16384.Idx → F .f32 := V (Proc.devRef (τ := τ) .tc main_v25)
/-- Window 3's array as the call finds it. -/
def arr3 : S1x16384.Idx → F .f32 := V (Proc.devRef (τ := τ) .tc main_v30)
/-- Window 4's array as the call finds it. -/
def arr4 : S20x8.Idx → F .f32 := V (Proc.devRef (τ := τ) .tc main_arg7)
/-- Window 5's array as the call finds it. -/
def arr5 : S1x8.Idx → F .f32 := V (Proc.devRef (τ := τ) .tc main_v31)
/-- Window 6's array as the call finds it. -/
def arr6 : S20x128.Idx → F .f32 := V (Proc.devRef (τ := τ) .tc main_v26)
/-- Window 7's array as the call finds it. -/
def arr7 : S20x128.Idx → F .f32 := V (Proc.devRef (τ := τ) .tc main_v27)
/-- Window 8's array as the call finds it. -/
def arr8 : S8x128.Idx → F .f32 := V (Proc.devRef (τ := τ) .tc main_v28)
/-- Window 9's array as the call finds it. -/
def arr9 : S1x128.Idx → F .f32 := V (Proc.devRef (τ := τ) .tc main_v29)
/-- Window 10's array as the call finds it. -/
def arr10 : S1x128.Idx → F .f32 := V (Proc.devRef (τ := τ) .tc main_v32)
/-- Window 11's array as the call finds it. -/
def arr11 : S128x64.Idx → F .f32 := V (Proc.devRef (τ := τ) .tc main_arg11)
/-- Window 12's array as the call finds it. -/
def arr12 : S1x64.Idx → F .f32 := V (Proc.devRef (τ := τ) .tc main_v33)
/-- Window 13's array as the call finds it. -/
def arr13 : S64x32.Idx → F .f32 := V (Proc.devRef (τ := τ) .tc main_arg13)
/-- Window 14's array as the call finds it. -/
def arr14 : S1x32.Idx → F .f32 := V (Proc.devRef (τ := τ) .tc main_v34)
/-- Window 15's array as the call finds it. -/
def arr15 : S32x5.Idx → F .f32 := V (Proc.devRef (τ := τ) .tc main_arg15)
/-- Window 16's array as the call finds it. -/
def arr16 : S5x1.Idx → F .f32 := V (Proc.devRef (τ := τ) .tc main_v35)
/-- Window 17's array as the call finds it. -/
def arr17 : S5x16384.Idx → F .f32 := V (Proc.devRef (τ := τ) .tc main_v36)

/-- The contents of the arrays. -/
def arrs (c : Dev nD) : (w : Fin cfg4.W) → Buf (Elt F) ((cfg4.win w).arr.view.loc (c : Thread nD τ)) := fun w => V (Proc.devRef (τ := τ) .tc (Pipeline.arrRef spec4 w))

/-- What the call stores at a grid point. -/
def outAt (t : Fin cfg4.N) : S5x4096.Idx → F .f32 :=
  mlpVal (((cfg4.win 0).blk t).view.read (Elt F) (arr0 V)) (((cfg4.win 1).blk t).view.read (Elt F) (arr1 V)) (((cfg4.win 2).blk t).view.read (Elt F) (arr2 V)) (((cfg4.win 3).blk t).view.read (Elt F) (arr3 V)) (arr4 V) (arr5 V) (arr6 V) (arr7 V) (arr8 V) (arr9 V) (arr10 V) (arr11 V) (arr12 V) (arr13 V) (arr14 V) (arr15 V) (arr16 V)

/-- The proof data. -/
def rdat (c : Dev nD) : RDat τ (Elt F) (HIx 2) ℕ UU ℕ cfg4 c where
  A := arrs V c
  after w t _ := match w with
    | 0 => fun _ => True
    | 1 => fun _ => True
    | 2 => fun _ => True
    | 3 => fun _ => True
    | 4 => fun X => X = arr4 V
    | 5 => fun X => X = arr5 V
    | 6 => fun X => X = arr6 V
    | 7 => fun X => X = arr7 V
    | 8 => fun X => X = arr8 V
    | 9 => fun X => X = arr9 V
    | 10 => fun X => X = arr10 V
    | 11 => fun X => X = arr11 V
    | 12 => fun X => X = arr12 V
    | 13 => fun X => X = arr13 V
    | 14 => fun X => X = arr14 V
    | 15 => fun X => X = arr15 V
    | 16 => fun X => X = arr16 V
    | 17 => fun X => X = outAt V t
    | ⟨_ + 18, h⟩ => absurd h (Nat.not_lt.2 (Nat.le_add_left _ _))
  Φ _ := Pipeline.scopedRest (Ix := HIx 2) (Name := ℕ) (U := UU) (Lvl := ℕ) (Val := Elt F) spec4 c
  q _ := fullShare
  owed _ := O
  recorded _ := B

/-- Proof data for a pipeline this region does not run: anything. -/
def junk {cfg : Pipeline.Cfg sig Λ₀} (c : Dev nD) : RDat τ (Elt F) (HIx 2) ℕ UU ℕ cfg c where
  A _ := fun _ => Classical.arbitrary _
  after _ _ _ _ := True
  Φ _ := BI.emp
  q _ := fullShare
  owed _ := 0

abbrev adm : (p : Fin 3) → (pcfgs (F := F) p).Adm := fun p => (cfgs p).toPCfg_adm

theorem index4 : ∀ (t : Fin grid4.N) (a : Fin 2), win4_4.index t a = 0 := by decide +kernel
/-- What the body finds of window 4's block: the array, whole. -/
theorem finds4 (c : Dev nD) (t : Fin cfg4.N) (X) (h : (rdat V O B c).Finds 4 t X) : X = arr4 V := by
  by_cases hf : (cfg4.win 4).fetch t = true
  · obtain ⟨d, rfl⟩ := (RDat.finds_of_fetch _ hf X).1 h
    funext j
    show arr4 V ((win4_4.rect t).emb j) = arr4 V j
    exact congrArg (arr4 V) (funext fun a => Fin.ext (Pipeline.Window.rect_emb_val_of_index_zero win4_4 t a (index4 t a) j))
  · have ht : t.val ≠ 0 := fun h0 => hf ((fetch4_4 t).2 (by rw [h0]))
    rcases (RDat.finds_of_pos _ (Bool.eq_false_iff.2 hf) ht X).1 h with hfl | ⟨Y, -, hY⟩
    · exact absurd hfl (by rw [(cfg4.win 4).flush_in rfl]; exact Bool.false_ne_true)
    · exact hY

theorem index5 : ∀ (t : Fin grid4.N) (a : Fin 2), win4_5.index t a = 0 := by decide +kernel
/-- What the body finds of window 5's block: the array, whole. -/
theorem finds5 (c : Dev nD) (t : Fin cfg4.N) (X) (h : (rdat V O B c).Finds 5 t X) : X = arr5 V := by
  by_cases hf : (cfg4.win 5).fetch t = true
  · obtain ⟨d, rfl⟩ := (RDat.finds_of_fetch _ hf X).1 h
    funext j
    show arr5 V ((win4_5.rect t).emb j) = arr5 V j
    exact congrArg (arr5 V) (funext fun a => Fin.ext (Pipeline.Window.rect_emb_val_of_index_zero win4_5 t a (index5 t a) j))
  · have ht : t.val ≠ 0 := fun h0 => hf ((fetch4_5 t).2 (by rw [h0]))
    rcases (RDat.finds_of_pos _ (Bool.eq_false_iff.2 hf) ht X).1 h with hfl | ⟨Y, -, hY⟩
    · exact absurd hfl (by rw [(cfg4.win 5).flush_in rfl]; exact Bool.false_ne_true)
    · exact hY

theorem index6 : ∀ (t : Fin grid4.N) (a : Fin 2), win4_6.index t a = 0 := by decide +kernel
/-- What the body finds of window 6's block: the array, whole. -/
theorem finds6 (c : Dev nD) (t : Fin cfg4.N) (X) (h : (rdat V O B c).Finds 6 t X) : X = arr6 V := by
  by_cases hf : (cfg4.win 6).fetch t = true
  · obtain ⟨d, rfl⟩ := (RDat.finds_of_fetch _ hf X).1 h
    funext j
    show arr6 V ((win4_6.rect t).emb j) = arr6 V j
    exact congrArg (arr6 V) (funext fun a => Fin.ext (Pipeline.Window.rect_emb_val_of_index_zero win4_6 t a (index6 t a) j))
  · have ht : t.val ≠ 0 := fun h0 => hf ((fetch4_6 t).2 (by rw [h0]))
    rcases (RDat.finds_of_pos _ (Bool.eq_false_iff.2 hf) ht X).1 h with hfl | ⟨Y, -, hY⟩
    · exact absurd hfl (by rw [(cfg4.win 6).flush_in rfl]; exact Bool.false_ne_true)
    · exact hY

theorem index7 : ∀ (t : Fin grid4.N) (a : Fin 2), win4_7.index t a = 0 := by decide +kernel
/-- What the body finds of window 7's block: the array, whole. -/
theorem finds7 (c : Dev nD) (t : Fin cfg4.N) (X) (h : (rdat V O B c).Finds 7 t X) : X = arr7 V := by
  by_cases hf : (cfg4.win 7).fetch t = true
  · obtain ⟨d, rfl⟩ := (RDat.finds_of_fetch _ hf X).1 h
    funext j
    show arr7 V ((win4_7.rect t).emb j) = arr7 V j
    exact congrArg (arr7 V) (funext fun a => Fin.ext (Pipeline.Window.rect_emb_val_of_index_zero win4_7 t a (index7 t a) j))
  · have ht : t.val ≠ 0 := fun h0 => hf ((fetch4_7 t).2 (by rw [h0]))
    rcases (RDat.finds_of_pos _ (Bool.eq_false_iff.2 hf) ht X).1 h with hfl | ⟨Y, -, hY⟩
    · exact absurd hfl (by rw [(cfg4.win 7).flush_in rfl]; exact Bool.false_ne_true)
    · exact hY

theorem index8 : ∀ (t : Fin grid4.N) (a : Fin 2), win4_8.index t a = 0 := by decide +kernel
/-- What the body finds of window 8's block: the array, whole. -/
theorem finds8 (c : Dev nD) (t : Fin cfg4.N) (X) (h : (rdat V O B c).Finds 8 t X) : X = arr8 V := by
  by_cases hf : (cfg4.win 8).fetch t = true
  · obtain ⟨d, rfl⟩ := (RDat.finds_of_fetch _ hf X).1 h
    funext j
    show arr8 V ((win4_8.rect t).emb j) = arr8 V j
    exact congrArg (arr8 V) (funext fun a => Fin.ext (Pipeline.Window.rect_emb_val_of_index_zero win4_8 t a (index8 t a) j))
  · have ht : t.val ≠ 0 := fun h0 => hf ((fetch4_8 t).2 (by rw [h0]))
    rcases (RDat.finds_of_pos _ (Bool.eq_false_iff.2 hf) ht X).1 h with hfl | ⟨Y, -, hY⟩
    · exact absurd hfl (by rw [(cfg4.win 8).flush_in rfl]; exact Bool.false_ne_true)
    · exact hY

theorem index9 : ∀ (t : Fin grid4.N) (a : Fin 2), win4_9.index t a = 0 := by decide +kernel
/-- What the body finds of window 9's block: the array, whole. -/
theorem finds9 (c : Dev nD) (t : Fin cfg4.N) (X) (h : (rdat V O B c).Finds 9 t X) : X = arr9 V := by
  by_cases hf : (cfg4.win 9).fetch t = true
  · obtain ⟨d, rfl⟩ := (RDat.finds_of_fetch _ hf X).1 h
    funext j
    show arr9 V ((win4_9.rect t).emb j) = arr9 V j
    exact congrArg (arr9 V) (funext fun a => Fin.ext (Pipeline.Window.rect_emb_val_of_index_zero win4_9 t a (index9 t a) j))
  · have ht : t.val ≠ 0 := fun h0 => hf ((fetch4_9 t).2 (by rw [h0]))
    rcases (RDat.finds_of_pos _ (Bool.eq_false_iff.2 hf) ht X).1 h with hfl | ⟨Y, -, hY⟩
    · exact absurd hfl (by rw [(cfg4.win 9).flush_in rfl]; exact Bool.false_ne_true)
    · exact hY

theorem index10 : ∀ (t : Fin grid4.N) (a : Fin 2), win4_10.index t a = 0 := by decide +kernel
/-- What the body finds of window 10's block: the array, whole. -/
theorem finds10 (c : Dev nD) (t : Fin cfg4.N) (X) (h : (rdat V O B c).Finds 10 t X) : X = arr10 V := by
  by_cases hf : (cfg4.win 10).fetch t = true
  · obtain ⟨d, rfl⟩ := (RDat.finds_of_fetch _ hf X).1 h
    funext j
    show arr10 V ((win4_10.rect t).emb j) = arr10 V j
    exact congrArg (arr10 V) (funext fun a => Fin.ext (Pipeline.Window.rect_emb_val_of_index_zero win4_10 t a (index10 t a) j))
  · have ht : t.val ≠ 0 := fun h0 => hf ((fetch4_10 t).2 (by rw [h0]))
    rcases (RDat.finds_of_pos _ (Bool.eq_false_iff.2 hf) ht X).1 h with hfl | ⟨Y, -, hY⟩
    · exact absurd hfl (by rw [(cfg4.win 10).flush_in rfl]; exact Bool.false_ne_true)
    · exact hY

theorem index11 : ∀ (t : Fin grid4.N) (a : Fin 2), win4_11.index t a = 0 := by decide +kernel
/-- What the body finds of window 11's block: the array, whole. -/
theorem finds11 (c : Dev nD) (t : Fin cfg4.N) (X) (h : (rdat V O B c).Finds 11 t X) : X = arr11 V := by
  by_cases hf : (cfg4.win 11).fetch t = true
  · obtain ⟨d, rfl⟩ := (RDat.finds_of_fetch _ hf X).1 h
    funext j
    show arr11 V ((win4_11.rect t).emb j) = arr11 V j
    exact congrArg (arr11 V) (funext fun a => Fin.ext (Pipeline.Window.rect_emb_val_of_index_zero win4_11 t a (index11 t a) j))
  · have ht : t.val ≠ 0 := fun h0 => hf ((fetch4_11 t).2 (by rw [h0]))
    rcases (RDat.finds_of_pos _ (Bool.eq_false_iff.2 hf) ht X).1 h with hfl | ⟨Y, -, hY⟩
    · exact absurd hfl (by rw [(cfg4.win 11).flush_in rfl]; exact Bool.false_ne_true)
    · exact hY

theorem index12 : ∀ (t : Fin grid4.N) (a : Fin 2), win4_12.index t a = 0 := by decide +kernel
/-- What the body finds of window 12's block: the array, whole. -/
theorem finds12 (c : Dev nD) (t : Fin cfg4.N) (X) (h : (rdat V O B c).Finds 12 t X) : X = arr12 V := by
  by_cases hf : (cfg4.win 12).fetch t = true
  · obtain ⟨d, rfl⟩ := (RDat.finds_of_fetch _ hf X).1 h
    funext j
    show arr12 V ((win4_12.rect t).emb j) = arr12 V j
    exact congrArg (arr12 V) (funext fun a => Fin.ext (Pipeline.Window.rect_emb_val_of_index_zero win4_12 t a (index12 t a) j))
  · have ht : t.val ≠ 0 := fun h0 => hf ((fetch4_12 t).2 (by rw [h0]))
    rcases (RDat.finds_of_pos _ (Bool.eq_false_iff.2 hf) ht X).1 h with hfl | ⟨Y, -, hY⟩
    · exact absurd hfl (by rw [(cfg4.win 12).flush_in rfl]; exact Bool.false_ne_true)
    · exact hY

theorem index13 : ∀ (t : Fin grid4.N) (a : Fin 2), win4_13.index t a = 0 := by decide +kernel
/-- What the body finds of window 13's block: the array, whole. -/
theorem finds13 (c : Dev nD) (t : Fin cfg4.N) (X) (h : (rdat V O B c).Finds 13 t X) : X = arr13 V := by
  by_cases hf : (cfg4.win 13).fetch t = true
  · obtain ⟨d, rfl⟩ := (RDat.finds_of_fetch _ hf X).1 h
    funext j
    show arr13 V ((win4_13.rect t).emb j) = arr13 V j
    exact congrArg (arr13 V) (funext fun a => Fin.ext (Pipeline.Window.rect_emb_val_of_index_zero win4_13 t a (index13 t a) j))
  · have ht : t.val ≠ 0 := fun h0 => hf ((fetch4_13 t).2 (by rw [h0]))
    rcases (RDat.finds_of_pos _ (Bool.eq_false_iff.2 hf) ht X).1 h with hfl | ⟨Y, -, hY⟩
    · exact absurd hfl (by rw [(cfg4.win 13).flush_in rfl]; exact Bool.false_ne_true)
    · exact hY

theorem index14 : ∀ (t : Fin grid4.N) (a : Fin 2), win4_14.index t a = 0 := by decide +kernel
/-- What the body finds of window 14's block: the array, whole. -/
theorem finds14 (c : Dev nD) (t : Fin cfg4.N) (X) (h : (rdat V O B c).Finds 14 t X) : X = arr14 V := by
  by_cases hf : (cfg4.win 14).fetch t = true
  · obtain ⟨d, rfl⟩ := (RDat.finds_of_fetch _ hf X).1 h
    funext j
    show arr14 V ((win4_14.rect t).emb j) = arr14 V j
    exact congrArg (arr14 V) (funext fun a => Fin.ext (Pipeline.Window.rect_emb_val_of_index_zero win4_14 t a (index14 t a) j))
  · have ht : t.val ≠ 0 := fun h0 => hf ((fetch4_14 t).2 (by rw [h0]))
    rcases (RDat.finds_of_pos _ (Bool.eq_false_iff.2 hf) ht X).1 h with hfl | ⟨Y, -, hY⟩
    · exact absurd hfl (by rw [(cfg4.win 14).flush_in rfl]; exact Bool.false_ne_true)
    · exact hY

theorem index15 : ∀ (t : Fin grid4.N) (a : Fin 2), win4_15.index t a = 0 := by decide +kernel
/-- What the body finds of window 15's block: the array, whole. -/
theorem finds15 (c : Dev nD) (t : Fin cfg4.N) (X) (h : (rdat V O B c).Finds 15 t X) : X = arr15 V := by
  by_cases hf : (cfg4.win 15).fetch t = true
  · obtain ⟨d, rfl⟩ := (RDat.finds_of_fetch _ hf X).1 h
    funext j
    show arr15 V ((win4_15.rect t).emb j) = arr15 V j
    exact congrArg (arr15 V) (funext fun a => Fin.ext (Pipeline.Window.rect_emb_val_of_index_zero win4_15 t a (index15 t a) j))
  · have ht : t.val ≠ 0 := fun h0 => hf ((fetch4_15 t).2 (by rw [h0]))
    rcases (RDat.finds_of_pos _ (Bool.eq_false_iff.2 hf) ht X).1 h with hfl | ⟨Y, -, hY⟩
    · exact absurd hfl (by rw [(cfg4.win 15).flush_in rfl]; exact Bool.false_ne_true)
    · exact hY

theorem index16 : ∀ (t : Fin grid4.N) (a : Fin 2), win4_16.index t a = 0 := by decide +kernel
/-- What the body finds of window 16's block: the array, whole. -/
theorem finds16 (c : Dev nD) (t : Fin cfg4.N) (X) (h : (rdat V O B c).Finds 16 t X) : X = arr16 V := by
  by_cases hf : (cfg4.win 16).fetch t = true
  · obtain ⟨d, rfl⟩ := (RDat.finds_of_fetch _ hf X).1 h
    funext j
    show arr16 V ((win4_16.rect t).emb j) = arr16 V j
    exact congrArg (arr16 V) (funext fun a => Fin.ext (Pipeline.Window.rect_emb_val_of_index_zero win4_16 t a (index16 t a) j))
  · have ht : t.val ≠ 0 := fun h0 => hf ((fetch4_16 t).2 (by rw [h0]))
    rcases (RDat.finds_of_pos _ (Bool.eq_false_iff.2 hf) ht X).1 h with hfl | ⟨Y, -, hY⟩
    · exact absurd hfl (by rw [(cfg4.win 16).flush_in rfl]; exact Bool.false_ne_true)
    · exact hY

/-- The body at every grid point. -/
theorem body_obligation (c : Dev nD) :
    (rdat V O B c).BodyObligation (defs₀ (F := F)) 𝒱₀ none Set.univ := fun t Y hY => by
  obtain ⟨d0, h0⟩ := (RDat.finds_of_fetch _ (fetch4_0 t) _).1 (hY 0)
  obtain ⟨d1, h1⟩ := (RDat.finds_of_fetch _ (fetch4_1 t) _).1 (hY 1)
  obtain ⟨d2, h2⟩ := (RDat.finds_of_fetch _ (fetch4_2 t) _).1 (hY 2)
  obtain ⟨d3, h3⟩ := (RDat.finds_of_fetch _ (fetch4_3 t) _).1 (hY 3)
  have h4 := finds4 V O B c t _ (hY 4)
  have h5 := finds5 V O B c t _ (hY 5)
  have h6 := finds6 V O B c t _ (hY 6)
  have h7 := finds7 V O B c t _ (hY 7)
  have h8 := finds8 V O B c t _ (hY 8)
  have h9 := finds9 V O B c t _ (hY 9)
  have h10 := finds10 V O B c t _ (hY 10)
  have h11 := finds11 V O B c t _ (hY 11)
  have h12 := finds12 V O B c t _ (hY 12)
  have h13 := finds13 V O B c t _ (hY 13)
  have h14 := finds14 V O B c t _ (hY 14)
  have h15 := finds15 V O B c t _ (hY 15)
  have h16 := finds16 V O B c t _ (hY 16)
  rw [bigSep_W4, bigSep_W4, show (rdat V O B c).Φ t.succ = (rdat V O B c).Φ t.castSucc from rfl,
    show (rdat V O B c).owesAt none t.succ = (rdat V O B c).owesAt none t.castSucc from rfl]
  change _ ⊢ wp frame (wpE (defs₀ (F := F)) 𝒱₀ (c : Thread nD τ) none) Set.univ (bodyAt4 t) _
  iintro ⟨HΦ, HO, H0, H1, H2, H3, H4, H5, H6, H7, H8, H9, H10, H11, H12, H13, H14, H15, H16, H17⟩
  iapply (wp_wand_r frame (wpE (defs₀ (F := F)) 𝒱₀ (c : Thread nD τ) none) Set.univ)
  isplitl [H0 H1 H2 H3 H4 H5 H6 H7 H8 H9 H10 H11 H12 H13 H14 H15 H16 H17]
  · iapply (mlp_run (F := F) c (grid4.coords t) _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 15) (Y 16) (Y 17))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro %_ ⟨H0, H1, H2, H3, H4, H5, H6, H7, H8, H9, H10, H11, H12, H13, H14, H15, H16, H17⟩
    isplitl [HΦ]; · iexact HΦ
    isplitl [HO]; · iexact HO
    isplitl [H0]
    · iexists _; isplitr; swap; · iexact H0
      ipureintro; exact trivial
    isplitl [H1]
    · iexists _; isplitr; swap; · iexact H1
      ipureintro; exact trivial
    isplitl [H2]
    · iexists _; isplitr; swap; · iexact H2
      ipureintro; exact trivial
    isplitl [H3]
    · iexists _; isplitr; swap; · iexact H3
      ipureintro; exact trivial
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    isplitl [H15]
    · iexists _; isplitr; swap; · iexact H15
      ipureintro; exact h15
    isplitl [H16]
    · iexists _; isplitr; swap; · iexact H16
      ipureintro; exact h16
    iexists _; isplitr; swap; · iexact H17
    ipureintro
    show _ = outAt V t
    rw [h0, h1, h2, h3, h4, h5, h6, h7, h8, h9, h10, h11, h12, h13, h14, h15, h16]; rfl

theorem blockIndex : ∀ t : Fin grid4.N, (win4_0.index t 0 = t.val ∧ win4_0.index t 1 = 0) ∧ (win4_1.index t 0 = t.val ∧ win4_1.index t 1 = 0)
    ∧ (win4_2.index t 0 = 0 ∧ win4_2.index t 1 = t.val) ∧ (win4_3.index t 0 = 0 ∧ win4_3.index t 1 = t.val)
    ∧ (win4_17.index t 0 = 0 ∧ win4_17.index t 1 = t.val) := by decide +kernel

/-- The result related to the arrays the call reads: each of its columns was stored by the grid point it belongs to, from that
    point's blocks of the four arrays indexed by the batch and from the others whole. -/
def Scored (x : S5x16384.Idx) (v : F .f32) : Prop :=
  ∃ (r0 r1 : S4096x128.Idx → F .f32) (g : S20x4096.Idx → F .f32) (u : S1x4096.Idx → F .f32),
    (∀ (j : S4096x128.Idx) (y : S16384x128.Idx), (y 0).val = 4096 * ((x 1).val / 4096) + (j 0).val → (y 1).val = (j 1).val → r0 j = arr0 V y)
    ∧ (∀ (j : S4096x128.Idx) (y : S16384x128.Idx), (y 0).val = 4096 * ((x 1).val / 4096) + (j 0).val → (y 1).val = (j 1).val → r1 j = arr1 V y)
    ∧ (∀ (j : S20x4096.Idx) (y : S20x16384.Idx), (y 0).val = (j 0).val → (y 1).val = 4096 * ((x 1).val / 4096) + (j 1).val → g j = arr2 V y)
    ∧ (∀ (j : S1x4096.Idx) (y : S1x16384.Idx), (y 1).val = 4096 * ((x 1).val / 4096) + (j 1).val → u j = arr3 V y)
    ∧ ∀ j : S5x4096.Idx, (j 0).val = (x 0).val → (j 1).val = (x 1).val % 4096 → v = mlpVal r0 r1 g u (arr4 V) (arr5 V) (arr6 V) (arr7 V) (arr8 V) (arr9 V) (arr10 V) (arr11 V) (arr12 V) (arr13 V) (arr14 V) (arr15 V) (arr16 V) j

/-- What the result's array may hold at the end. -/
theorem scored_of_arr (c : Dev nD) (G : S5x16384.Idx → F .f32) (hG : (rdat V O B c).ArrAt 17 cfg4.N G) (x : S5x16384.Idx) : Scored V x (G x) := by
  obtain ⟨X, hX, hA⟩ := hG.exists_exact
  let aft : (w : Fin cfg4.W) → Fin cfg4.N → (cfg4.win w).block.Idx → Elt F (cfg4.win w).elt := Function.update (fun _ _ _ => Classical.arbitrary _) 17 X
  have haft : aft 17 = X := Function.update_self ..
  have e := hA aft fun u _ _ => by rw [haft]
  rw [e]
  refine Pipeline.Dat.arrAt_forall_of_covers ((rdat V O B c).withAfter aft) 17 (harr := arr_whole4 17) (fun x v => Scored V x v) (by decide +kernel) (fun t hf y => ?_) x
  obtain ⟨Y, -, hXt⟩ := hX t t.isLt hf
  obtain ⟨⟨i00, i01⟩, ⟨i10, i11⟩, ⟨i20, i21⟩, ⟨i30, i31⟩, ⟨o0, o1⟩⟩ := blockIndex t
  have e0 : ((win4_17.rect t).emb y 0).val = win4_17.index t 0 * 5 + (y 0).val := Pipeline.Window.rect_emb_val win4_17 t y 0
  have e1 : ((win4_17.rect t).emb y 1).val = win4_17.index t 1 * 4096 + (y 1).val := Pipeline.Window.rect_emb_val win4_17 t y 1
  rw [o0] at e0
  rw [o1] at e1
  have hy : (y 1).val < 4096 := (y 1).isLt
  have hd : ((win4_17.rect t).emb y 1).val / 4096 = t.val := by omega
  have hr : ((win4_17.rect t).emb y 1).val % 4096 = (y 1).val := by omega
  show Scored V ((win4_17.rect t).emb y) _
  refine ⟨((cfg4.win 0).blk t).view.read (Elt F) (arr0 V), ((cfg4.win 1).blk t).view.read (Elt F) (arr1 V), ((cfg4.win 2).blk t).view.read (Elt F) (arr2 V), ((cfg4.win 3).blk t).view.read (Elt F) (arr3 V), fun j z h0 h1 => ?_, fun j z h0 h1 => ?_, fun j z h0 h1 => ?_, fun j z h1 => ?_, fun j h0 h1 => ?_⟩
  · rw [hd] at h0
    refine congrArg (arr0 V) (funext fun a => Fin.ext ?_)
    refine (Pipeline.Window.rect_emb_val win4_0 t _ a).trans ?_
    match a with
    | ⟨0, _⟩ => show win4_0.index t 0 * 4096 + (j 0).val = (z 0).val; rw [i00, h0]; omega
    | ⟨1, _⟩ => show win4_0.index t 1 * 128 + (j 1).val = (z 1).val; rw [i01, h1]; omega
  · rw [hd] at h0
    refine congrArg (arr1 V) (funext fun a => Fin.ext ?_)
    refine (Pipeline.Window.rect_emb_val win4_1 t _ a).trans ?_
    match a with
    | ⟨0, _⟩ => show win4_1.index t 0 * 4096 + (j 0).val = (z 0).val; rw [i10, h0]; omega
    | ⟨1, _⟩ => show win4_1.index t 1 * 128 + (j 1).val = (z 1).val; rw [i11, h1]; omega
  · rw [hd] at h1
    refine congrArg (arr2 V) (funext fun a => Fin.ext ?_)
    refine (Pipeline.Window.rect_emb_val win4_2 t _ a).trans ?_
    match a with
    | ⟨0, _⟩ => show win4_2.index t 0 * 20 + (j 0).val = (z 0).val; rw [i20, h0]; omega
    | ⟨1, _⟩ => show win4_2.index t 1 * 4096 + (j 1).val = (z 1).val; rw [i21, h1]; omega
  · rw [hd] at h1
    refine congrArg (arr3 V) (funext fun a => Fin.ext ?_)
    refine (Pipeline.Window.rect_emb_val win4_3 t _ a).trans ?_
    match a with
    | ⟨0, _⟩ => show win4_3.index t 0 * 1 + (j 0).val = (z 0).val; rw [i30]; have hj : (j 0).val < 1 := (j 0).isLt; have hz : (z 0).val < 1 := (z 0).isLt; omega
    | ⟨1, _⟩ => show win4_3.index t 1 * 4096 + (j 1).val = (z 1).val; rw [i31, h1]; omega
  · rw [hr] at h1
    have ej : j = y := funext fun a => Fin.ext (by
      match a with
      | ⟨0, _⟩ => exact h0.trans (e0.trans (by show 0 * 5 + (y 0).val = (y 0).val; omega))
      | ⟨1, _⟩ => exact h1)
    rw [ej]
    show aft 17 t y = _
    rw [haft, hXt]
    rfl

end Cert.Proof.I.Mlp
-- ==== Proof.IReg4.lean ====
/-
  The network's call as a region of @main: from the arrays its windows read, held at a valuation, to the result's array
  related element by element to them.
-/
module

public import proofs.«01_k».proof.Proof.IMlp
public import Idealize.ShloMosaic.Lib.Pipeline.RegionsLoop

@[expose] public section

noncomputable section

namespace Cert.Proof.I.Mlp

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig (HIx 2) (Elt F) ℕ UU ℕ

variable (V : Valuation τ sig (Elt F)) (O : CellTallies nD τ sig (HIx 2)) (B : Set (SemLoc sig × HIx 2))

/-- The proof data of the three TensorCore calls, when this one is run: its own, anything elsewhere. -/
def rdats : (p : Fin 3) → (c : Dev nD) → RDat τ (Elt F) (HIx 2) ℕ UU ℕ (Pipeline.pin (pcfgs (F := F)) adm p) c
  | 0 => fun c => junk c
  | 1 => fun c => junk c
  | 2 => fun c => rdat V O B c

/-- The arrays of the call's windows. -/
abbrev arrRefs4 : Finset (DevRef τ sig) := (Finset.univ.image (Pipeline.arrRef spec4)).map ⟨Proc.devRef (τ := τ) .tc, Proc.devRef_injective _⟩

theorem share_full (c : Dev nD) (w : Fin cfg4.W) : (rdat V O B c).share w = fullShare := by
  unfold Pipeline.RDat.share; split <;> rfl

/-- The windows' arrays, from the buffers held at the valuation. -/
theorem arrays_held (c : Dev nD) :
    (rdat V O B c).arrays (rdat V O B c).A = (StableHlo.held (c : Thread nD τ) arrRefs4 V : sProp 𝕄) := by
  unfold Pipeline.RDat.arrays StableHlo.held arrRefs4
  rw [bigSep_map, show Finset.univ.image (Pipeline.arrRef spec4) = Finset.univ.map ⟨Pipeline.arrRef spec4, (launch4).win.arr_inj⟩ from
    (Finset.map_eq_image ⟨Pipeline.arrRef spec4, (launch4).win.arr_inj⟩ Finset.univ).symm, bigSep_map]
  refine bigSep_congr fun w _ => ?_
  rw [share_full, show (cfg4.win w).arr.view.set = Finset.univ from (arr_whole4 w).set_eq_univ]
  rfl

theorem take4 (d : Dev nD) :
    (iprop(∃ f, ⌜(rdat V O B d).ArrAt 4 cfg4.N f⌝ ∗ (cfg4.win 4).arr.view.loc (d : Thread nD τ) ↦[(cfg4.win 4).arr.view.set]{(rdat V O B d).share 4} f) : sProp 𝕄)
      ⊢ (((d : Thread nD τ).loc main_arg7) ↦{fullShare} (arr4 V : Buf (Elt F) ((d : Thread nD τ).loc main_arg7))) := by
  rw [share_full, (rdat V O B d).ArrAt_in 4 rfl, show (cfg4.win 4).arr.view.set = Finset.univ from (arr_whole4 4).set_eq_univ]
  iintro ⟨%f, %h, H⟩
  have e : f = arr4 V := h
  subst e
  iexact H

theorem take11 (d : Dev nD) :
    (iprop(∃ f, ⌜(rdat V O B d).ArrAt 11 cfg4.N f⌝ ∗ (cfg4.win 11).arr.view.loc (d : Thread nD τ) ↦[(cfg4.win 11).arr.view.set]{(rdat V O B d).share 11} f) : sProp 𝕄)
      ⊢ (((d : Thread nD τ).loc main_arg11) ↦{fullShare} (arr11 V : Buf (Elt F) ((d : Thread nD τ).loc main_arg11))) := by
  rw [share_full, (rdat V O B d).ArrAt_in 11 rfl, show (cfg4.win 11).arr.view.set = Finset.univ from (arr_whole4 11).set_eq_univ]
  iintro ⟨%f, %h, H⟩
  have e : f = arr11 V := h
  subst e
  iexact H

theorem take13 (d : Dev nD) :
    (iprop(∃ f, ⌜(rdat V O B d).ArrAt 13 cfg4.N f⌝ ∗ (cfg4.win 13).arr.view.loc (d : Thread nD τ) ↦[(cfg4.win 13).arr.view.set]{(rdat V O B d).share 13} f) : sProp 𝕄)
      ⊢ (((d : Thread nD τ).loc main_arg13) ↦{fullShare} (arr13 V : Buf (Elt F) ((d : Thread nD τ).loc main_arg13))) := by
  rw [share_full, (rdat V O B d).ArrAt_in 13 rfl, show (cfg4.win 13).arr.view.set = Finset.univ from (arr_whole4 13).set_eq_univ]
  iintro ⟨%f, %h, H⟩
  have e : f = arr13 V := h
  subst e
  iexact H

theorem take15 (d : Dev nD) :
    (iprop(∃ f, ⌜(rdat V O B d).ArrAt 15 cfg4.N f⌝ ∗ (cfg4.win 15).arr.view.loc (d : Thread nD τ) ↦[(cfg4.win 15).arr.view.set]{(rdat V O B d).share 15} f) : sProp 𝕄)
      ⊢ (((d : Thread nD τ).loc main_arg15) ↦{fullShare} (arr15 V : Buf (Elt F) ((d : Thread nD τ).loc main_arg15))) := by
  rw [share_full, (rdat V O B d).ArrAt_in 15 rfl, show (cfg4.win 15).arr.view.set = Finset.univ from (arr_whole4 15).set_eq_univ]
  iintro ⟨%f, %h, H⟩
  have e : f = arr15 V := h
  subst e
  iexact H

theorem take17 (d : Dev nD) :
    (iprop(∃ f, ⌜(rdat V O B d).ArrAt 17 cfg4.N f⌝ ∗ (cfg4.win 17).arr.view.loc (d : Thread nD τ) ↦[(cfg4.win 17).arr.view.set]{(rdat V O B d).share 17} f) : sProp 𝕄)
      ⊢ iprop(∃ f : S5x16384.Idx → F .f32, ⌜∀ x, Scored V x (f x)⌝ ∗ (((d : Thread nD τ).loc main_v36) ↦{fullShare} (f : Buf (Elt F) ((d : Thread nD τ).loc main_v36)))) := by
  rw [share_full, show (cfg4.win 17).arr.view.set = Finset.univ from (arr_whole4 17).set_eq_univ]
  iintro ⟨%f, %h, H⟩
  iexists f
  isplitr; · ipureintro; exact scored_of_arr V O B d f h
  iexact H

/-- What the region leaves of the arrays. -/
def left (d : Dev nD) : sProp 𝕄 :=
  iprop((((d : Thread nD τ).loc main_arg7) ↦{fullShare} (arr4 V : Buf (Elt F) ((d : Thread nD τ).loc main_arg7)))
        ∗ (((d : Thread nD τ).loc main_arg11) ↦{fullShare} (arr11 V : Buf (Elt F) ((d : Thread nD τ).loc main_arg11)))
        ∗ (((d : Thread nD τ).loc main_arg13) ↦{fullShare} (arr13 V : Buf (Elt F) ((d : Thread nD τ).loc main_arg13)))
        ∗ (((d : Thread nD τ).loc main_arg15) ↦{fullShare} (arr15 V : Buf (Elt F) ((d : Thread nD τ).loc main_arg15)))
        ∗ ∃ f : S5x16384.Idx → F .f32, ⌜∀ x, Scored V x (f x)⌝ ∗ (((d : Thread nD τ).loc main_v36) ↦{fullShare} (f : Buf (Elt F) ((d : Thread nD τ).loc main_v36))))

theorem arrays_elim (d : Dev nD) : (rdat V O B d).arraysAt cfg4.N ⊢ left V d := by
  unfold Pipeline.RDat.arraysAt left
  rw [bigSep_W4]
  iintro ⟨-, -, -, -, H4, -, -, -, -, -, -, H11, -, H13, -, H15, -, H17⟩
  isplitl [H4]; · iapply (take4 V O B d); iexact H4
  isplitl [H11]; · iapply (take11 V O B d); iexact H11
  isplitl [H13]; · iapply (take13 V O B d); iexact H13
  isplitl [H15]; · iapply (take15 V O B d); iexact H15
  iapply (take17 V O B d); iexact H17

/-- The tallies within the region's bound are those within `B`. -/
theorem bound_sub (hB : ∀ p : SemLoc sig × HIx 2, p.2 = none → p ∈ B) (d : Dev nD) (t) :
    ∀ p ∈ (rdat V O B d).bound none t, p ∈ B := fun p hp => by
  rcases hp with hp | ⟨w, s, rfl⟩
  · exact hp
  · exact hB _ rfl

/-- What the region is entered with, -/
def preP (d : Dev nD) : sProp 𝕄 :=
  iprop(StableHlo.held (d : Thread nD τ) arrRefs4 V ∗ Pipeline.owesWithin d O B)

/-- and what it leaves. -/
def postP (d : Dev nD) : sProp 𝕄 :=
  iprop(left V d ∗ Pipeline.owesWithin d O B)

set_option backward.isDefEq.respectTransparency.types false in
/-- The region. -/
def reg (hO : ∀ g, O g none = 0) (hB : ∀ p : SemLoc sig × HIx 2, p.2 = none → p ∈ B) :
    RDat.RegionSeg (pcfgs (F := F)) adm (rdats V O B) none defs₀ 𝒱₀ (SC (F := F)).L (SC (F := F)).lev 2 where
  win := (launch4).win.to₀
  block_pos := (launch4).block_pos
  stage_whole := (launch4).stage_whole
  K := PEmpty
  osem k := k.elim
  ho := Pipeline.OwnSemFacts.none _
  hbody c := body_obligation V O B c
  hwaits c := RDat.cellsWaits_intro (Pipeline.pin (pcfgs (F := F)) adm) (rdats V O B) none 2 c fun w s t => (SC (F := F)).mayWait_none _ hO
  pre d := preP V O B d
  post d := postP V O B d
  X _ := BI.emp
  Y _ := BI.emp
  Z _ := BI.emp
  hentry c := by
    rw [Pipeline.ownSems0_none]
    unfold preP
    iintro ⟨⟨Ha, HO⟩, -, -⟩
    imodintro
    isplitl [Ha]; · iapply (Entails.of_eq (arrays_held V O B c).symm); iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW hp)
      iexact HO
    isplitr <;> iempintro
  hin c := by
    rw [show (rdats V O B 2 c).Φ 0 = Pipeline.scopedRest (Ix := HIx 2) (Name := ℕ) (U := UU) (Lvl := ℕ) (Val := Elt F) spec4 c from rfl]
    iintro ⟨-, -, Hr⟩; iexact Hr
  hout c := by
    rw [Pipeline.ownSems0_none, show (rdats V O B 2 c).Φ (Fin.last _) = Pipeline.scopedRest (Ix := HIx 2) (Name := ℕ) (U := UU) (Lvl := ℕ) (Val := Elt F) spec4 c from rfl]
    iintro Hr
    isplitr; · iempintro
    isplitr; · iempintro
    iexact Hr
  hexit c := by
    unfold postP
    iintro ⟨Ha, HO, -, -⟩
    imodintro
    isplitl [Ha]
    · iapply (arrays_elim V O B c); iexact Ha
    unfold Pipeline.RDat.owesAt Pipeline.owesWithin
    icases HO with ⟨%W, %hW, HO⟩; iexists W; isplitr; · ipureintro; exact fun p hp => bound_sub V O B hB c _ p (hW hp)
    iexact HO

/-- The call, run. -/
theorem call_wp (d : Dev nD) (hO : ∀ g, O g none = 0) (hB : ∀ p : SemLoc sig × HIx 2, p.2 = none → p ∈ B) :
    (iprop(boundary (d : Thread nD τ) ∗ StableHlo.held (d : Thread nD τ) arrRefs4 V ∗ Pipeline.owesWithin d O B ∗ levAts (SC (F := F)).L (SC (F := F)).lev
        ∗ Pipeline.cellsGhost (Pipeline.pin (pcfgs (F := F)) adm) EP 2 d ∗ Pipeline.toksInit (Pipeline.pin (pcfgs (F := F)) adm) EP 2 d) : sProp 𝕄)
      ⊢ wp frame (wpE (DD (F := F)) 𝒱P (d : Thread nD τ) none) Set.univ (Prog.lift (.customCall (Pipeline.entry 2) ()))
          fun _ => (iprop(boundary (d : Thread nD τ) ∗ left V d ∗ Pipeline.owesWithin d O B) : sProp 𝕄) := by
  iintro ⟨Hb, Ha, HO, HL, Hg, Ht⟩
  have H := RDat.RegionSeg.wp (pcfgs (F := F)) adm (rdats V O B) none cellOf_inj EP defs₀ 𝒱₀ (SC (F := F)).L (SC (F := F)).lev
    (reg V O B hO hB) d none (fun _ h => absurd h (Option.not_mem_none _)) Prog.ret
    (fun _ => (iprop(boundary (d : Thread nD τ) ∗ left V d ∗ Pipeline.owesWithin d O B) : sProp 𝕄))
  rw [show (reg V O B hO hB).pre d = preP V O B d from rfl, show (reg V O B hO hB).post d = postP V O B d from rfl, preP, postP] at H
  iapply H
  isplitr
  · iintro ⟨Hb, Ha, HO⟩
    rw [wp_ret]
    imodintro
    isplitl [Hb]; · iexact Hb
    isplitl [Ha]; · iexact Ha
    iexact HO
  isplitl [Hb]; · iexact Hb
  isplitl [Ha HO]
  · isplitl [Ha]; · iexact Ha
    iexact HO
  isplitl [HL]; · iexact HL
  isplitl [Hg]; · iexact Hg
  iexact Ht

end Cert.Proof.I.Mlp
-- ==== Proof.IHost.lean ====
/-
  The operations of @main outside the calls, and the set of arrays the TensorCore holds, less those given away.
-/
module

public import proofs.«01_k».proof.Proof.ISplit
public import proofs.«01_k».proof.Proof.IReg0
public import proofs.«01_k».proof.Proof.IReg2
public import proofs.«01_k».proof.Proof.IReg4

@[expose] public section

noncomputable section

namespace Cert.Proof.I

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 2) (Elt F) ℕ UU ℕ

/-! ## @main, as its host operations and its calls -/

/-- The operations before the first call, -/
def opsA : List (HloOp τ sig (Elt F)) :=
  [StableHlo.reshape main_arg1 main_v0 (rfl : (.i32 : EltTy) = .i32) shapeCasts_S16384x1_S16384,
   StableHlo.reshape main_arg0 main_v1 (rfl : (.i32 : EltTy) = .i32) shapeCasts_S16384x1_S16384,
   StableHlo.nullary main_v2 (iotaInDim S20x128 32 0),
   StableHlo.nullary main_v3 (iotaInDim S20x128 32 1),
   StableHlo.nullary main_c (constantI S_ 32 0#32),
   StableHlo.unary main_c main_v4 (broadcastInDim S20x128 ![] bcast_S_S20x128 : (⟨S_, .i32⟩ : BufTy).Contents (Elt F) → (⟨S20x128, .i32⟩ : BufTy).Contents (Elt F)),
   StableHlo.binary main_v2 main_v4 main_v5 (addi : (⟨S20x128, .i32⟩ : BufTy).Contents (Elt F) → (⟨S20x128, .i32⟩ : BufTy).Contents (Elt F) → (⟨S20x128, .i32⟩ : BufTy).Contents (Elt F)),
   StableHlo.binary main_v5 main_v3 main_v6 (cmpi .eq : (⟨S20x128, .i32⟩ : BufTy).Contents (Elt F) → (⟨S20x128, .i32⟩ : BufTy).Contents (Elt F) → (⟨S20x128, .i1⟩ : BufTy).Contents (Elt F)),
   StableHlo.unary main_v6 main_v7 (uitofp .f32 : (⟨S20x128, .i1⟩ : BufTy).Contents (Elt F) → (⟨S20x128, .f32⟩ : BufTy).Contents (Elt F)),
   StableHlo.nullary main_v8 (iotaInDim S20x128 32 0),
   StableHlo.nullary main_v9 (iotaInDim S20x128 32 1),
   StableHlo.nullary main_c_0 (constantI S_ 32 64#32),
   StableHlo.unary main_c_0 main_v10 (broadcastInDim S20x128 ![] bcast_S_S20x128 : (⟨S_, .i32⟩ : BufTy).Contents (Elt F) → (⟨S20x128, .i32⟩ : BufTy).Contents (Elt F)),
   StableHlo.binary main_v8 main_v10 main_v11 (addi : (⟨S20x128, .i32⟩ : BufTy).Contents (Elt F) → (⟨S20x128, .i32⟩ : BufTy).Contents (Elt F) → (⟨S20x128, .i32⟩ : BufTy).Contents (Elt F)),
   StableHlo.binary main_v11 main_v9 main_v12 (cmpi .eq : (⟨S20x128, .i32⟩ : BufTy).Contents (Elt F) → (⟨S20x128, .i32⟩ : BufTy).Contents (Elt F) → (⟨S20x128, .i1⟩ : BufTy).Contents (Elt F)),
   StableHlo.unary main_v12 main_v13 (uitofp .f32 : (⟨S20x128, .i1⟩ : BufTy).Contents (Elt F) → (⟨S20x128, .f32⟩ : BufTy).Contents (Elt F)),
   StableHlo.unary main_v7 main_v14 (broadcastInDim S1x20x128 ![1, 2] bcast_S20x128_S1x20x128_1_2 : (⟨S20x128, .f32⟩ : BufTy).Contents (Elt F) → (⟨S1x20x128, .f32⟩ : BufTy).Contents (Elt F)),
   StableHlo.unary main_v13 main_v15 (broadcastInDim S1x20x128 ![1, 2] bcast_S20x128_S1x20x128_1_2 : (⟨S20x128, .f32⟩ : BufTy).Contents (Elt F) → (⟨S1x20x128, .f32⟩ : BufTy).Contents (Elt F)),
   StableHlo.binary main_v14 main_v15 main_v16 ((fun a b => concatenate S2x20x128 0 [⟨S1x20x128, a⟩, ⟨S1x20x128, b⟩] concatenates_S1x20x128_S1x20x128_S2x20x128_d0) : (⟨S1x20x128, .f32⟩ : BufTy).Contents (Elt F) → (⟨S1x20x128, .f32⟩ : BufTy).Contents (Elt F) → (⟨S2x20x128, .f32⟩ : BufTy).Contents (Elt F)),
   StableHlo.unary main_v16 main_v17 (broadcastInDim S1x2x20x128 ![1, 2, 3] bcast_S2x20x128_S1x2x20x128_1_2_3 : (⟨S2x20x128, .f32⟩ : BufTy).Contents (Elt F) → (⟨S1x2x20x128, .f32⟩ : BufTy).Contents (Elt F)),
   StableHlo.unary main_arg5 main_v18 ((transpose S20x100000 [1, 0] · transposes_S100000x20_S20x100000_1_0) : (⟨S100000x20, .f32⟩ : BufTy).Contents (Elt F) → (⟨S20x100000, .f32⟩ : BufTy).Contents (Elt F))]

/-- between the calls for the first table and those for the second, -/
def opsB : List (HloOp τ sig (Elt F)) :=
  [StableHlo.unary main_arg6 main_v21 ((transpose S20x100000 [1, 0] · transposes_S100000x20_S20x100000_1_0) : (⟨S100000x20, .f32⟩ : BufTy).Contents (Elt F) → (⟨S20x100000, .f32⟩ : BufTy).Contents (Elt F))]

/-- before the last call, -/
def opsC : List (HloOp τ sig (Elt F)) :=
  [StableHlo.reshape main_arg2 main_v24 (rfl : (.f32 : EltTy) = .f32) shapeCasts_S16384x1x20_S16384x20,
   StableHlo.unary main_v24 main_v25 ((transpose S20x16384 [1, 0] · transposes_S16384x20_S20x16384_1_0) : (⟨S16384x20, .f32⟩ : BufTy).Contents (Elt F) → (⟨S20x16384, .f32⟩ : BufTy).Contents (Elt F)),
   StableHlo.unary main_arg9 main_v26 ((extractStridedSlice S20x128 ![0, 0] · slices_S49x128_S20x128_0_0) : (⟨S49x128, .f32⟩ : BufTy).Contents (Elt F) → (⟨S20x128, .f32⟩ : BufTy).Contents (Elt F)),
   StableHlo.unary main_arg9 main_v27 ((extractStridedSlice S20x128 ![20, 0] · slices_S49x128_S20x128_20_0) : (⟨S49x128, .f32⟩ : BufTy).Contents (Elt F) → (⟨S20x128, .f32⟩ : BufTy).Contents (Elt F)),
   StableHlo.unary main_arg9 main_v28 ((extractStridedSlice S8x128 ![40, 0] · slices_S49x128_S8x128_40_0) : (⟨S49x128, .f32⟩ : BufTy).Contents (Elt F) → (⟨S8x128, .f32⟩ : BufTy).Contents (Elt F)),
   StableHlo.unary main_arg9 main_v29 ((extractStridedSlice S1x128 ![48, 0] · slices_S49x128_S1x128_48_0) : (⟨S49x128, .f32⟩ : BufTy).Contents (Elt F) → (⟨S1x128, .f32⟩ : BufTy).Contents (Elt F)),
   StableHlo.unary main_arg3 main_v30 ((transpose S1x16384 [1, 0] · transposes_S16384x1_S1x16384_1_0) : (⟨S16384x1, .f32⟩ : BufTy).Contents (Elt F) → (⟨S1x16384, .f32⟩ : BufTy).Contents (Elt F)),
   StableHlo.reshape main_arg8 main_v31 (rfl : (.f32 : EltTy) = .f32) shapeCasts_S8_S1x8,
   StableHlo.reshape main_arg10 main_v32 (rfl : (.f32 : EltTy) = .f32) shapeCasts_S128_S1x128,
   StableHlo.reshape main_arg12 main_v33 (rfl : (.f32 : EltTy) = .f32) shapeCasts_S64_S1x64,
   StableHlo.reshape main_arg14 main_v34 (rfl : (.f32 : EltTy) = .f32) shapeCasts_S32_S1x32,
   StableHlo.reshape main_arg16 main_v35 (rfl : (.f32 : EltTy) = .f32) shapeCasts_S5_S5x1]

/-- and after it. -/
def opsE : List (HloOp τ sig (Elt F)) :=
  [StableHlo.unary main_v36 main_v37 ((transpose S16384x5 [1, 0] · transposes_S5x16384_S16384x5_1_0) : (⟨S5x16384, .f32⟩ : BufTy).Contents (Elt F) → (⟨S16384x5, .f32⟩ : BufTy).Contents (Elt F))]

abbrev ΛK : Labels := SparseCore.Sig (ΛP (F := F)) 2
/-- A call to a TensorCore kernel, in @main. -/
abbrev callP (p : Fin 3) : Prog (TpuEff nD τ sig (Elt F) (ΛK (F := F)) .tc) PUnit :=
  Prog.lift (.customCall (SparseCore.inner (Pipeline.entry p)) ())

theorem main_eq (d : Dev nD) : main (F := F) d =
    (StableHlo.seq opsA >>= fun _ => callP 0 >>= fun _ => sc.run d 0 >>= fun _ => StableHlo.seq opsB >>= fun _ => callP 1 >>= fun _ => sc.run d 1 >>= fun _ =>
      StableHlo.seq opsC >>= fun _ => callP 2 >>= fun _ => StableHlo.seq opsE >>= fun _ => pure ⟨⟩) := by
  rw [StableHlo.seq_bind_seqK opsA, StableHlo.seq_bind_seqK opsB, StableHlo.seq_bind_seqK opsC, StableHlo.seq_bind_seqK opsE]
  rfl

/-! ## The arrays held -/

/-- The TensorCore's arrays that are not a region's own, -/
def ucRefs : Finset (DevRef τ sig) := (StableHlo.tcRefs τ sig).filter fun b => ¬ b.isScoped
/-- and those of them not in a list. -/
def kept (D : List (Ref sig .tc)) : Finset (DevRef τ sig) := ucRefs \ (D.map (Proc.devRef (τ := τ) .tc)).toFinset

theorem unscopedBufs_held (d : Dev nD) (W : Valuation τ sig (Elt F)) :
    (unscopedBufs d (fun b => W (Proc.devRef .tc b)) : sProp 𝕄) = StableHlo.held (d : Thread nD τ) ucRefs W := by
  unfold unscopedBufs StableHlo.held ucRefs StableHlo.tcRefs
  rw [Finset.filter_map, bigSep_map]
  rfl

theorem kept_nil : kept [] = ucRefs := by unfold kept; simp

theorem mem_kept {D : List (Ref sig .tc)} {r : Ref sig .tc} (h : r.isScoped = false) (hD : r ∉ D) : Proc.devRef .tc r ∈ kept D := by
  refine Finset.mem_sdiff.mpr ⟨Finset.mem_filter.mpr ⟨StableHlo.devRef_mem_tcRefs r, ?_⟩, fun hr => ?_⟩
  · have e : (Proc.devRef (τ := τ) .tc r).isScoped = r.isScoped := rfl
    rw [e, h]; decide
  · obtain ⟨y, hy, he⟩ := List.mem_map.mp (List.mem_toFinset.mp hr)
    exact hD (Proc.devRef_injective _ he ▸ hy)

theorem kept_cons (D : List (Ref sig .tc)) (r : Ref sig .tc) : kept D \ {Proc.devRef .tc r} = kept (r :: D) := by
  unfold kept
  rw [List.map_cons, List.toFinset_cons, Finset.sdiff_sdiff_left', Finset.insert_eq, Finset.union_comm, ← Finset.sdiff_union_distrib]

/-- One array out of those held. -/
theorem held_take (d : Dev nD) {D : List (Ref sig .tc)} {r : Ref sig .tc} (h : r.isScoped = false) (hD : r ∉ D) (V : Valuation τ sig (Elt F)) :
    (StableHlo.held (d : Thread nD τ) (kept D) V : sProp 𝕄)
      = iprop(((d : Thread nD τ).loc r ↦{fullShare} V (Proc.devRef .tc r)) ∗ StableHlo.held (d : Thread nD τ) (kept (r :: D)) V) := by
  rw [StableHlo.held_sub_split (d : Thread nD τ) (Finset.singleton_subset_iff.mpr (mem_kept h hD)) V, kept_cons]
  congr 1
  unfold StableHlo.held
  exact bigSep_singleton

/-- One array put back, with new contents. -/
theorem held_put (d : Dev nD) {D : List (Ref sig .tc)} {r : Ref sig .tc} (h : r.isScoped = false) (hD : r ∉ D) (V : Valuation τ sig (Elt F))
    (f : Buf (Elt F) ((d : Thread nD τ).loc r)) :
    (iprop(((d : Thread nD τ).loc r ↦{fullShare} f) ∗ StableHlo.held (d : Thread nD τ) (kept (r :: D)) V) : sProp 𝕄)
      = StableHlo.held (d : Thread nD τ) (kept D) (Function.update V (Proc.devRef .tc r) f) := by
  rw [held_take d h hD (Function.update V (Proc.devRef .tc r) f), Function.update_self]
  congr 1
  refine StableHlo.held_congr _ fun b hb => (Function.update_of_ne (fun e => ?_) _ _).symm
  subst e
  exact (Finset.mem_sdiff.mp hb).2 (List.mem_toFinset.mpr (List.mem_map_of_mem List.mem_cons_self))

theorem bufs_nullary {D : List (Ref sig .tc)} {y : Ref sig .tc} (v : y.ty.Contents (Elt F)) (hy) (h : y.isScoped = false ∧ y ∉ D) :
    (StableHlo.nullary (τ := τ) y v hy).bufs ⊆ kept D := by
  rw [StableHlo.nullary_bufs]
  exact Finset.singleton_subset_iff.mpr (mem_kept h.1 h.2)
theorem bufs_unary {D : List (Ref sig .tc)} {x y : Ref sig .tc} (f : x.ty.Contents (Elt F) → y.ty.Contents (Elt F)) (hx hy)
    (h : ∀ r ∈ [x, y], r.isScoped = false ∧ r ∉ D) : (StableHlo.unary (τ := τ) x y f hx hy).bufs ⊆ kept D := by
  rw [StableHlo.unary_bufs]
  exact Finset.insert_subset (mem_kept (h x (by simp)).1 (h x (by simp)).2) (Finset.singleton_subset_iff.mpr (mem_kept (h y (by simp)).1 (h y (by simp)).2))
theorem bufs_reshape {D : List (Ref sig .tc)} {x y : Ref sig .tc} (he hn hx hy)
    (h : ∀ r ∈ [x, y], r.isScoped = false ∧ r ∉ D) : (StableHlo.reshape (τ := τ) (Val := Elt F) x y he hn hx hy).bufs ⊆ kept D := by
  rw [StableHlo.reshape_bufs]
  exact Finset.insert_subset (mem_kept (h x (by simp)).1 (h x (by simp)).2) (Finset.singleton_subset_iff.mpr (mem_kept (h y (by simp)).1 (h y (by simp)).2))
theorem bufs_binary {D : List (Ref sig .tc)} {a b y : Ref sig .tc} (f : a.ty.Contents (Elt F) → b.ty.Contents (Elt F) → y.ty.Contents (Elt F)) (ha hb hy)
    (h : ∀ r ∈ [a, b, y], r.isScoped = false ∧ r ∉ D) : (StableHlo.binary (τ := τ) a b y f ha hb hy).bufs ⊆ kept D := by
  rw [StableHlo.binary_bufs]
  exact Finset.insert_subset (mem_kept (h a (by simp)).1 (h a (by simp)).2) (Finset.insert_subset (mem_kept (h b (by simp)).1 (h b (by simp)).2)
    (Finset.singleton_subset_iff.mpr (mem_kept (h y (by simp)).1 (h y (by simp)).2)))

/-- The arrays given away before each group of operations. -/
abbrev goneB : List (Ref sig .tc) := [main_v19, main_v0, main_v18]
abbrev goneC : List (Ref sig .tc) := [main_v22, main_v1, main_v21, main_v19, main_v0, main_v18]

theorem opsA_sub : ∀ op ∈ opsA (F := F), op.bufs ⊆ kept [] := by
  unfold opsA
  simp only [List.forall_mem_cons]
  refine ⟨bufs_reshape _ _ _ _ (by decide), bufs_reshape _ _ _ _ (by decide), bufs_nullary _ _ (by decide), bufs_nullary _ _ (by decide), bufs_nullary _ _ (by decide), bufs_unary _ _ _ (by decide), bufs_binary _ _ _ _ (by decide), bufs_binary _ _ _ _ (by decide), bufs_unary _ _ _ (by decide), bufs_nullary _ _ (by decide), bufs_nullary _ _ (by decide), bufs_nullary _ _ (by decide), bufs_unary _ _ _ (by decide), bufs_binary _ _ _ _ (by decide), bufs_binary _ _ _ _ (by decide), bufs_unary _ _ _ (by decide), bufs_unary _ _ _ (by decide), bufs_unary _ _ _ (by decide), bufs_binary _ _ _ _ (by decide), bufs_unary _ _ _ (by decide), bufs_unary _ _ _ (by decide), fun _ h => absurd h List.not_mem_nil⟩
theorem opsA_fresh : ∀ op ∈ opsA (F := F), op.fresh = ∅ := by
  have h : (opsA (F := F)).Forall fun op => op.fresh = ∅ := StableHlo.forall_fresh_of_map rfl
  exact List.forall_iff_forall_mem.mp h

theorem opsB_sub : ∀ op ∈ opsB (F := F), op.bufs ⊆ kept goneB := by
  unfold opsB
  simp only [List.forall_mem_cons]
  refine ⟨bufs_unary _ _ _ (by decide), fun _ h => absurd h List.not_mem_nil⟩
theorem opsB_fresh : ∀ op ∈ opsB (F := F), op.fresh = ∅ := by
  have h : (opsB (F := F)).Forall fun op => op.fresh = ∅ := StableHlo.forall_fresh_of_map rfl
  exact List.forall_iff_forall_mem.mp h

theorem opsC_sub : ∀ op ∈ opsC (F := F), op.bufs ⊆ kept goneC := by
  unfold opsC
  simp only [List.forall_mem_cons]
  refine ⟨bufs_reshape _ _ _ _ (by decide), bufs_unary _ _ _ (by decide), bufs_unary _ _ _ (by decide), bufs_unary _ _ _ (by decide), bufs_unary _ _ _ (by decide), bufs_unary _ _ _ (by decide), bufs_unary _ _ _ (by decide), bufs_reshape _ _ _ _ (by decide), bufs_reshape _ _ _ _ (by decide), bufs_reshape _ _ _ _ (by decide), bufs_reshape _ _ _ _ (by decide), bufs_reshape _ _ _ _ (by decide), fun _ h => absurd h List.not_mem_nil⟩
theorem opsC_fresh : ∀ op ∈ opsC (F := F), op.fresh = ∅ := by
  have h : (opsC (F := F)).Forall fun op => op.fresh = ∅ := StableHlo.forall_fresh_of_map rfl
  exact List.forall_iff_forall_mem.mp h

end Cert.Proof.I
-- ==== Proof.ICalls.lean ====
/-
  The five calls of @main, each from the arrays held before it to those held after it.
-/
module

public import proofs.«01_k».proof.Proof.IHost

@[expose] public section

noncomputable section

namespace Cert.Proof.I

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (T : Fin 2 → Dev nD → (S50176x128.Idx → F .f32) → Prop) (ids : Fin 2 → Dev nD → S16384.Idx → BitVec 32)
variable (κ : GSem nD τ sig → ℕ) (d : Dev nD) (V : Valuation τ sig (Elt F))

/-- The state of the TensorCore's side of the calls, but what it owes. -/
abbrev tcRest (n : ℕ) : sProp 𝕄 :=
  iprop(atPos EH ((SC (F := F)).doneCell d) n ∅ 0 ∗ reached EH ((SC (F := F)).doneCell d) n
    ∗ (bigSep Finset.univ fun c : Fin τ.nSC => reached EH ((SC (F := F)).startCell d c) ((SC (F := F)).sRank c n))
    ∗ bigSep (SparseCore.Cfg.callsFrom n) fun q : Fin 2 => bigSep Finset.univ fun c : Fin ((SC (F := F)).nCore q) =>
        iprop(dutyTok EH ((SC (F := F)).startCell d ((SC (F := F)).core q c)) ((SC (F := F)).sRank ((SC (F := F)).core q c) q.val) 0
          ∗ cred (tallyAt ((SC (F := F)).doneCell d) (some (SparseCore.Cfg.Blocks.last q)) 1)))

/-- The pairs the TensorCore may have waited on before call `n`. -/
def below (n : ℕ) : Set (SemLoc sig × HIx 2) := {p | (SC (F := F)).lev ((d : Thread nD τ), p.1) p.2 ≤ 8 * SparseCore.Cfg.Blocks.fst (Q := 2) (N := 2) n}

theorem tcSt_eq (n : ℕ) : ((SC (F := F)).tcSt EH d n : sProp 𝕄)
    ⊣⊢ iprop(Pipeline.owesWithin d ((SC (F := F)).Otc d n) (below (F := F) d n) ∗ tcRest d n) := by
  constructor
  · unfold SparseCore.Cfg.tcSt Pipeline.owesWithin
    iintro ⟨⟨%W, %hW, HO⟩, HR⟩
    isplitl [HO]
    · iexists W
      isplitr; · ipureintro; exact fun p hp => hW p hp
      iexact HO
    iexact HR
  · unfold SparseCore.Cfg.tcSt Pipeline.owesWithin
    iintro ⟨⟨%W, %hW, HO⟩, HR⟩
    isplitl [HO]
    · iexists W
      isplitr; · ipureintro; exact fun p hp => hW hp
      iexact HO
    iexact HR

theorem Otc_none (n : ℕ) : ∀ g, (SC (F := F)).Otc d n g none = 0 := fun g => by
  rcases Nat.eq_zero_or_pos ((SC (F := F)).Otc d n g none) with h | h
  · exact h
  · exact absurd (SparseCore.Cfg.lev_of_Otc_pos h) (by rw [show (SC (F := F)).lev g none = 0 from rfl]; omega)

theorem none_below (n : ℕ) : ∀ p : SemLoc sig × HIx 2, p.2 = none → p ∈ below (F := F) d n := fun p hp => by
  show (SC (F := F)).lev _ p.2 ≤ _
  rw [hp]; exact Nat.zero_le _

/-- A kernel's call, in @main. -/
theorem lift_call (p : Fin 3) (Φ : PUnit → sProp 𝕄) :
    wp frame (wpE (DD (F := F)) 𝒱P (d : Thread nD τ) none) Set.univ (Prog.lift (.customCall (Pipeline.entry p) ())) Φ
      ⊢ wp frame (wpE ((SC (F := F)).defs (DD (F := F))) 𝒱P (d : Thread nD τ) none) Set.univ (callP p) Φ :=
  (SC (F := F)).wp_liftProg (DD (F := F)) 𝒱P (d : Thread nD τ) Set.univ none (Prog.lift (.customCall (Pipeline.entry p) ())) Φ

abbrev ghosts (p : Fin 3) : sProp 𝕄 :=
  iprop(Pipeline.cellsGhost (Pipeline.pin (pcfgs (F := F)) Prep0.adm) EP p d ∗ Pipeline.toksInit (Pipeline.pin (pcfgs (F := F)) Prep0.adm) EP p d)

theorem st0_eq : (bigSep Finset.univ fun c : Fin ((SC (F := F)).nCore 0) => (P T ids).st 0 d c)
    = bigSep Finset.univ fun c : Fin 2 => bigSep Finset.univ fun i : Fin 16 => Tile1.goPts (T 0 d) (ids 0 d) d c i := rfl
theorem dn0_eq : (bigSep Finset.univ fun c : Fin ((SC (F := F)).nCore 0) => (P T ids).dn 0 d c)
    = bigSep Finset.univ fun c : Fin 2 => bigSep Finset.univ fun i : Fin 16 => Tile1.tdPts (T 0 d) (ids 0 d) d c i := rfl

theorem st1_eq : (bigSep Finset.univ fun c : Fin ((SC (F := F)).nCore 1) => (P T ids).st 1 d c)
    = bigSep Finset.univ fun c : Fin 2 => bigSep Finset.univ fun i : Fin 16 => Tile3.goPts (T 1 d) (ids 1 d) d c i := rfl
theorem dn1_eq : (bigSep Finset.univ fun c : Fin ((SC (F := F)).nCore 1) => (P T ids).dn 1 d c)
    = bigSep Finset.univ fun c : Fin 2 => bigSep Finset.univ fun i : Fin 16 => Tile3.tdPts (T 1 d) (ids 1 d) d c i := rfl

/-- The call that packs the first table. -/
theorem prep0_step :
    (iprop((SC (F := F)).ctx EH (P T ids) κ (SC (F := F)).lev ∗ (SC (F := F)).tcSt EH d 0 ∗ boundary (d : Thread nD τ)
        ∗ StableHlo.held (d : Thread nD τ) (kept []) V ∗ ghosts d 0) : sProp 𝕄)
      ⊢ wp frame (wpE ((SC (F := F)).defs (DD (F := F))) 𝒱P (d : Thread nD τ) none) Set.univ (callP 0) fun _ =>
        (iprop((SC (F := F)).tcSt EH d 0 ∗ boundary (d : Thread nD τ) ∗ ∃ f : S50176x128.Idx → F .f32,
          ⌜∀ x, Prep0.Packed (V (Proc.devRef .tc main_v18) : S20x100000.Idx → F .f32) (V (Proc.devRef .tc main_v17) : S1x2x20x128.Idx → F .f32) x (f x)⌝
          ∗ StableHlo.held (d : Thread nD τ) (kept [main_v18]) (Function.update V (Proc.devRef .tc main_v19) f)) : sProp 𝕄) := by
  rw [held_take d (r := main_v18) (by decide) (by decide) V, held_take d (r := main_v17) (by decide) (by decide) V,
    held_take d (r := main_v19) (by decide) (by decide) V]
  iintro ⟨#Hctx, Hst, Hb, ⟨Hs, He, Ht, Hr⟩, Hg, Hk⟩
  ihave Hlev := (SparseCore.Cfg.ctx_levAts κ) $$ Hctx
  ihave Hst := (tcSt_eq d 0).1 $$ Hst
  icases Hst with ⟨HO, Hrest⟩
  have HH := Prep0.call_wp (F := F) (V (Proc.devRef .tc main_v18) : S20x100000.Idx → F .f32) (V (Proc.devRef .tc main_v17) : S1x2x20x128.Idx → F .f32)
    ((SC (F := F)).Otc d 0) (below (F := F) d 0) d (Otc_none d 0) (none_below d 0)
  ihave H := HH $$ [Hb Hs He Ht HO Hlev Hg Hk]
  · isplitl [Hb]; · iexact Hb
    isplitl [Hs]; · iexact Hs
    isplitl [He]; · iexact He
    isplitl [Ht]; · iexists (V (Proc.devRef .tc main_v19)); iexact Ht
    isplitl [HO]; · iexact HO
    isplitl [Hlev]; · iexact Hlev
    isplitl [Hg]; · iexact Hg
    iexact Hk
  iapply (lift_call d 0 _)
  iapply (wp_wand_r frame _ _)
  isplitl [H]; · iexact H
  iintro %_ ⟨Hb, He, ⟨%f, %hf, Ht⟩, HO⟩
  isplitl [HO Hrest]
  · iapply (tcSt_eq d 0).2
    isplitl [HO]; · iexact HO
    iexact Hrest
  isplitl [Hb]; · iexact Hb
  iexists f
  isplitr; · ipureintro; exact hf
  rw [held_take d (r := main_v17) (D := [main_v18]) (by decide) (by decide) (Function.update V (Proc.devRef .tc main_v19) f),
    Function.update_of_ne (StableHlo.devRef_ne_of_ne (by decide)), ← held_put d (r := main_v19) (by decide) (by decide) V f]
  isplitl [He]; · iexact He
  isplitl [Ht]; · iexact Ht
  iexact Hr

/-- The gather from the first table. -/
theorem sc0_step (hT : T 0 d (V (Proc.devRef .tc main_v19))) (hi : ids 0 d = V (Proc.devRef .tc main_v0)) :
    (iprop((SC (F := F)).ctx EH (P T ids) κ (SC (F := F)).lev ∗ (SC (F := F)).tcSt EH d 0
        ∗ StableHlo.held (d : Thread nD τ) (kept [main_v18]) V) : sProp 𝕄)
      ⊢ wp frame (wpE ((SC (F := F)).defs (DD (F := F))) 𝒱P (d : Thread nD τ) none) Set.univ (sc.run d 0) fun _ =>
        (iprop((SC (F := F)).tcSt EH d 1 ∗ ∃ g : S16384x128.Idx → F .f32, ⌜∀ j, OutRel (T 0 d) (ids 0 d) j (g j)⌝
          ∗ StableHlo.held (d : Thread nD τ) (kept goneB) (Function.update V (Proc.devRef .tc main_v20) g)) : sProp 𝕄) := by
  rw [held_take d (r := main_v0) (by decide) (by decide) V, held_take d (r := main_v19) (by decide) (by decide) V,
    held_take d (r := main_v20) (by decide) (by decide) V]
  iintro ⟨#Hctx, Hst, Hi, Ht, Ho, Hr⟩
  iapply ((SC (F := F)).wp_run (DD (F := F)) 𝒱P (EH := EH) (P := P T ids) κ d 0) $$ [Hst Hi Ht Ho Hr]
  isplitr; · iexact Hctx
  isplitl [Hst]; · iexact Hst
  isplitl [Hi Ht Ho]
  · iapply (Entails.of_eq (st0_eq T ids d).symm)
    iapply (Tile1.split (T 0 d) (ids 0 d) d (V (Proc.devRef .tc main_v19)) hT (V (Proc.devRef .tc main_v20)))
    isplitl [Ht]; · iexact Ht
    isplitl [Hi]; · rw [hi]; iexact Hi
    iexact Ho
  iintro ⟨Hst, Hdn⟩
  isplitl [Hst]; · iexact Hst
  ihave Hdn := (Entails.of_eq (dn0_eq T ids d)) $$ Hdn
  ihave Hdn := (Tile1.join (T 0 d) (ids 0 d) d) $$ Hdn
  icases Hdn with ⟨%g, %hg, Ho⟩
  iexists g
  isplitr; · ipureintro; exact hg
  rw [← held_put d (r := main_v20) (D := goneB) (by decide) (by decide) V g]
  isplitl [Ho]; · iexact Ho
  iexact Hr

/-- The call that packs the second table. -/
theorem prep1_step :
    (iprop((SC (F := F)).ctx EH (P T ids) κ (SC (F := F)).lev ∗ (SC (F := F)).tcSt EH d 1 ∗ boundary (d : Thread nD τ)
        ∗ StableHlo.held (d : Thread nD τ) (kept goneB) V ∗ ghosts d 1) : sProp 𝕄)
      ⊢ wp frame (wpE ((SC (F := F)).defs (DD (F := F))) 𝒱P (d : Thread nD τ) none) Set.univ (callP 1) fun _ =>
        (iprop((SC (F := F)).tcSt EH d 1 ∗ boundary (d : Thread nD τ) ∗ ∃ f : S50176x128.Idx → F .f32,
          ⌜∀ x, Prep2.Packed (V (Proc.devRef .tc main_v21) : S20x100000.Idx → F .f32) (V (Proc.devRef .tc main_v17) : S1x2x20x128.Idx → F .f32) x (f x)⌝
          ∗ StableHlo.held (d : Thread nD τ) (kept (main_v21 :: goneB)) (Function.update V (Proc.devRef .tc main_v22) f)) : sProp 𝕄) := by
  rw [held_take d (r := main_v21) (by decide) (by decide) V, held_take d (r := main_v17) (by decide) (by decide) V,
    held_take d (r := main_v22) (by decide) (by decide) V]
  iintro ⟨#Hctx, Hst, Hb, ⟨Hs, He, Ht, Hr⟩, Hg, Hk⟩
  ihave Hlev := (SparseCore.Cfg.ctx_levAts κ) $$ Hctx
  ihave Hst := (tcSt_eq d 1).1 $$ Hst
  icases Hst with ⟨HO, Hrest⟩
  have HH := Prep2.call_wp (F := F) (V (Proc.devRef .tc main_v21) : S20x100000.Idx → F .f32) (V (Proc.devRef .tc main_v17) : S1x2x20x128.Idx → F .f32)
    ((SC (F := F)).Otc d 1) (below (F := F) d 1) d (Otc_none d 1) (none_below d 1)
  ihave H := HH $$ [Hb Hs He Ht HO Hlev Hg Hk]
  · isplitl [Hb]; · iexact Hb
    isplitl [Hs]; · iexact Hs
    isplitl [He]; · iexact He
    isplitl [Ht]; · iexists (V (Proc.devRef .tc main_v22)); iexact Ht
    isplitl [HO]; · iexact HO
    isplitl [Hlev]; · iexact Hlev
    isplitl [Hg]; · iexact Hg
    iexact Hk
  iapply (lift_call d 1 _)
  iapply (wp_wand_r frame _ _)
  isplitl [H]; · iexact H
  iintro %_ ⟨Hb, He, ⟨%f, %hf, Ht⟩, HO⟩
  isplitl [HO Hrest]
  · iapply (tcSt_eq d 1).2
    isplitl [HO]; · iexact HO
    iexact Hrest
  isplitl [Hb]; · iexact Hb
  iexists f
  isplitr; · ipureintro; exact hf
  rw [held_take d (r := main_v17) (D := (main_v21 :: goneB)) (by decide) (by decide) (Function.update V (Proc.devRef .tc main_v22) f),
    Function.update_of_ne (StableHlo.devRef_ne_of_ne (by decide)), ← held_put d (r := main_v22) (by decide) (by decide) V f]
  isplitl [He]; · iexact He
  isplitl [Ht]; · iexact Ht
  iexact Hr

/-- The gather from the second table. -/
theorem sc1_step (hT : T 1 d (V (Proc.devRef .tc main_v22))) (hi : ids 1 d = V (Proc.devRef .tc main_v1)) :
    (iprop((SC (F := F)).ctx EH (P T ids) κ (SC (F := F)).lev ∗ (SC (F := F)).tcSt EH d 1
        ∗ StableHlo.held (d : Thread nD τ) (kept (main_v21 :: goneB)) V) : sProp 𝕄)
      ⊢ wp frame (wpE ((SC (F := F)).defs (DD (F := F))) 𝒱P (d : Thread nD τ) none) Set.univ (sc.run d 1) fun _ =>
        (iprop((SC (F := F)).tcSt EH d 2 ∗ ∃ g : S16384x128.Idx → F .f32, ⌜∀ j, OutRel (T 1 d) (ids 1 d) j (g j)⌝
          ∗ StableHlo.held (d : Thread nD τ) (kept goneC) (Function.update V (Proc.devRef .tc main_v23) g)) : sProp 𝕄) := by
  rw [held_take d (r := main_v1) (by decide) (by decide) V, held_take d (r := main_v22) (by decide) (by decide) V,
    held_take d (r := main_v23) (by decide) (by decide) V]
  iintro ⟨#Hctx, Hst, Hi, Ht, Ho, Hr⟩
  iapply ((SC (F := F)).wp_run (DD (F := F)) 𝒱P (EH := EH) (P := P T ids) κ d 1) $$ [Hst Hi Ht Ho Hr]
  isplitr; · iexact Hctx
  isplitl [Hst]; · iexact Hst
  isplitl [Hi Ht Ho]
  · iapply (Entails.of_eq (st1_eq T ids d).symm)
    iapply (Tile3.split (T 1 d) (ids 1 d) d (V (Proc.devRef .tc main_v22)) hT (V (Proc.devRef .tc main_v23)))
    isplitl [Ht]; · iexact Ht
    isplitl [Hi]; · rw [hi]; iexact Hi
    iexact Ho
  iintro ⟨Hst, Hdn⟩
  isplitl [Hst]; · iexact Hst
  ihave Hdn := (Entails.of_eq (dn1_eq T ids d)) $$ Hdn
  ihave Hdn := (Tile3.join (T 1 d) (ids 1 d) d) $$ Hdn
  icases Hdn with ⟨%g, %hg, Ho⟩
  iexists g
  isplitr; · ipureintro; exact hg
  rw [← held_put d (r := main_v23) (D := goneC) (by decide) (by decide) V g]
  isplitl [Ho]; · iexact Ho
  iexact Hr

end Cert.Proof.I
-- ==== Proof.ILast.lean ====
/-
  @main's last call and its last operation, and @main as a whole: what it leaves in the result array.
-/
module

public import proofs.«01_k».proof.Proof.ICalls

@[expose] public section

noncomputable section

namespace Cert.Proof.I

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

variable (T : Fin 2 → Dev nD → (S50176x128.Idx → F .f32) → Prop) (ids : Fin 2 → Dev nD → S16384.Idx → BitVec 32)
variable (κ : GSem nD τ sig → ℕ) (d : Dev nD) (V : Valuation τ sig (Elt F))

/-! ## The last call -/

theorem arrRefs4_sub : Mlp.arrRefs4 ⊆ kept goneC := fun b hb => by
  obtain ⟨r, hr, rfl⟩ := Finset.mem_map.mp hb
  obtain ⟨w, -, rfl⟩ := Finset.mem_image.mp hr
  exact mem_kept ((by decide : ∀ w, (Pipeline.arrRef spec4 w).isScoped = false) w) ((by decide : ∀ w, Pipeline.arrRef spec4 w ∉ goneC) w)

/-- The call that scores the rows. -/
theorem mlp_step :
    (iprop((SC (F := F)).ctx EH (P T ids) κ (SC (F := F)).lev ∗ (SC (F := F)).tcSt EH d 2 ∗ boundary (d : Thread nD τ)
        ∗ StableHlo.held (d : Thread nD τ) (kept goneC) V ∗ ghosts d 2) : sProp 𝕄)
      ⊢ wp frame (wpE ((SC (F := F)).defs (DD (F := F))) 𝒱P (d : Thread nD τ) none) Set.univ (callP 2) fun _ =>
        (iprop((SC (F := F)).tcSt EH d 2 ∗ boundary (d : Thread nD τ) ∗ Mlp.left V d
          ∗ StableHlo.held (d : Thread nD τ) (kept goneC \ Mlp.arrRefs4) V) : sProp 𝕄) := by
  rw [StableHlo.held_sub_split (d : Thread nD τ) arrRefs4_sub V]
  iintro ⟨#Hctx, Hst, Hb, ⟨Ha, Hr⟩, Hg, Hk⟩
  ihave Hlev := (SparseCore.Cfg.ctx_levAts κ) $$ Hctx
  ihave Hst := (tcSt_eq d 2).1 $$ Hst
  icases Hst with ⟨HO, Hrest⟩
  have HH := Mlp.call_wp (F := F) V ((SC (F := F)).Otc d 2) (below (F := F) d 2) d (Otc_none d 2) (none_below d 2)
  ihave H := HH $$ [Hb Ha HO Hlev Hg Hk]
  · isplitl [Hb]; · iexact Hb
    isplitl [Ha]; · iexact Ha
    isplitl [HO]; · iexact HO
    isplitl [Hlev]; · iexact Hlev
    isplitl [Hg]; · iexact Hg
    iexact Hk
  iapply (lift_call d 2 _)
  iapply (wp_wand_r frame _ _)
  isplitl [H]; · iexact H
  iintro %_ ⟨Hb, Hl, HO⟩
  isplitl [HO Hrest]
  · iapply (tcSt_eq d 2).2
    isplitl [HO]; · iexact HO
    iexact Hrest
  isplitl [Hb]; · iexact Hb
  isplitl [Hl]; · iexact Hl
  iexact Hr

/-! ## The last operation -/

/-- The arguments the last call does not read. -/
abbrev argsL : List (Ref sig .tc) :=
  [main_arg0, main_arg1, main_arg2, main_arg3, main_arg4, main_arg5, main_arg6, main_arg8, main_arg9, main_arg10, main_arg12, main_arg14, main_arg16]

/-- The arrays of a list. -/
abbrev setOf (l : List (Ref sig .tc)) : Finset (DevRef τ sig) := (l.map (Proc.devRef (τ := τ) .tc)).toFinset

theorem argsL_sub : setOf (main_v37 :: argsL) ⊆ kept goneC \ Mlp.arrRefs4 := fun b hb => by
  obtain ⟨r, hr, rfl⟩ := List.mem_map.mp (List.mem_toFinset.mp hb)
  refine Finset.mem_sdiff.mpr ⟨mem_kept ((by decide : ∀ r ∈ main_v37 :: argsL, r.isScoped = false) r hr)
    ((by decide : ∀ r ∈ main_v37 :: argsL, r ∉ goneC) r hr), fun hm => ?_⟩
  obtain ⟨r', hr', e⟩ := Finset.mem_map.mp hm
  obtain ⟨w, -, rfl⟩ := Finset.mem_image.mp hr'
  exact (by decide : ∀ w, Pipeline.arrRef spec4 w ∉ main_v37 :: argsL) w (Proc.devRef_injective _ e ▸ hr)

theorem held_cons (r : Ref sig .tc) (l : List (Ref sig .tc)) (h : r ∉ l) :
    (StableHlo.held (d : Thread nD τ) (setOf (r :: l)) V : sProp 𝕄)
      = iprop(((d : Thread nD τ).loc r ↦{fullShare} V (Proc.devRef .tc r)) ∗ StableHlo.held (d : Thread nD τ) (setOf l) V) := by
  have hn : Proc.devRef (τ := τ) .tc r ∉ setOf l := fun hm => by
    obtain ⟨y, hy, e⟩ := List.mem_map.mp (List.mem_toFinset.mp hm)
    exact h (Proc.devRef_injective _ e ▸ hy)
  unfold StableHlo.held setOf
  rw [List.map_cons, List.toFinset_cons, bigSep_insert hn]
  rfl

theorem held_nil : (StableHlo.held (d : Thread nD τ) (setOf []) V : sProp 𝕄) = iprop(emp) := by
  unfold StableHlo.held setOf
  rw [List.map_nil, List.toFinset_nil, bigSep_empty]
  rfl

theorem opsE_sub : ∀ op ∈ opsE (F := F), op.bufs ⊆ setOf [main_v36, main_v37] := by
  unfold opsE
  simp only [List.forall_mem_cons]
  refine ⟨?_, fun _ h => absurd h List.not_mem_nil⟩
  rw [StableHlo.unary_bufs]
  decide

theorem opsE_fresh : ∀ op ∈ opsE (F := F), op.fresh = ∅ := by
  have h : (opsE (F := F)).Forall fun op => op.fresh = ∅ := StableHlo.forall_fresh_of_map rfl
  exact List.forall_iff_forall_mem.mp h

/-- The result's layout. -/
abbrev outOf (f : S5x16384.Idx → F .f32) : S16384x5.Idx → F .f32 := transpose S16384x5 [1, 0] f transposes_S5x16384_S16384x5_1_0

theorem after_opsE : StableHlo.after (opsE (F := F)) V (Proc.devRef .tc main_v37) = outOf (V (Proc.devRef .tc main_v36)) := by
  unfold opsE
  after_results_simp

/-- The result transposed. -/
theorem last_step (f : S5x16384.Idx → F .f32) (g : Buf (Elt F) ((d : Thread nD τ).loc main_v37)) {Φ : PUnit → sProp 𝕄} :
    (iprop(boundary (d : Thread nD τ) ∗ ((d : Thread nD τ).loc main_v36 ↦{fullShare} (f : Buf (Elt F) ((d : Thread nD τ).loc main_v36)))
        ∗ ((d : Thread nD τ).loc main_v37 ↦{fullShare} g)
        ∗ (boundary (d : Thread nD τ) -∗ ((d : Thread nD τ).loc main_v37 ↦{fullShare} (outOf f : Buf (Elt F) ((d : Thread nD τ).loc main_v37))) -∗ Φ ⟨⟩)) : sProp 𝕄)
      ⊢ wp frame (wpE ((SC (F := F)).defs (DD (F := F))) 𝒱P (d : Thread nD τ) none) Set.univ (StableHlo.seq opsE >>= fun _ => pure ⟨⟩) Φ := by
  obtain ⟨V, h36, h37⟩ : ∃ V : Valuation τ sig (Elt F), V (Proc.devRef .tc main_v36) = f ∧ V (Proc.devRef .tc main_v37) = g := by
    classical
    obtain ⟨V₀⟩ : Nonempty (Valuation τ sig (Elt F)) := ⟨fun b => fun _ => Classical.arbitrary _⟩
    exact ⟨Function.update (Function.update V₀ (Proc.devRef .tc main_v36) f) (Proc.devRef .tc main_v37) g,
      by rw [Function.update_of_ne (StableHlo.devRef_ne_of_ne (by decide)), Function.update_self], by rw [Function.update_self]⟩
  have HS := StableHlo.wp_seq (defs := (SC (F := F)).defs (DD (F := F))) 𝒱P none Set.univ d (setOf [main_v36, main_v37]) (fun _ => pure ⟨⟩) (opsE (F := F)) opsE_sub opsE_fresh V (K := Φ)
  rw [held_cons d V main_v36 [main_v37] (by decide), held_cons d V main_v37 [] (by decide), held_nil d V,
    held_cons d (StableHlo.after opsE V) main_v36 [main_v37] (by decide), held_cons d (StableHlo.after opsE V) main_v37 [] (by decide), held_nil,
    after_opsE, h36, h37] at HS
  iintro ⟨Hb, H36, H37, HΦ⟩
  iapply HS $$ [Hb H36 H37]
  · isplitl [Hb]; · iexact Hb
    isplitl [H36]; · iexact H36
    isplitl [H37]; · iexact H37
    iempintro
  iintro ⟨Hb, -, H37, -⟩
  rw [show (pure ⟨⟩ : Prog (TpuEff nD τ sig (Elt F) (ΛK (F := F)) .tc) PUnit) = Prog.ret ⟨⟩ from rfl, wp_ret]
  imodintro
  iapply HΦ $$ [Hb] [H37]
  · iexact Hb
  · iexact H37

end Cert.Proof.I
-- ==== Proof.IMain.lean ====
/-
  The whole program: what @main leaves in the result array, and the run of all threads.
-/
module

public import proofs.«01_k».proof.Proof.ILast

@[expose] public section

noncomputable section

namespace Cert.Proof.I

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

/-! ## The arrays along @main -/

section Values

variable (V : Valuation τ sig (Elt F))

/-- The arrays before the first call, -/
def valA : Valuation τ sig (Elt F) := StableHlo.after opsA V
/-- after the two calls for the first table, which left `t` packed and `g` gathered, -/
def valB (t : S50176x128.Idx → F .f32) (g : S16384x128.Idx → F .f32) : Valuation τ sig (Elt F) :=
  Function.update (Function.update (valA V) (Proc.devRef .tc main_v19) t) (Proc.devRef .tc main_v20) g
/-- and after those for the second. -/
def valC (t : S50176x128.Idx → F .f32) (g : S16384x128.Idx → F .f32) (t' : S50176x128.Idx → F .f32) (g' : S16384x128.Idx → F .f32) : Valuation τ sig (Elt F) :=
  Function.update (Function.update (StableHlo.after opsB (valB V t g)) (Proc.devRef .tc main_v22) t') (Proc.devRef .tc main_v23) g'

/-- The second table, transposed. -/
abbrev src1 : S20x100000.Idx → F .f32 :=
  transpose S20x100000 [1, 0] (V (Proc.devRef .tc main_arg6) : S100000x20.Idx → F .f32) transposes_S100000x20_S20x100000_1_0

/-- The packed forms of each table, -/
def tabP (q : Fin 2) : (S50176x128.Idx → F .f32) → Prop :=
  match q with
  | 0 => fun t => ∀ x, Prep0.Packed (valA V (Proc.devRef .tc main_v18) : S20x100000.Idx → F .f32) (valA V (Proc.devRef .tc main_v17) : S1x2x20x128.Idx → F .f32) x (t x)
  | 1 => fun t => ∀ x, Prep2.Packed (src1 V) (valA V (Proc.devRef .tc main_v17) : S1x2x20x128.Idx → F .f32) x (t x)
/-- and the row numbers each gather reads. -/
def idsV (q : Fin 2) : S16384.Idx → BitVec 32 :=
  match q with
  | 0 => (valA V (Proc.devRef .tc main_v0) : S16384.Idx → BitVec 32)
  | 1 => (valA V (Proc.devRef .tc main_v1) : S16384.Idx → BitVec 32)

/-- What @main leaves in its result. -/
def Result (res : S16384x5.Idx → F .f32) : Prop :=
  ∃ (t : S50176x128.Idx → F .f32) (g : S16384x128.Idx → F .f32) (t' : S50176x128.Idx → F .f32) (g' : S16384x128.Idx → F .f32) (f : S5x16384.Idx → F .f32),
    (∀ j, OutRel (tabP V 0) (idsV V 0) j (g j)) ∧ (∀ j, OutRel (tabP V 1) (idsV V 1) j (g' j))
      ∧ (∀ x, Mlp.Scored (StableHlo.after opsC (valC V t g t' g')) x (f x)) ∧ res = outOf f

/-- The arrays written before the first call, -/
abbrev writtenA : List (Ref sig .tc) :=
  [main_v0, main_v1, main_v2, main_v3, main_c, main_v4, main_v5, main_v6, main_v7, main_v8, main_v9, main_c_0, main_v10, main_v11, main_v12, main_v13,
    main_v14, main_v15, main_v16, main_v17, main_v18]
/-- and before the last. -/
abbrev writtenC : List (Ref sig .tc) :=
  [main_v24, main_v25, main_v26, main_v27, main_v28, main_v29, main_v30, main_v31, main_v32, main_v33, main_v34, main_v35]

theorem valA_of {r : Ref sig .tc} (h : r ∉ writtenA) : valA V (Proc.devRef .tc r) = V (Proc.devRef .tc r) :=
  StableHlo.after_of_writes_sub (opsA (F := F)) V (StableHlo.forall_writes_sub_of_map rfl) h

theorem valB_of (t : S50176x128.Idx → F .f32) (g : S16384x128.Idx → F .f32) {r : Ref sig .tc} (h : r ∉ [main_v19, main_v20, main_v21]) :
    StableHlo.after opsB (valB V t g) (Proc.devRef .tc r) = valA V (Proc.devRef .tc r) := by
  rw [StableHlo.after_of_writes_sub (W := [main_v21]) (opsB (F := F)) (valB V t g) (StableHlo.forall_writes_sub_of_map rfl) (fun hm => h (by simp_all))]
  unfold valB
  rw [Function.update_of_ne (StableHlo.devRef_ne_of_ne fun e => h (by simp [e])), Function.update_of_ne (StableHlo.devRef_ne_of_ne fun e => h (by simp [e]))]

theorem valC_of (t : S50176x128.Idx → F .f32) (g : S16384x128.Idx → F .f32) (t' : S50176x128.Idx → F .f32) (g' : S16384x128.Idx → F .f32) {r : Ref sig .tc}
    (h : r ∉ writtenA ++ [main_v19, main_v20, main_v21, main_v22, main_v23]) : valC V t g t' g' (Proc.devRef .tc r) = V (Proc.devRef .tc r) := by
  unfold valC
  rw [Function.update_of_ne (StableHlo.devRef_ne_of_ne fun e => h (by subst e; decide)), Function.update_of_ne (StableHlo.devRef_ne_of_ne fun e => h (by subst e; decide)),
    valB_of V t g (fun hm => h (List.mem_append_right _ (by
      rcases List.mem_cons.mp hm with rfl | hm
      · decide
      rcases List.mem_cons.mp hm with rfl | hm
      · decide
      rw [List.mem_singleton.mp hm]; decide))), valA_of V fun hm => h (List.mem_append_left _ hm)]

theorem valC_args (t : S50176x128.Idx → F .f32) (g : S16384x128.Idx → F .f32) (t' : S50176x128.Idx → F .f32) (g' : S16384x128.Idx → F .f32) {r : Ref sig .tc}
    (h : r ∉ writtenA ++ [main_v19, main_v20, main_v21, main_v22, main_v23]) (hC : r ∉ writtenC) :
    StableHlo.after opsC (valC V t g t' g') (Proc.devRef .tc r) = V (Proc.devRef .tc r) :=
  (StableHlo.after_of_writes_sub (opsC (F := F)) (valC V t g t' g') (StableHlo.forall_writes_sub_of_map rfl) hC).trans (valC_of V t g t' g' h)

theorem src1_eq (t : S50176x128.Idx → F .f32) (g : S16384x128.Idx → F .f32) :
    StableHlo.after opsB (valB V t g) (Proc.devRef .tc main_v21) = src1 V := by
  have h : valB V t g (Proc.devRef .tc main_arg6) = V (Proc.devRef .tc main_arg6) := by
    unfold valB
    rw [Function.update_of_ne (StableHlo.devRef_ne_of_ne (by decide)), Function.update_of_ne (StableHlo.devRef_ne_of_ne (by decide)), valA_of V (by decide)]
  unfold opsB src1
  rw [← h]
  after_results_simp

end Values

/-! ## The run of @main -/

section Run

variable (m : (ℓ : Loc nD τ sig) → Buf (Elt F) ℓ) (ρ : Dev nD → PrngReg)

/-- The arrays @main starts from. -/
abbrev val0 (d : Dev nD) : Valuation τ sig (Elt F) := fun b => m (d, b)

abbrev TT (q : Fin 2) (d : Dev nD) : (S50176x128.Idx → F .f32) → Prop := tabP (val0 m d) q
abbrev II (q : Fin 2) (d : Dev nD) : S16384.Idx → BitVec 32 := idsV (val0 m d) q

/-- What @main ends with: the arguments as they were, and a result. -/
def FIN (d : Dev nD) : sProp 𝕄 :=
  iprop((∃ res : S16384x5.Idx → F .f32, ⌜Result (val0 m d) res⌝ ∗ ((d : Thread nD τ).loc main_v37 ↦{fullShare} (res : Buf (Elt F) ((d : Thread nD τ).loc main_v37))))
    ∗ StableHlo.held (d : Thread nD τ) (setOf (main_arg7 :: main_arg11 :: main_arg13 :: main_arg15 :: argsL)) (val0 m d))

theorem held_args (V : Valuation τ sig (Elt F)) (d : Dev nD) (h : ∀ r ∈ argsL, V (Proc.devRef .tc r) = val0 m d (Proc.devRef .tc r)) :
    (StableHlo.held (d : Thread nD τ) (setOf argsL) V : sProp 𝕄) = StableHlo.held (d : Thread nD τ) (setOf argsL) (val0 m d) := by
  refine StableHlo.held_congr _ fun b hb => ?_
  obtain ⟨r, hr, rfl⟩ := List.mem_map.mp (List.mem_toFinset.mp hb)
  exact h r hr

/-- From the last call to the end. -/
theorem tail_step (κ : GSem nD τ sig → ℕ) (d : Dev nD) (V : Valuation τ sig (Elt F))
    (hargs : ∀ r ∈ main_arg7 :: main_arg11 :: main_arg13 :: main_arg15 :: argsL, V (Proc.devRef .tc r) = val0 m d (Proc.devRef .tc r))
    (hres : ∀ f, (∀ x, Mlp.Scored V x (f x)) → Result (val0 m d) (outOf f)) :
    (iprop((SC (F := F)).ctx EH (P (TT m) (II m)) κ (SC (F := F)).lev ∗ (SC (F := F)).tcSt EH d 2 ∗ boundary (d : Thread nD τ)
        ∗ StableHlo.held (d : Thread nD τ) (kept goneC) V ∗ ghosts d 2) : sProp 𝕄)
      ⊢ wp frame (wpE ((SC (F := F)).defs (DD (F := F))) 𝒱P (d : Thread nD τ) none) Set.univ
          (callP 2 >>= fun _ => StableHlo.seq opsE >>= fun _ => (pure ⟨⟩ : Prog (TpuEff nD τ sig (Elt F) (ΛK (F := F)) .tc) PUnit))
          fun _ => (iprop((SC (F := F)).tcSt EH d 2 ∗ FIN m d ∗ boundary (d : Thread nD τ)) : sProp 𝕄) := by
  rw [wp_bind]
  refine (mlp_step (TT m) (II m) κ d V).trans ?_
  refine wp_mono frame _ _ fun _ => ?_
  rw [StableHlo.held_sub_split (d : Thread nD τ) argsL_sub V, held_cons d V main_v37 argsL (by decide), held_args m V d fun r hr => hargs r (by simp_all)]
  unfold Mlp.left FIN
  iintro ⟨Hst, Hb, ⟨H7, H11, H13, H15, ⟨%f, %hf, H36⟩⟩, ⟨H37, Hargs⟩, -⟩
  iapply (last_step d f _)
  isplitl [Hb]; · iexact Hb
  isplitl [H36]; · iexact H36
  isplitl [H37]; · iexact H37
  iintro Hb H37
  isplitl [Hst]; · iexact Hst
  isplitr [Hb]
  · isplitl [H37]
    · iexists (outOf f)
      isplitr; · ipureintro; exact hres f hf
      iexact H37
    rw [held_cons d (val0 m d) main_arg7 _ (by decide), held_cons d (val0 m d) main_arg11 _ (by decide), held_cons d (val0 m d) main_arg13 _ (by decide),
      held_cons d (val0 m d) main_arg15 _ (by decide), ← hargs main_arg7 (by simp), ← hargs main_arg11 (by simp), ← hargs main_arg13 (by simp), ← hargs main_arg15 (by simp)]
    isplitl [H7]; · iexact H7
    isplitl [H11]; · iexact H11
    isplitl [H13]; · iexact H13
    isplitl [H15]; · iexact H15
    iexact Hargs
  iexact Hb

/-- The staging cells of the TensorCore's calls, as launched. -/
abbrev cells₀ : UP :=
  initOf (Pipeline.cells (Pipeline.pin (pcfgs (F := F)) Prep0.adm) cellOf_inj) (Pipeline.launchToks (Pipeline.pin (pcfgs (F := F)) Prep0.adm) cellOf_inj)
/-- The launch element of the user algebra. -/
def u₀ : UU := (initOf (SC (F := F)).hsCells (SC (F := F)).hsToks, (cells₀ (F := F), 1))

/-- What each device's TensorCore keeps for its kernel calls. -/
abbrev GG (d : Dev nD) : sProp 𝕄 :=
  iprop((bigSep Finset.univ fun p : Fin 3 => Pipeline.cellsGhost (Pipeline.pin (pcfgs (F := F)) Prep0.adm) EP p d)
    ∗ bigSep Finset.univ fun p : Fin 3 => Pipeline.toksInit (Pipeline.pin (pcfgs (F := F)) Prep0.adm) EP p d)

theorem three (Φ : Fin 3 → sProp 𝕄) : bigSep Finset.univ Φ = iprop(Φ 0 ∗ Φ 1 ∗ Φ 2) :=
  bigSep_univ_eq_bigSepL [0, 1, 2] (by decide) (by decide) Φ

theorem GG_elim (d : Dev nD) : (GG (F := F) d : sProp 𝕄) ⊢ iprop(ghosts d 0 ∗ ghosts d 1 ∗ ghosts d 2) := by
  unfold GG
  rw [three, three]
  iintro ⟨⟨A0, A1, A2⟩, B0, B1, B2⟩
  isplitl [A0 B0]; · isplitl [A0]; · iexact A0
                     iexact B0
  isplitl [A1 B1]; · isplitl [A1]; · iexact A1
                     iexact B1
  isplitl [A2]; · iexact A2
  iexact B2

theorem hu₀ : (ownU (u₀ (F := F)) : sProp 𝕄)
    ⊢ |={Set.univ}=> iprop(BI.own (EH (initOf (SC (F := F)).hsCells (SC (F := F)).hsToks)) ∗ (bigSep Finset.univ fun d : Dev nD => GG (F := F) d)
        ∗ bigSep Finset.univ fun thr : Thread nD τ => bigSep Finset.univ fun q : Fin 2 => (P (F := F) (TT m) (II m)).x q thr) := by
  have he : (bigSep Finset.univ fun _ : Thread nD τ => (iprop(emp) : sProp 𝕄)) = iprop(emp) := bigSep_emp_const _
  unfold u₀
  iintro Hu
  ihave H := (ownU_split (F := F) (initOf (SC (F := F)).hsCells (SC (F := F)).hsToks) cells₀) $$ Hu
  icases H with ⟨HH, HP⟩
  imod (Pipeline.fund_ghost (Pipeline.pin (pcfgs (F := F)) Prep0.adm) EP cellOf_inj) $$ HP with ⟨HC, HT⟩
  imodintro
  isplitl [HH]; · iexact HH
  isplitl [HC HT]
  · unfold GG
    rw [bigSep_sep']
    isplitl [HC]; · iexact HC
    iexact HT
  rw [show (bigSep Finset.univ fun thr : Thread nD τ => bigSep Finset.univ fun q : Fin 2 => (P (F := F) (TT m) (II m)).x q thr) = bigSep Finset.univ fun _ => iprop(emp) from
    bigSep_congr fun _ _ => bigSep_emp_const _, he]
  iempintro

theorem hmain (κ : GSem nD τ sig → ℕ) (d : Dev nD) :
    iprop((SC (F := F)).ctx EH (P (TT m) (II m)) κ (SC (F := F)).lev ∗ (SC (F := F)).tcSt EH d 0 ∗ (SC (F := F)).tcRes m ρ d ∗ GG (F := F) d)
      ⊢ wp frame (wpE ((SC (F := F)).defs (DD (F := F))) 𝒱P (SparseCore.T d) none) Set.univ (main d)
          fun _ => iprop((SC (F := F)).tcSt EH d 2 ∗ FIN m d ∗ (SC (F := F)).tcEnd d) := by
  unfold SparseCore.Cfg.tcRes SparseCore.Cfg.tcEnd
  rw [show (unscopedBufs d (fun b => m ((SparseCore.T d).loc b)) : sProp 𝕄) = StableHlo.held (d : Thread nD τ) (kept []) (val0 m d) from
    (unscopedBufs_held d (val0 m d)).trans (by rw [kept_nil]), main_eq]
  iintro ⟨#Hctx, Hst, ⟨Hb, Hh, Hts, -⟩, HG⟩
  ihave HG := (GG_elim d) $$ HG
  icases HG with ⟨G0, G1, G2⟩
  have HA := StableHlo.wp_seq (defs := (SC (F := F)).defs (DD (F := F))) 𝒱P none Set.univ d (kept [])
    (fun _ => callP 0 >>= fun _ => sc.run d 0 >>= fun _ => StableHlo.seq opsB >>= fun _ => callP 1 >>= fun _ => sc.run d 1 >>= fun _ =>
      StableHlo.seq opsC >>= fun _ => callP 2 >>= fun _ => StableHlo.seq opsE >>= fun _ => (pure ⟨⟩ : Prog (TpuEff nD τ sig (Elt F) (ΛK (F := F)) .tc) PUnit))
    (opsA (F := F)) opsA_sub opsA_fresh (val0 m d)
    (K := fun _ => iprop((SC (F := F)).tcSt EH d 2 ∗ FIN m d ∗ boundary (SparseCore.T d) ∗ (SC (F := F)).tcSems0 d))
  iapply HA $$ [Hb Hh]
  · isplitl [Hb]; · iexact Hb
    iexact Hh
  iintro ⟨Hb, Hh⟩
  rw [wp_bind]
  iapply (wp_wand_r frame _ _)
  isplitl [Hst Hb Hh G0]
  · iapply (prep0_step (TT m) (II m) κ d (valA (val0 m d)))
    isplitr; · iexact Hctx
    isplitl [Hst]; · iexact Hst
    isplitl [Hb]; · iexact Hb
    isplitl [Hh]; · iexact Hh
    iexact G0
  iintro %_ ⟨Hst, Hb, ⟨%t, %ht, Hh⟩⟩
  rw [wp_bind]
  iapply (wp_wand_r frame _ _)
  isplitl [Hst Hh]
  · iapply (sc0_step (TT m) (II m) κ d (Function.update (valA (val0 m d)) (Proc.devRef .tc main_v19) t)
      (by rw [Function.update_self]; exact ht) (by rw [Function.update_of_ne (StableHlo.devRef_ne_of_ne (by decide))]; rfl))
    isplitr; · iexact Hctx
    isplitl [Hst]; · iexact Hst
    iexact Hh
  iintro %_ ⟨Hst, ⟨%g, %hg, Hh⟩⟩
  have HB := StableHlo.wp_seq (defs := (SC (F := F)).defs (DD (F := F))) 𝒱P none Set.univ d (kept goneB)
    (fun _ => callP 1 >>= fun _ => sc.run d 1 >>= fun _ =>
      StableHlo.seq opsC >>= fun _ => callP 2 >>= fun _ => StableHlo.seq opsE >>= fun _ => (pure ⟨⟩ : Prog (TpuEff nD τ sig (Elt F) (ΛK (F := F)) .tc) PUnit))
    (opsB (F := F)) opsB_sub opsB_fresh (valB (val0 m d) t g)
    (K := fun _ => iprop((SC (F := F)).tcSt EH d 2 ∗ FIN m d ∗ boundary (SparseCore.T d) ∗ (SC (F := F)).tcSems0 d))
  iapply HB $$ [Hb Hh]
  · isplitl [Hb]; · iexact Hb
    iexact Hh
  iintro ⟨Hb, Hh⟩
  rw [wp_bind]
  iapply (wp_wand_r frame _ _)
  isplitl [Hst Hb Hh G1]
  · iapply (prep1_step (TT m) (II m) κ d (StableHlo.after opsB (valB (val0 m d) t g)))
    isplitr; · iexact Hctx
    isplitl [Hst]; · iexact Hst
    isplitl [Hb]; · iexact Hb
    isplitl [Hh]; · iexact Hh
    iexact G1
  iintro %_ ⟨Hst, Hb, ⟨%t', %ht', Hh⟩⟩
  rw [wp_bind]
  iapply (wp_wand_r frame _ _)
  isplitl [Hst Hh]
  · iapply (sc1_step (TT m) (II m) κ d (Function.update (StableHlo.after opsB (valB (val0 m d) t g)) (Proc.devRef .tc main_v22) t')
      (by
        rw [Function.update_self]
        rw [src1_eq, valB_of (val0 m d) t g (r := main_v17) (by decide)] at ht'
        exact ht')
      (by rw [Function.update_of_ne (StableHlo.devRef_ne_of_ne (by decide)), valB_of (val0 m d) t g (r := main_v1) (by decide)]; rfl))
    isplitr; · iexact Hctx
    isplitl [Hst]; · iexact Hst
    iexact Hh
  iintro %_ ⟨Hst, ⟨%g', %hg', Hh⟩⟩
  have HC := StableHlo.wp_seq (defs := (SC (F := F)).defs (DD (F := F))) 𝒱P none Set.univ d (kept goneC)
    (fun _ => callP 2 >>= fun _ => StableHlo.seq opsE >>= fun _ => (pure ⟨⟩ : Prog (TpuEff nD τ sig (Elt F) (ΛK (F := F)) .tc) PUnit))
    (opsC (F := F)) opsC_sub opsC_fresh (valC (val0 m d) t g t' g')
    (K := fun _ => iprop((SC (F := F)).tcSt EH d 2 ∗ FIN m d ∗ boundary (SparseCore.T d) ∗ (SC (F := F)).tcSems0 d))
  iapply HC $$ [Hb Hh]
  · isplitl [Hb]; · iexact Hb
    iexact Hh
  iintro ⟨Hb, Hh⟩
  iapply (wp_wand_r frame _ _)
  isplitl [Hst Hb Hh G2]
  · iapply (tail_step m κ d (StableHlo.after opsC (valC (val0 m d) t g t' g'))
      (fun r hr => valC_args (val0 m d) t g t' g'
        ((by decide : ∀ r ∈ main_arg7 :: main_arg11 :: main_arg13 :: main_arg15 :: argsL, r ∉ writtenA ++ [main_v19, main_v20, main_v21, main_v22, main_v23]) r hr)
        ((by decide : ∀ r ∈ main_arg7 :: main_arg11 :: main_arg13 :: main_arg15 :: argsL, r ∉ writtenC) r hr))
      (fun f hf => ⟨t, g, t', g', f, hg, hg', hf, rfl⟩))
    isplitr; · iexact Hctx
    isplitl [Hst]; · iexact Hst
    isplitl [Hb]; · iexact Hb
    isplitl [Hh]; · iexact Hh
    iexact G2
  iintro %_ ⟨Hst, HF, Hb⟩
  isplitl [Hst]; · iexact Hst
  isplitl [HF]; · iexact HF
  isplitl [Hb]; · iexact Hb
  iexact Hts

/-! ## What the final memory holds -/

/-- The seventeen arguments. -/
abbrev args : List (Ref sig .tc) := main_arg7 :: main_arg11 :: main_arg13 :: main_arg15 :: argsL

def fq (d : Dev nD) (s' : Phys nD τ sig (Elt F)) : Prop :=
  Result (val0 m d) (s'.mem.mem ((d : Thread nD τ).loc main_v37)) ∧ ∀ r ∈ args, s'.mem.mem ((d : Thread nD τ).loc r) = m ((d : Thread nD τ).loc r)

theorem arg_read (d : Dev nD) (s' : Phys nD τ sig (Elt F)) (r : Ref sig .tc) (hr : r ∈ args) :
    (iprop(StableHlo.held (d : Thread nD τ) (setOf args) (val0 m d) ∗ SI s') : sProp 𝕄)
      ⊢ ⌜s'.mem.mem ((d : Thread nD τ).loc r) = m ((d : Thread nD τ).loc r)⌝ := by
  have hm : Proc.devRef (τ := τ) .tc r ∈ setOf args := List.mem_toFinset.mpr (List.mem_map_of_mem hr)
  have he : (StableHlo.held (d : Thread nD τ) (setOf args) (val0 m d) : sProp 𝕄) ⊢ ((d : Thread nD τ).loc r ↦{fullShare} m ((d : Thread nD τ).loc r)) :=
    bigSep_elim hm
  iintro ⟨H, HSI⟩
  ihave H := he $$ H
  ihave H := (SI_pointsTo_agree (st := s') (ℓ := (d : Thread nD τ).loc r) (I := Finset.univ) (q := fullShare) (f := m ((d : Thread nD τ).loc r))) $$ [HSI H]
  · isplitl [HSI]; · iexact HSI
    iexact H
  icases H with %h
  ipureintro
  exact funext fun i => h i (Finset.mem_univ i)

theorem hfin (d : Dev nD) (s' : Phys nD τ sig (Elt F)) : iprop(FIN m d ∗ SI s') ⊢ (⌜fq m d s'⌝ : sProp 𝕄) := by
  have h1 : iprop(FIN m d ∗ SI s') ⊢ (⌜Result (val0 m d) (s'.mem.mem ((d : Thread nD τ).loc main_v37))⌝ : sProp 𝕄) := by
    unfold FIN
    iintro ⟨⟨⟨%res, %hres, H⟩, -⟩, HSI⟩
    ihave H := (SI_pointsTo_agree (st := s') (ℓ := (d : Thread nD τ).loc main_v37) (I := Finset.univ) (q := fullShare)
      (f := (res : Buf (Elt F) ((d : Thread nD τ).loc main_v37)))) $$ [HSI H]
    · isplitl [HSI]; · iexact HSI
      iexact H
    icases H with %h
    ipureintro
    have e : s'.mem.mem ((d : Thread nD τ).loc main_v37) = res := funext fun i => h i (Finset.mem_univ i)
    rw [e]; exact hres
  have h2 : ∀ r ∈ args, iprop(FIN m d ∗ SI s') ⊢ (⌜s'.mem.mem ((d : Thread nD τ).loc r) = m ((d : Thread nD τ).loc r)⌝ : sProp 𝕄) := fun r hr => by
    have h : iprop(FIN m d ∗ SI s') ⊢ (iprop(StableHlo.held (d : Thread nD τ) (setOf args) (val0 m d) ∗ SI s') : sProp 𝕄) := by
      unfold FIN
      iintro ⟨⟨-, H⟩, HSI⟩
      isplitl [H]; · iexact H
      iexact HSI
    exact h.trans (arg_read m d s' r hr)
  exact fun x hx => ⟨h1 x hx, fun r hr => h2 r hr x hx⟩

/-- The whole program's run: every argument as it was, the result as stated, and every semaphore at zero. -/
theorem run_main (hids : ∀ q d x, (II m q d x).toNat < 100000) :
    θ_run (Cert.KernelIdeal.defs (F := F)) (Cert.KernelIdeal.threads (F := F)) ⟨m, fun _ => 0, ρ⟩
      (fun r => (∀ d : Dev nD, Result (val0 m d) (r.2.mem ((d : Thread nD τ).loc main_v37)) ∧ ∀ a ∈ args, r.2.mem ((d : Thread nD τ).loc a) = m ((d : Thread nD τ).loc a))
        ∧ r.2.sem = fun _ => 0) :=
  SparseCore.Cfg.θ_run_sc_quiescent (K := SC (F := F)) (D := DD (F := F)) (𝒱 := 𝒱P) (EH := EH) (P := P (TT m) (II m)) (A := ∅) facts vP
    (fun q hq => match q with | 0 => nomatch hq | 1 => nomatch hq)
    (fun q _ => match q with | 0 => tileObl0 (TT m) (II m) hids | 1 => tileObl1 (TT m) (II m) hids)
    (fun q _ => SparseCore.Cfg.VecSplit.of_plain (vecSplit (TT m) (II m) q))
    m ρ main (fun d => GG d) (FIN m) (u₀ (F := F)) (sep_elim_left.trans (hu₀ m)) (hmain m ρ) (fq m) (hfin m) _ (fun _ h hz => ⟨h, hz⟩)

end Run

end Cert.Proof.I
-- ==== Proof.IRun.lean ====
/-
  The whole program's run from row numbers in range.
-/
module

public import proofs.«01_k».proof.Proof.IMain

@[expose] public section

noncomputable section

namespace Cert.Proof.I

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 2) (Elt F) ℕ UU ℕ

/-! ## The row numbers -/

/-- The first gather reads the second argument's row numbers, -/
theorem ids_zero (V : Valuation τ sig (Elt F)) :
    idsV V 0 = shapeCast S16384 (V (Proc.devRef .tc main_arg1) : S16384x1.Idx → BitVec 32) shapeCasts_S16384x1_S16384 := by
  show valA V (Proc.devRef .tc main_v0) = _
  unfold valA opsA
  after_results_simp
  rfl

/-- and the second gather the first's. -/
theorem ids_one (V : Valuation τ sig (Elt F)) :
    idsV V 1 = shapeCast S16384 (V (Proc.devRef .tc main_arg0) : S16384x1.Idx → BitVec 32) shapeCasts_S16384x1_S16384 := by
  show valA V (Proc.devRef .tc main_v1) = _
  unfold valA opsA
  after_results_simp
  rfl

/-- The whole program's run from row numbers in range. -/
theorem run_of_range (m : (ℓ : Loc nD τ sig) → Buf (Elt F) ℓ) (ρ : Dev nD → PrngReg)
    (h0 : ∀ (d : Dev nD) y, ((m ((d : Thread nD τ).loc main_arg0) : S16384x1.Idx → BitVec 32) y).toNat < 100000)
    (h1 : ∀ (d : Dev nD) y, ((m ((d : Thread nD τ).loc main_arg1) : S16384x1.Idx → BitVec 32) y).toNat < 100000) :
    θ_run (Cert.KernelIdeal.defs (F := F)) (Cert.KernelIdeal.threads (F := F)) ⟨m, fun _ => 0, ρ⟩
      (fun r => (∀ d : Dev nD, Result (val0 m d) (r.2.mem ((d : Thread nD τ).loc main_v37)) ∧ ∀ a ∈ args, r.2.mem ((d : Thread nD τ).loc a) = m ((d : Thread nD τ).loc a))
        ∧ r.2.sem = fun _ => 0) :=
  run_main m ρ fun q d x => by
    match q with
    | 0 =>
      show (idsV (val0 m d) 0 x).toNat < _
      rw [ids_zero]
      exact h1 d _
    | 1 =>
      show (idsV (val0 m d) 1 x).toNat < _
      rw [ids_one]
      exact h0 d _

end Cert.Proof.I
-- ==== Proof.Frames.lean ====
/- The claims: the frames of the kernel, its ideal form and the reference. -/
module

public import proofs.«01_k».proof.Defs
public import proofs.«01_k».proof.Proof.PRange
public import proofs.«01_k».proof.Proof.KRun
public import proofs.«01_k».proof.Proof.IRun
public import proofs.«01_k».proof.Proof.Gen.ReferenceIdeal.Run

@[expose] public section

noncomputable section

namespace Cert.Proof

open Idealize.ShloMosaic Idealize.SL.Sem Cert

/-- The frame of `Kernel`: it ends, nothing faulting, its arguments as they were and every semaphore at zero. -/
theorem frame_kernel : quiescent_Kernel (hPre_ids_in_range := Cert.Pre_ids_in_range.Gen.facts) (hKernel := Cert.Kernel.Gen.facts) := fun m g hpre =>
  (θ_run (Cert.Kernel.defs (F := Bits)) _ _).mono
    (fun _ h => ⟨fun c => ⟨(h.1 c).2 Cert.Kernel.main_arg0 (by decide), (h.1 c).2 Cert.Kernel.main_arg1 (by decide), (h.1 c).2 Cert.Kernel.main_arg2 (by decide), (h.1 c).2 Cert.Kernel.main_arg3 (by decide), (h.1 c).2 Cert.Kernel.main_arg4 (by decide), (h.1 c).2 Cert.Kernel.main_arg5 (by decide), (h.1 c).2 Cert.Kernel.main_arg6 (by decide), (h.1 c).2 Cert.Kernel.main_arg7 (by decide), (h.1 c).2 Cert.Kernel.main_arg8 (by decide), (h.1 c).2 Cert.Kernel.main_arg9 (by decide), (h.1 c).2 Cert.Kernel.main_arg10 (by decide), (h.1 c).2 Cert.Kernel.main_arg11 (by decide), (h.1 c).2 Cert.Kernel.main_arg12 (by decide), (h.1 c).2 Cert.Kernel.main_arg13 (by decide), (h.1 c).2 Cert.Kernel.main_arg14 (by decide), (h.1 c).2 Cert.Kernel.main_arg15 (by decide), (h.1 c).2 Cert.Kernel.main_arg16 (by decide)⟩, h.2⟩)
    (K.run_of_range m g (fun d => (range_of_pre _ _ (hpre d)).1) (fun d => (range_of_pre _ _ (hpre d)).2))

/-- The frame of `KernelIdeal`: it ends, nothing faulting, its arguments as they were and every semaphore at zero. -/
theorem frame_ideal : quiescent_KernelIdeal (hPre_ids_in_range := Cert.Pre_ids_in_range.Gen.facts) (hKernelIdeal := Cert.KernelIdeal.Gen.facts) := fun m g hpre =>
  (θ_run (Cert.KernelIdeal.defs (F := Ideal)) _ _).mono
    (fun _ h => ⟨fun c => ⟨(h.1 c).2 Cert.KernelIdeal.main_arg0 (by decide), (h.1 c).2 Cert.KernelIdeal.main_arg1 (by decide), (h.1 c).2 Cert.KernelIdeal.main_arg2 (by decide), (h.1 c).2 Cert.KernelIdeal.main_arg3 (by decide), (h.1 c).2 Cert.KernelIdeal.main_arg4 (by decide), (h.1 c).2 Cert.KernelIdeal.main_arg5 (by decide), (h.1 c).2 Cert.KernelIdeal.main_arg6 (by decide), (h.1 c).2 Cert.KernelIdeal.main_arg7 (by decide), (h.1 c).2 Cert.KernelIdeal.main_arg8 (by decide), (h.1 c).2 Cert.KernelIdeal.main_arg9 (by decide), (h.1 c).2 Cert.KernelIdeal.main_arg10 (by decide), (h.1 c).2 Cert.KernelIdeal.main_arg11 (by decide), (h.1 c).2 Cert.KernelIdeal.main_arg12 (by decide), (h.1 c).2 Cert.KernelIdeal.main_arg13 (by decide), (h.1 c).2 Cert.KernelIdeal.main_arg14 (by decide), (h.1 c).2 Cert.KernelIdeal.main_arg15 (by decide), (h.1 c).2 Cert.KernelIdeal.main_arg16 (by decide)⟩, h.2⟩)
    (I.run_of_range m g (fun d => (range_of_pre _ _ (hpre d)).1) (fun d => (range_of_pre _ _ (hpre d)).2))

/-- The frame of `ReferenceIdeal`, a program of host operations that declares no semaphore. -/
theorem frame_reference : quiescent_ReferenceIdeal (hPre_ids_in_range := Cert.Pre_ids_in_range.Gen.facts) (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

end Cert.Proof
-- ==== Proof.AMlp.lean ====
/- What the dense call computes of one row, on the extended reals. -/
module

public import proofs.«01_k».proof.Proof.IMlp
public import Idealize.ShloMosaic.Lib.Pointwise

@[expose] public section

noncomputable section

namespace Cert.Proof.A

open Idealize.ShloMosaic Cert.KernelIdeal Cert.KernelIdeal.Gen

/-- A dense layer with its ReLU. -/
def layer {K N : ℕ} (x : Fin K → EReal) (W : Fin K → Fin N → EReal) (b : Fin N → EReal) (n : Fin N) : EReal :=
  max (∑ k, x k * W k n + b n) 0

/-- The first layer, its input in four parts: a movie's row, a user's row, the genre layer and the vote. -/
def first (a u : Fin 20 → EReal) (g : Fin 8 → EReal) (v : EReal) (Wa Wu : Fin 20 → Fin 128 → EReal) (Wg : Fin 8 → Fin 128 → EReal)
    (Wv b : Fin 128 → EReal) (n : Fin 128) : EReal :=
  max (∑ k, a k * Wa k n + ∑ k, u k * Wu k n + ∑ k, g k * Wg k n + v * Wv n + b n) 0

/-- The largest of five scores. -/
def top (x : Fin 5 → EReal) : EReal :=
  Finset.univ.fold max (Ideal.ofBits .f32 0xFF800000#32) x

/-- Softmax of five scores. -/
def soft (x : Fin 5 → EReal) (n : Fin 5) : EReal :=
  Ideal.div (Ideal.exp (x n - top x)) (∑ k, Ideal.exp (x k - top x))

/-- The genre layer of the dense call. -/
theorem pay2_apply (v0 : S20x4096.Idx → EReal) (v2 : S20x8.Idx → EReal) (v4 : S1x8.Idx → EReal) (i : Fin 4096) (n : Fin 8) :
    (k4_pay2 (F := Ideal) v0 v2 v4) (ix2 i n) = layer (fun k => v0 (ix2 k i)) (fun k n => v2 (ix2 k n)) (fun n => v4 (ix2 0 n)) n := by
  pointwise [k4_pay2, layer]

/-- The softmax of the dense call. -/
theorem pay1_apply (v0 : S5x4096.Idx → EReal) (v1 : S5x1.Idx → EReal) (i : Fin 4096) (n : Fin 5) :
    (k4_pay1 (F := Ideal) v0 v1) (ix2 n i) = soft (fun k => max (v0 (ix2 k i) + v1 (ix2 k 0)) 0) n := by
  pointwise [k4_pay1, soft, top]

/-- The half of a packed row that its lane 120 names. -/
def halfSel (r : Fin 128 → EReal) (k : Fin 20) : EReal :=
  if r 120 < Ideal.ofBits .f32 0x3F000000#32 then r ⟨k.val, by omega⟩ else r ⟨64 + k.val, by omega⟩

/-- The two table rows' part of the first layer. -/
theorem pay3_apply (v0 v1 : S4096x128.Idx → EReal) (w0 w1 : S20x128.Idx → EReal) (i : Fin 4096) (n : Fin 128) :
    (k4_pay3 (F := Ideal) v0 v1 w0 w1) (ix2 i n)
      = ∑ k, halfSel (fun l => v0 (ix2 i l)) k * w0 (ix2 k n) + ∑ k, halfSel (fun l => v1 (ix2 i l)) k * w1 (ix2 k n) := by
  pointwise [k4_pay3, halfSel]

/-- The layers between. -/
theorem pay4_apply (g : S4096x8.Idx → EReal) (s : S4096x128.Idx → EReal) (wg : S8x128.Idx → EReal) (v : S1x4096.Idx → EReal)
    (wv b1 : S1x128.Idx → EReal) (w2 : S128x64.Idx → EReal) (b2 : S1x64.Idx → EReal) (w3 : S64x32.Idx → EReal) (b3 : S1x32.Idx → EReal)
    (w4 : S32x5.Idx → EReal) (i : Fin 4096) (n : Fin 5) :
    (k4_pay4 (F := Ideal) g s wg v wv b1 w2 b2 w3 b3 w4) (ix2 n i)
      = ∑ k, layer (layer (fun m => max (s (ix2 i m) + ∑ k, g (ix2 i k) * wg (ix2 k m) + v (ix2 0 i) * wv (ix2 0 m) + b1 (ix2 0 m)) 0)
          (fun k n => w2 (ix2 k n)) (fun n => b2 (ix2 0 n))) (fun k n => w3 (ix2 k n)) (fun n => b3 (ix2 0 n)) k * w4 (ix2 k n) := by
  pointwise [k4_pay4, layer]
  simp only [Fin.sum_univ_one]
  exact Finset.sum_congr rfl fun x _ => mul_comm _ _

/-- The network's scores of one row. -/
def net (a u gr : Fin 20 → EReal) (v : EReal) (Wg : Fin 20 → Fin 8 → EReal) (bg : Fin 8 → EReal) (Wa Wu : Fin 20 → Fin 128 → EReal)
    (Wh : Fin 8 → Fin 128 → EReal) (Wv b1 : Fin 128 → EReal) (W2 : Fin 128 → Fin 64 → EReal) (b2 : Fin 64 → EReal)
    (W3 : Fin 64 → Fin 32 → EReal) (b3 : Fin 32 → EReal) (W4 : Fin 32 → Fin 5 → EReal) (b4 : Fin 5 → EReal) : Fin 5 → EReal :=
  soft (layer (layer (layer (first a u (layer gr Wg bg) v Wa Wu Wh Wv b1) W2 b2) W3 b3) W4 b4)

/-- The dense call gives each row its scores. -/
theorem mlpVal_apply (y0 y1 : S4096x128.Idx → EReal) (y2 : S20x4096.Idx → EReal) (y3 : S1x4096.Idx → EReal) (y4 : S20x8.Idx → EReal)
    (y5 : S1x8.Idx → EReal) (y6 y7 : S20x128.Idx → EReal) (y8 : S8x128.Idx → EReal) (y9 y10 : S1x128.Idx → EReal) (y11 : S128x64.Idx → EReal)
    (y12 : S1x64.Idx → EReal) (y13 : S64x32.Idx → EReal) (y14 : S1x32.Idx → EReal) (y15 : S32x5.Idx → EReal) (y16 : S5x1.Idx → EReal)
    (i : Fin 4096) (n : Fin 5) :
    I.Mlp.mlpVal (F := Ideal) y0 y1 y2 y3 y4 y5 y6 y7 y8 y9 y10 y11 y12 y13 y14 y15 y16 (ix2 n i)
      = net (halfSel fun l => y0 (ix2 i l)) (halfSel fun l => y1 (ix2 i l)) (fun k => y2 (ix2 k i)) (y3 (ix2 0 i)) (fun k n => y4 (ix2 k n))
          (fun n => y5 (ix2 0 n)) (fun k n => y6 (ix2 k n)) (fun k n => y7 (ix2 k n)) (fun k n => y8 (ix2 k n)) (fun n => y9 (ix2 0 n))
          (fun n => y10 (ix2 0 n)) (fun k n => y11 (ix2 k n)) (fun n => y12 (ix2 0 n)) (fun k n => y13 (ix2 k n)) (fun n => y14 (ix2 0 n))
          (fun k n => y15 (ix2 k n)) (fun n => y16 (ix2 n 0)) n := by
  unfold I.Mlp.mlpVal
  rw [pay1_apply]
  unfold net
  refine congrArg (fun x => soft x n) (funext fun c => ?_)
  rw [pay4_apply]
  simp only [pay3_apply, pay2_apply]
  rfl

end Cert.Proof.A
-- ==== Proof.AEmb.lean ====
/- What the packed tables and the gathers hold, on the extended reals: the half of a gathered row that its lane 120 names is the table's
   own row. -/
module

public import proofs.«01_k».proof.Proof.AMlp
public import proofs.«01_k».proof.Proof.IRun
public import Idealize.ShloMosaic.Lib.Pointwise
public import Idealize.ShloMosaic.Lib.StableHlo.ReadAt

@[expose] public section

noncomputable section

namespace Cert.Proof.A

open Idealize.ShloMosaic Cert.KernelIdeal Cert.KernelIdeal.Gen

/-- The pattern of one half. -/
theorem ofBits_half : Ideal.ofBits .f32 0x3F000000#32 = (((1 : ℝ) / 2 : ℝ) : EReal) := by
  simp [Ideal.ofBits, Ideal.ieee, -EReal.coe_mul]; norm_num

/-- The mark of a lane: one where the row's number, moved up, is the lane's. -/
theorem mark (k c l : ℕ) (hk : k < 1000) (hc : c < 1000) (hl : l < 1000) :
    (FloatOps.uitofp (F := Ideal) .f32 (IntOp.cmpi .eq (IntOp.addi (BitVec.ofNat 32 k) (BitVec.ofNat 32 c)) (BitVec.ofNat 32 l)) : EReal)
      = if k + c = l then 1 else 0 := by
  have e : (IntOp.addi (BitVec.ofNat 32 k) (BitVec.ofNat 32 c) = BitVec.ofNat 32 l) ↔ k + c = l := by
    unfold IntOp.addi
    rw [← BitVec.ofNat_add, ← BitVec.toNat_inj, BitVec.toNat_ofNat, BitVec.toNat_ofNat, Nat.mod_eq_of_lt (by omega), Nat.mod_eq_of_lt (by omega)]
  show (((IntOp.cmpi .eq (IntOp.addi (BitVec.ofNat 32 k) (BitVec.ofNat 32 c)) (BitVec.ofNat 32 l)).toNat : ℝ) : EReal) = _
  by_cases h : k + c = l
  · rw [if_pos h, e.mpr h]
    simp [IntOp.cmpi]
  · rw [if_neg h]
    simp [IntOp.cmpi, show IntOp.addi (BitVec.ofNat 32 k) (BitVec.ofNat 32 c) ≠ BitVec.ofNat 32 l from fun h' => h (e.mp h')]

/-- The two matrices that spread a table's row over the lanes of a packed row. -/
abbrev eyes (V : Valuation τ sig (Elt Ideal)) : S1x2x20x128.Idx → EReal := I.valA V (Proc.devRef .tc main_v17)

theorem eyes_apply (V : Valuation τ sig (Elt Ideal)) (q : Fin 2) (k : Fin 20) (l : Fin 128) :
    eyes V (ix4 0 q k l) = if k.val + 64 * q.val = l.val then (1 : EReal) else 0 := by
  unfold eyes I.valA I.opsA
  after_reads_at
  simp only [StableHlo.upto, List.take_succ_cons, List.take_zero]
  after_results_simp
  clean_types
  pointwise
  have hk := k.isLt
  have hl := l.isLt
  split
  · rw [mark k.val 0 l.val (by omega) (by omega) (by omega), show q.val = 0 by omega]
  · rw [mark k.val 64 l.val (by omega) (by omega) (by omega), show q.val = 1 by omega]

theorem emb_zero (k : Fin 20) (l : Fin 128) :
    (Rect.unit (s := S1x2x20x128) ![0, 0, 0, 0] S1x1x20x128.size inb_S1x2x20x128_S1x1x20x128_0_0_0_0).emb (ix4 0 0 k l) = ix4 0 0 k l := by
  funext a
  apply Fin.ext
  match a with
  | ⟨0, _⟩ => rfl
  | ⟨1, _⟩ => rfl
  | ⟨2, _⟩ => show 0 + 1 * k.val = k.val; omega
  | ⟨3, _⟩ => show 0 + 1 * l.val = l.val; omega

theorem emb_one (k : Fin 20) (l : Fin 128) :
    (Rect.unit (s := S1x2x20x128) ![0, 1, 0, 0] S1x1x20x128.size inb_S1x2x20x128_S1x1x20x128_0_1_0_0).emb (ix4 0 0 k l) = ix4 0 1 k l := by
  funext a
  apply Fin.ext
  match a with
  | ⟨0, _⟩ => rfl
  | ⟨1, _⟩ => rfl
  | ⟨2, _⟩ => show 0 + 1 * k.val = k.val; omega
  | ⟨3, _⟩ => show 0 + 1 * l.val = l.val; omega

/-- A packed row from the blocks it is made of. -/
theorem prep0_apply (a b : S20x12544.Idx → EReal) (e : S1x2x20x128.Idx → EReal) (r : Fin 12544) (l : Fin 128) :
    I.Prep0.prepVal (F := Ideal) a b e (ix2 r l) = ∑ k, a (ix2 k r) * e (ix4 0 0 k l) + ∑ k, b (ix2 k r) * e (ix4 0 1 k l) := by
  unfold I.Prep0.prepVal
  pointwise [k0_pay1]
  exact congrArg₂ (· + ·) (Finset.sum_congr rfl fun k _ => congrArg (fun z => a (ix2 k r) * e z) (emb_zero k l))
    (Finset.sum_congr rfl fun k _ => congrArg (fun z => b (ix2 k r) * e z) (emb_one k l))

/-- The same of the second table's call. -/
theorem prep2_apply (a b : S20x12544.Idx → EReal) (e : S1x2x20x128.Idx → EReal) (r : Fin 12544) (l : Fin 128) :
    I.Prep2.prepVal (F := Ideal) a b e (ix2 r l) = ∑ k, a (ix2 k r) * e (ix4 0 0 k l) + ∑ k, b (ix2 k r) * e (ix4 0 1 k l) := by
  rw [← prep0_apply]
  rfl

/-- A sum over a row of one of the two matrices picks one term, -/
theorem sum_pick (f : Fin 20 → EReal) (q : ℕ) (k : Fin 20) (l : ℕ) (h : l = k.val + 64 * q) :
    ∑ j : Fin 20, f j * (if j.val + 64 * q = l then (1 : EReal) else 0) = f k := by
  rw [Finset.sum_eq_single k]
  · rw [if_pos h.symm, mul_one]
  · intro j _ hj
    rw [if_neg (fun h' => hj (Fin.ext (by omega))), mul_zero]
  · exact fun h' => absurd (Finset.mem_univ k) h'

/-- or none. -/
theorem sum_none (f : Fin 20 → EReal) (q l : ℕ) (h : ∀ j : Fin 20, j.val + 64 * q ≠ l) :
    ∑ j : Fin 20, f j * (if j.val + 64 * q = l then (1 : EReal) else 0) = 0 :=
  Finset.sum_eq_zero fun j _ => by rw [if_neg (h j), mul_zero]

theorem prep_eyes (V : Valuation τ sig (Elt Ideal)) (a b : S20x12544.Idx → EReal) (r : Fin 12544) (l : Fin 128) :
    I.Prep0.prepVal (F := Ideal) a b (eyes V) (ix2 r l)
      = ∑ k : Fin 20, a (ix2 k r) * (if k.val + 64 * 0 = l.val then (1 : EReal) else 0) + ∑ k : Fin 20, b (ix2 k r) * (if k.val + 64 * 1 = l.val then (1 : EReal) else 0) :=
  (prep0_apply a b (eyes V) r l).trans (congrArg₂ (· + ·)
    (Finset.sum_congr rfl fun k _ => congrArg (fun z : EReal => a (ix2 k r) * z) (eyes_apply V 0 k l))
    (Finset.sum_congr rfl fun k _ => congrArg (fun z : EReal => b (ix2 k r) * z) (eyes_apply V 1 k l)))

/-- A packed row's lane: of its first half, -/
theorem prep_low (V : Valuation τ sig (Elt Ideal)) (a b : S20x12544.Idx → EReal) (r : Fin 12544) (k : Fin 20) (l : Fin 128) (hl : l.val = k.val) :
    I.Prep0.prepVal (F := Ideal) a b (eyes V) (ix2 r l) = a (ix2 k r) := by
  rw [prep_eyes, sum_pick (fun j => a (ix2 j r)) 0 k l.val (by omega), sum_none (fun j => b (ix2 j r)) 1 l.val (fun j => by omega), add_zero]

/-- and of its second. -/
theorem prep_high (V : Valuation τ sig (Elt Ideal)) (a b : S20x12544.Idx → EReal) (r : Fin 12544) (k : Fin 20) (l : Fin 128) (hl : l.val = 64 + k.val) :
    I.Prep0.prepVal (F := Ideal) a b (eyes V) (ix2 r l) = b (ix2 k r) := by
  rw [prep_eyes, sum_none (fun j => a (ix2 j r)) 0 l.val (fun j => by omega), sum_pick (fun j => b (ix2 j r)) 1 k l.val (by omega), zero_add]

/-- The row of the transposed table that a packed row's lane holds. -/
theorem packed_low (V : Valuation τ sig (Elt Ideal)) (src : S20x100000.Idx → EReal) (r : Fin 50176) (k : Fin 20) (l : Fin 128) (hl : l.val = k.val)
    (v : EReal) (h : I.Prep0.Packed (F := Ideal) src (eyes V) (ix2 r l) v) : v = src (ix2 k ⟨r.val, by omega⟩) := by
  obtain ⟨a, b, ha, -, hv⟩ := h
  rw [hv (ix2 ⟨r.val % 12544, Nat.mod_lt _ (by decide)⟩ l) rfl rfl, prep_low V a b _ k l hl]
  exact ha _ _ rfl (show r.val = 12544 * (r.val / 12544) + r.val % 12544 by omega)

theorem packed_high (V : Valuation τ sig (Elt Ideal)) (src : S20x100000.Idx → EReal) (r : Fin 50176) (hr : 50176 + r.val < 100000) (k : Fin 20) (l : Fin 128)
    (hl : l.val = 64 + k.val) (v : EReal) (h : I.Prep0.Packed (F := Ideal) src (eyes V) (ix2 r l) v) : v = src (ix2 k ⟨50176 + r.val, hr⟩) := by
  obtain ⟨a, b, -, hb, hv⟩ := h
  rw [hv (ix2 ⟨r.val % 12544, Nat.mod_lt _ (by decide)⟩ l) rfl rfl, prep_high V a b _ k l hl]
  exact hb _ _ rfl (show 50176 + r.val = 50176 + 12544 * (r.val / 12544) + r.val % 12544 by omega)

/-- The number of an id's half. -/
theorem half_lt (w : BitVec 32) (h : w.toNat < 100000) :
    ((FloatOps.sitofp (F := Ideal) .f32 (I.halfOf w) : EReal) < Ideal.ofBits .f32 0x3F000000#32) ↔ w.toNat < 50176 := by
  have e : I.halfOf w = BitVec.ofNat 32 (w.toNat / 50176) := by
    unfold I.halfOf
    have e : w = BitVec.ofNat 32 w.toNat := by simp
    conv_lhs => rw [e]
    rw [Routing.divsi_word .vector (a := w.toNat) (b := 50176) (by omega) (by omega) (by omega)]
  rw [e, ofBits_half]
  have h2 : w.toNat / 50176 = 0 ∨ w.toNat / 50176 = 1 := by omega
  show (((BitVec.ofNat 32 (w.toNat / 50176)).toInt : ℝ) : EReal) < _ ↔ _
  rw [EReal.coe_lt_coe_iff]
  rcases h2 with h2 | h2
  · rw [h2]; norm_num; omega
  · rw [h2]; norm_num; omega

/-- The half of a gathered row that lane 120 names is the table's row of the id. -/
theorem halfSel_row (V : Valuation τ sig (Elt Ideal)) (src : S20x100000.Idx → EReal) (ids : S16384.Idx → BitVec 32) (g : S16384x128.Idx → EReal)
    (hg : ∀ j, I.OutRel (F := Ideal) (fun t => ∀ x, I.Prep0.Packed (F := Ideal) src (eyes V) x (t x)) ids j (g j)) (i : Fin 16384)
    (h : (ids (ix1 i)).toNat < 100000) (k : Fin 20) :
    halfSel (fun l => g (ix2 i l)) k = src (ix2 k ⟨(ids (ix1 i)).toNat, h⟩) := by
  have hid : ∀ l : Fin 128, ids (fun | ⟨0, _⟩ => (ix2 i l : S16384x128.Idx) 0) = ids (ix1 i) := fun l =>
    congrArg ids (funext fun a => by match a with | ⟨0, _⟩ => rfl)
  have hrow := I.rowOf_toNat _ h
  have h120 : g (ix2 i 120) = FloatOps.sitofp (F := Ideal) .f32 (I.halfOf (ids (ix1 i))) := by
    obtain ⟨t, -, ht⟩ := hg (ix2 i 120)
    exact ht.trans ((congrArg (fun w => I.rowVal t w 120) (hid 120)).trans (if_pos rfl))
  have hlane : ∀ l : Fin 128, l.val ≠ 120 → ∃ t : S50176x128.Idx → EReal, (∀ x, I.Prep0.Packed (F := Ideal) src (eyes V) x (t x))
      ∧ g (ix2 i l) = t (ix2 ⟨(ids (ix1 i)).toNat % 50176, Nat.mod_lt _ (by decide)⟩ l) := fun l hl => by
    obtain ⟨t, hT, ht⟩ := hg (ix2 i l)
    refine ⟨t, hT, ?_⟩
    refine ht.trans ((congrArg (fun w => I.rowVal t w l) (hid l)).trans ((if_neg hl).trans (congrArg t (funext fun a => Fin.ext ?_))))
    match a with
    | ⟨0, _⟩ => show (I.rowOf (ids (ix1 i))).toNat % 50176 = _; rw [hrow]; exact Nat.mod_mod _ _
    | ⟨1, _⟩ => rfl
  have hiff : (g (ix2 i 120) < Ideal.ofBits .f32 0x3F000000#32) ↔ (ids (ix1 i)).toNat < 50176 := by
    rw [h120]
    exact half_lt _ h
  unfold halfSel
  by_cases hlt : (ids (ix1 i)).toNat < 50176
  · refine (if_pos (hiff.mpr hlt)).trans ?_
    obtain ⟨t, hT, ht⟩ := hlane ⟨k.val, by omega⟩ (by show k.val ≠ 120; omega)
    refine ht.trans ((packed_low V src _ k _ rfl _ (hT _)).trans (congrArg (fun z => src (ix2 k z)) (Fin.ext ?_)))
    exact Nat.mod_eq_of_lt hlt
  · refine (if_neg fun h' => hlt (hiff.mp h')).trans ?_
    obtain ⟨t, hT, ht⟩ := hlane ⟨64 + k.val, by omega⟩ (by show 64 + k.val ≠ 120; omega)
    refine ht.trans ((packed_high V src _ (by show 50176 + (ids (ix1 i)).toNat % 50176 < 100000; omega) k _ rfl _ (hT _)).trans (congrArg (fun z => src (ix2 k z)) (Fin.ext ?_)))
    show 50176 + (ids (ix1 i)).toNat % 50176 = (ids (ix1 i)).toNat
    omega

end Cert.Proof.A
-- ==== Proof.ASpec.lean ====
/- The network as one function of the arguments, and that the kernel's result is it. -/
module

public import proofs.«01_k».proof.Proof.AEmb

@[expose] public section

noncomputable section

namespace Cert.Proof.A

open Idealize.ShloMosaic Cert.KernelIdeal Cert.KernelIdeal.Gen

/-- The table's row that an id names. -/
def row (w : BitVec 32) : Fin 100000 := ⟨w.toNat % 100000, Nat.mod_lt _ (by decide)⟩

/-- The scores of row `i`, from the arguments. -/
def spec (a0 a1 : S16384x1.Idx → BitVec 32) (a2 : S16384x1x20.Idx → EReal) (a3 : S16384x1.Idx → EReal) (a5 a6 : S100000x20.Idx → EReal)
    (a7 : S20x8.Idx → EReal) (a8 : S8.Idx → EReal) (a9 : S49x128.Idx → EReal) (a10 : S128.Idx → EReal) (a11 : S128x64.Idx → EReal)
    (a12 : S64.Idx → EReal) (a13 : S64x32.Idx → EReal) (a14 : S32.Idx → EReal) (a15 : S32x5.Idx → EReal) (a16 : S5.Idx → EReal)
    (i : Fin 16384) : Fin 5 → EReal :=
  net (fun k => a5 (ix2 (row (a1 (ix2 i 0))) k)) (fun k => a6 (ix2 (row (a0 (ix2 i 0))) k)) (fun k => a2 (ix3 i 0 k)) (a3 (ix2 i 0))
    (fun k n => a7 (ix2 k n)) (fun n => a8 (ix1 n)) (fun k n => a9 (ix2 ⟨k.val, by omega⟩ n)) (fun k n => a9 (ix2 ⟨20 + k.val, by omega⟩ n))
    (fun k n => a9 (ix2 ⟨40 + k.val, by omega⟩ n)) (fun n => a9 (ix2 48 n)) (fun n => a10 (ix1 n)) (fun k n => a11 (ix2 k n)) (fun n => a12 (ix1 n))
    (fun k n => a13 (ix2 k n)) (fun n => a14 (ix1 n)) (fun k n => a15 (ix2 k n)) (fun n => a16 (ix1 n))

/-- The scores from equal arguments. -/
theorem spec_congr {a0 b0 : S16384x1.Idx → BitVec 32} {a1 b1 : S16384x1.Idx → BitVec 32} {a2 b2 : S16384x1x20.Idx → EReal} {a3 b3 : S16384x1.Idx → EReal}
    {a5 b5 : S100000x20.Idx → EReal} {a6 b6 : S100000x20.Idx → EReal} {a7 b7 : S20x8.Idx → EReal} {a8 b8 : S8.Idx → EReal}
    {a9 b9 : S49x128.Idx → EReal} {a10 b10 : S128.Idx → EReal} {a11 b11 : S128x64.Idx → EReal} {a12 b12 : S64.Idx → EReal}
    {a13 b13 : S64x32.Idx → EReal} {a14 b14 : S32.Idx → EReal} {a15 b15 : S32x5.Idx → EReal} {a16 b16 : S5.Idx → EReal}
    (h0 : a0 = b0) (h1 : a1 = b1) (h2 : a2 = b2) (h3 : a3 = b3) (h5 : a5 = b5) (h6 : a6 = b6) (h7 : a7 = b7) (h8 : a8 = b8)
    (h9 : a9 = b9) (h10 : a10 = b10) (h11 : a11 = b11) (h12 : a12 = b12) (h13 : a13 = b13) (h14 : a14 = b14) (h15 : a15 = b15) (h16 : a16 = b16)
    (i : Fin 16384) (n : Fin 5) :
    spec a0 a1 a2 a3 a5 a6 a7 a8 a9 a10 a11 a12 a13 a14 a15 a16 i n = spec b0 b1 b2 b3 b5 b6 b7 b8 b9 b10 b11 b12 b13 b14 b15 b16 i n := by
  rw [h0, h1, h2, h3, h5, h6, h7, h8, h9, h10, h11, h12, h13, h14, h15, h16]

section Ops

variable (U : Valuation τ sig (Elt Ideal))

/-- The arrays before the last call: the genres, transposed, -/
theorem c25 (k : Fin 20) (i : Fin 16384) : (StableHlo.after I.opsC U (Proc.devRef .tc main_v25) : S20x16384.Idx → EReal) (ix2 k i)
    = (U (Proc.devRef .tc main_arg2) : S16384x1x20.Idx → EReal) (ix3 i 0 k) := by
  unfold I.opsC
  after_reads_at

/-- the votes, -/
theorem c30 (i : Fin 16384) : (StableHlo.after I.opsC U (Proc.devRef .tc main_v30) : S1x16384.Idx → EReal) (ix2 0 i)
    = (U (Proc.devRef .tc main_arg3) : S16384x1.Idx → EReal) (ix2 i 0) := by
  unfold I.opsC
  after_reads_at

/-- the four parts of the first layer's matrix, -/
theorem c26 (k : Fin 20) (n : Fin 128) : (StableHlo.after I.opsC U (Proc.devRef .tc main_v26) : S20x128.Idx → EReal) (ix2 k n)
    = (U (Proc.devRef .tc main_arg9) : S49x128.Idx → EReal) (ix2 ⟨k.val, by omega⟩ n) := by
  unfold I.opsC
  after_reads_at

theorem c27 (k : Fin 20) (n : Fin 128) : (StableHlo.after I.opsC U (Proc.devRef .tc main_v27) : S20x128.Idx → EReal) (ix2 k n)
    = (U (Proc.devRef .tc main_arg9) : S49x128.Idx → EReal) (ix2 ⟨20 + k.val, by omega⟩ n) := by
  unfold I.opsC
  after_reads_at

theorem c28 (k : Fin 8) (n : Fin 128) : (StableHlo.after I.opsC U (Proc.devRef .tc main_v28) : S8x128.Idx → EReal) (ix2 k n)
    = (U (Proc.devRef .tc main_arg9) : S49x128.Idx → EReal) (ix2 ⟨40 + k.val, by omega⟩ n) := by
  unfold I.opsC
  after_reads_at

theorem c29 (n : Fin 128) : (StableHlo.after I.opsC U (Proc.devRef .tc main_v29) : S1x128.Idx → EReal) (ix2 0 n)
    = (U (Proc.devRef .tc main_arg9) : S49x128.Idx → EReal) (ix2 48 n) := by
  unfold I.opsC
  after_reads_at

/-- and the biases, as rows and a column. -/
theorem c31 (n : Fin 8) : (StableHlo.after I.opsC U (Proc.devRef .tc main_v31) : S1x8.Idx → EReal) (ix2 0 n)
    = (U (Proc.devRef .tc main_arg8) : S8.Idx → EReal) (ix1 n) := by
  unfold I.opsC
  after_reads_at

theorem c32 (n : Fin 128) : (StableHlo.after I.opsC U (Proc.devRef .tc main_v32) : S1x128.Idx → EReal) (ix2 0 n)
    = (U (Proc.devRef .tc main_arg10) : S128.Idx → EReal) (ix1 n) := by
  unfold I.opsC
  after_reads_at

theorem c33 (n : Fin 64) : (StableHlo.after I.opsC U (Proc.devRef .tc main_v33) : S1x64.Idx → EReal) (ix2 0 n)
    = (U (Proc.devRef .tc main_arg12) : S64.Idx → EReal) (ix1 n) := by
  unfold I.opsC
  after_reads_at

theorem c34 (n : Fin 32) : (StableHlo.after I.opsC U (Proc.devRef .tc main_v34) : S1x32.Idx → EReal) (ix2 0 n)
    = (U (Proc.devRef .tc main_arg14) : S32.Idx → EReal) (ix1 n) := by
  unfold I.opsC
  after_reads_at

theorem c35 (n : Fin 5) : (StableHlo.after I.opsC U (Proc.devRef .tc main_v35) : S5x1.Idx → EReal) (ix2 n 0)
    = (U (Proc.devRef .tc main_arg16) : S5.Idx → EReal) (ix1 n) := by
  unfold I.opsC
  after_reads_at

end Ops

section Kernel

variable (V : Valuation τ sig (Elt Ideal)) (t : S50176x128.Idx → EReal) (g : S16384x128.Idx → EReal) (t' : S50176x128.Idx → EReal)
  (g' : S16384x128.Idx → EReal)

/-- The gathered rows reach the last call. -/
theorem c20 : StableHlo.after I.opsC (I.valC (F := Ideal) V t g t' g') (Proc.devRef .tc main_v20) = g := by
  rw [StableHlo.after_of_writes_sub (W := I.writtenC) (I.opsC (F := Ideal)) _ (StableHlo.forall_writes_sub_of_map rfl) (by decide)]
  unfold I.valC
  rw [Function.update_of_ne (StableHlo.devRef_ne_of_ne (by decide)), Function.update_of_ne (StableHlo.devRef_ne_of_ne (by decide)),
    StableHlo.after_of_writes_sub (W := [main_v21]) (I.opsB (F := Ideal)) _ (StableHlo.forall_writes_sub_of_map rfl) (by decide)]
  unfold I.valB
  exact Function.update_self ..

theorem c23 : StableHlo.after I.opsC (I.valC (F := Ideal) V t g t' g') (Proc.devRef .tc main_v23) = g' := by
  rw [StableHlo.after_of_writes_sub (W := I.writtenC) (I.opsC (F := Ideal)) _ (StableHlo.forall_writes_sub_of_map rfl) (by decide)]
  unfold I.valC
  exact Function.update_self ..

/-- The first table, transposed. -/
theorem a18 (k : Fin 20) (r : Fin 100000) : (I.valA V (Proc.devRef .tc main_v18) : S20x100000.Idx → EReal) (ix2 k r)
    = (V (Proc.devRef .tc main_arg5) : S100000x20.Idx → EReal) (ix2 r k) := by
  unfold I.valA I.opsA
  after_reads_at

end Kernel

end Cert.Proof.A
-- ==== Proof.AKer.lean ====
/- The kernel's result is the network of the arguments. -/
module

public import proofs.«01_k».proof.Proof.ASpec

@[expose] public section

noncomputable section

namespace Cert.Proof.A

open Idealize.ShloMosaic Cert.KernelIdeal Cert.KernelIdeal.Gen

variable (V : Valuation τ sig (Elt Ideal))

theorem row_of_lt {w : BitVec 32} (h : w.toNat < 100000) : row w = ⟨w.toNat, h⟩ := Fin.ext (Nat.mod_eq_of_lt h)

/-- The row the first table's gather is sent to. -/
theorem first_row (h1 : ∀ y, ((V (Proc.devRef .tc main_arg1) : S16384x1.Idx → BitVec 32) y).toNat < 100000) (g : S16384x128.Idx → EReal)
    (hg : ∀ j, I.OutRel (F := Ideal) (I.tabP V 0) (I.idsV V 0) j (g j)) (i : Fin 16384) (k : Fin 20) :
    halfSel (fun l => g (ix2 i l)) k
      = (V (Proc.devRef .tc main_arg5) : S100000x20.Idx → EReal) (ix2 (row ((V (Proc.devRef .tc main_arg1) : S16384x1.Idx → BitVec 32) (ix2 i 0))) k) := by
  have e : I.idsV V 0 (ix1 i) = (V (Proc.devRef .tc main_arg1) : S16384x1.Idx → BitVec 32) (ix2 i 0) := by
    rw [I.ids_zero]
    pointwise
  have h : (I.idsV V 0 (ix1 i)).toNat < 100000 := e ▸ h1 _
  refine (halfSel_row V _ (I.idsV V 0) g hg i h k).trans ((a18 V k _).trans ?_)
  rw [← e, row_of_lt h]

/-- The row the second table's gather is sent to. -/
theorem second_row (h0 : ∀ y, ((V (Proc.devRef .tc main_arg0) : S16384x1.Idx → BitVec 32) y).toNat < 100000) (g : S16384x128.Idx → EReal)
    (hg : ∀ j, I.OutRel (F := Ideal) (I.tabP V 1) (I.idsV V 1) j (g j)) (i : Fin 16384) (k : Fin 20) :
    halfSel (fun l => g (ix2 i l)) k
      = (V (Proc.devRef .tc main_arg6) : S100000x20.Idx → EReal) (ix2 (row ((V (Proc.devRef .tc main_arg0) : S16384x1.Idx → BitVec 32) (ix2 i 0))) k) := by
  have e : I.idsV V 1 (ix1 i) = (V (Proc.devRef .tc main_arg0) : S16384x1.Idx → BitVec 32) (ix2 i 0) := by
    rw [I.ids_one]
    pointwise
  have h : (I.idsV V 1 (ix1 i)).toNat < 100000 := e ▸ h0 _
  refine (halfSel_row V (I.src1 V) (I.idsV V 1) g hg i h k).trans ?_
  rw [← e, row_of_lt h]
  unfold I.src1
  pointwise

/-- The network of equal inputs. -/
theorem net_congr {a a' u u' g g' : Fin 20 → EReal} {v v' : EReal} {Wg Wg' : Fin 20 → Fin 8 → EReal} {bg bg' : Fin 8 → EReal}
    {Wa Wa' Wu Wu' : Fin 20 → Fin 128 → EReal} {Wh Wh' : Fin 8 → Fin 128 → EReal} {Wv Wv' b1 b1' : Fin 128 → EReal}
    {W2 W2' : Fin 128 → Fin 64 → EReal} {b2 b2' : Fin 64 → EReal} {W3 W3' : Fin 64 → Fin 32 → EReal} {b3 b3' : Fin 32 → EReal}
    {W4 W4' : Fin 32 → Fin 5 → EReal} {b4 b4' : Fin 5 → EReal} {n : Fin 5} (h0 : a = a') (h1 : u = u') (h2 : g = g') (h3 : v = v') (h4 : Wg = Wg')
    (h5 : bg = bg') (h6 : Wa = Wa') (h7 : Wu = Wu') (h8 : Wh = Wh') (h9 : Wv = Wv') (h10 : b1 = b1') (h11 : W2 = W2') (h12 : b2 = b2') (h13 : W3 = W3')
    (h14 : b3 = b3') (h15 : W4 = W4') (h16 : b4 = b4') :
    net a u g v Wg bg Wa Wu Wh Wv b1 W2 b2 W3 b3 W4 b4 n = net a' u' g' v' Wg' bg' Wa' Wu' Wh' Wv' b1' W2' b2' W3' b3' W4' b4' n := by
  rw [h0, h1, h2, h3, h4, h5, h6, h7, h8, h9, h10, h11, h12, h13, h14, h15, h16]

/-- An entry of the kernel's result. -/
theorem result_apply (h0 : ∀ y, ((V (Proc.devRef .tc main_arg0) : S16384x1.Idx → BitVec 32) y).toNat < 100000)
    (h1 : ∀ y, ((V (Proc.devRef .tc main_arg1) : S16384x1.Idx → BitVec 32) y).toNat < 100000) (res : S16384x5.Idx → EReal)
    (h : I.Result (F := Ideal) V res) (i : Fin 16384) (n : Fin 5) :
    res (ix2 i n) = spec (V (Proc.devRef .tc main_arg0)) (V (Proc.devRef .tc main_arg1)) (V (Proc.devRef .tc main_arg2))
      (V (Proc.devRef .tc main_arg3)) (V (Proc.devRef .tc main_arg5)) (V (Proc.devRef .tc main_arg6)) (V (Proc.devRef .tc main_arg7))
      (V (Proc.devRef .tc main_arg8)) (V (Proc.devRef .tc main_arg9)) (V (Proc.devRef .tc main_arg10)) (V (Proc.devRef .tc main_arg11))
      (V (Proc.devRef .tc main_arg12)) (V (Proc.devRef .tc main_arg13)) (V (Proc.devRef .tc main_arg14)) (V (Proc.devRef .tc main_arg15))
      (V (Proc.devRef .tc main_arg16)) i n := by
  obtain ⟨t, g, t', g', f, hg, hg', hf, rfl⟩ := h
  have e : I.outOf (F := Ideal) f (ix2 i n) = f (ix2 n i) := by
    unfold I.outOf
    pointwise
  rw [e]
  obtain ⟨r0, r1, gr, u, e0, e1, e2, e3, ev⟩ := hf (ix2 n i)
  have hi' : i.val = 4096 * (i.val / 4096) + i.val % 4096 := by omega
  refine (ev (ix2 n ⟨i.val % 4096, Nat.mod_lt _ (by decide)⟩) rfl rfl).trans ((mlpVal_apply ..).trans ?_)
  have s0 (l : Fin 128) : r0 (ix2 ⟨i.val % 4096, Nat.mod_lt _ (by decide)⟩ l) = g (ix2 i l) :=
    (e0 (ix2 ⟨i.val % 4096, Nat.mod_lt _ (by decide)⟩ l) (ix2 i l) hi' rfl).trans (congrFun (c20 V t g t' g') _)
  have s1 (l : Fin 128) : r1 (ix2 ⟨i.val % 4096, Nat.mod_lt _ (by decide)⟩ l) = g' (ix2 i l) :=
    (e1 (ix2 ⟨i.val % 4096, Nat.mod_lt _ (by decide)⟩ l) (ix2 i l) hi' rfl).trans (congrFun (c23 V t g t' g') _)
  have s2 (k : Fin 20) := (e2 (ix2 k ⟨i.val % 4096, Nat.mod_lt _ (by decide)⟩) (ix2 k i) rfl hi').trans (c25 (I.valC (F := Ideal) V t g t' g') k i)
  have s3 := (e3 (ix2 0 ⟨i.val % 4096, Nat.mod_lt _ (by decide)⟩) (ix2 0 i) hi').trans (c30 (I.valC (F := Ideal) V t g t' g') i)
  have w : ∀ r : Ref sig .tc, r ∈ [main_arg2, main_arg3, main_arg8, main_arg9, main_arg10, main_arg12, main_arg14, main_arg16]
      → I.valC (F := Ideal) V t g t' g' (Proc.devRef .tc r) = V (Proc.devRef .tc r) := fun r hr => I.valC_of (F := Ideal) V t g t' g' ((by decide :
        ∀ r ∈ [main_arg2, main_arg3, main_arg8, main_arg9, main_arg10, main_arg12, main_arg14, main_arg16], r ∉ I.writtenA ++ [main_v19, main_v20, main_v21, main_v22, main_v23]) r hr)
  have w7 := I.valC_args (F := Ideal) V t g t' g' (r := main_arg7) (by decide) (by decide)
  have w11 := I.valC_args (F := Ideal) V t g t' g' (r := main_arg11) (by decide) (by decide)
  have w13 := I.valC_args (F := Ideal) V t g t' g' (r := main_arg13) (by decide) (by decide)
  have w15 := I.valC_args (F := Ideal) V t g t' g' (r := main_arg15) (by decide) (by decide)
  unfold spec
  have b2 {α β γ : Type} {x y : α → β → γ} (h : ∀ k n, x k n = y k n) : x = y := funext fun k => funext (h k)
  refine net_congr (funext fun k => ?_) (funext fun k => ?_) (funext fun k => ?_) ?_ (b2 fun k n => ?_) (funext fun n => ?_) (b2 fun k n => ?_)
    (b2 fun k n => ?_) (b2 fun k n => ?_) (funext fun n => ?_) (funext fun n => ?_) (b2 fun k n => ?_) (funext fun n => ?_) (b2 fun k n => ?_)
    (funext fun n => ?_) (b2 fun k n => ?_) (funext fun n => ?_)
  · exact (congrArg (halfSel · k) (funext s0)).trans (first_row V h1 g hg i k)
  · exact (congrArg (halfSel · k) (funext s1)).trans (second_row V h0 g' hg' i k)
  · exact (s2 k).trans (congrFun (w main_arg2 (by decide)) (ix3 i 0 k))
  · exact s3.trans (congrFun (w main_arg3 (by decide)) (ix2 i 0))
  · exact congrFun w7 (ix2 k n)
  · exact (c31 _ n).trans (congrFun (w main_arg8 (by decide)) (ix1 n))
  · exact (c26 _ k n).trans (congrFun (w main_arg9 (by decide)) (ix2 ⟨k.val, by omega⟩ n))
  · exact (c27 _ k n).trans (congrFun (w main_arg9 (by decide)) (ix2 ⟨20 + k.val, by omega⟩ n))
  · exact (c28 _ k n).trans (congrFun (w main_arg9 (by decide)) (ix2 ⟨40 + k.val, by omega⟩ n))
  · exact (c29 _ n).trans (congrFun (w main_arg9 (by decide)) (ix2 48 n))
  · exact (c32 _ n).trans (congrFun (w main_arg10 (by decide)) (ix1 n))
  · exact congrFun w11 (ix2 k n)
  · exact (c33 _ n).trans (congrFun (w main_arg12 (by decide)) (ix1 n))
  · exact congrFun w13 (ix2 k n)
  · exact (c34 _ n).trans (congrFun (w main_arg14 (by decide)) (ix1 n))
  · exact congrFun w15 (ix2 k n)
  · exact (c35 _ n).trans (congrFun (w main_arg16 (by decide)) (ix1 n))

end Cert.Proof.A
-- ==== Proof.ARef.lean ====
/- The reference's result is the network of the arguments. -/
module

public import proofs.«01_k».proof.Proof.AKer
public import proofs.«01_k».proof.Proof.Gen.ReferenceIdeal.Run
public import Idealize.ShloMosaic.Lib.ReduceAll

@[expose] public section

noncomputable section

namespace Cert.Proof.R

open Idealize.ShloMosaic Idealize.ShloMosaic.TcCoe Cert.ReferenceIdeal Cert.ReferenceIdeal.Gen Cert.Proof.A

/-! ## The reference's steps, named -/

/-- The row numbers, one to an index. -/
def numbers (ids : IVec S16384x1 32) : IVec S16384x1x1 32 :=
  broadcastInDim S16384x1x1 ![0, 1] bcast_S16384x1_S16384x1x1_0_1 (select (cmpi .slt ids (broadcastInDim S16384x1 ![] bcast_S_S16384x1 (constantI S_ 32 0#32)))
    (addi ids (broadcastInDim S16384x1 ![] bcast_S_S16384x1 (constantI S_ 32 100000#32))) ids)

/-- Whether each is in range. -/
def inside (ids : IVec S16384x1 32) : IVec S16384x1 1 :=
  Host.reduce IntOp.andi (andi (cmpi .sge (numbers ids) (broadcastInDim S16384x1x1 ![] bcast_S_S16384x1x1 (constantI S_ 32 0#32)))
    (cmpi .sle (numbers ids) (broadcastInDim S16384x1x1 ![0, 1, 2] bcast_S1x1x1_S16384x1x1_0_1_2 (broadcastInDim S1x1x1 ![2] bcast_S1_S1x1x1_2 (constantI S1 32 99999#32)))))
    (constantI S_ 1 1#1) reducesTo_S16384x1x1_S16384x1_d2 h_S_

/-- The table's rows at those numbers. -/
def rows (tbl : FVec Ideal S100000x20 .f32) (ids : IVec S16384x1 32) : FVec Ideal S16384x1x20 .f32 :=
  Host.gather gather_S100000x20_S16384x1x1_S16384x1x20_2_0_n_n_0_2_120 tbl (numbers ids)

/-- The table's rows, where the numbers are in range. -/
def taken (tbl : FVec Ideal S100000x20 .f32) (ids : IVec S16384x1 32) : FVec Ideal S16384x20 .f32 :=
  shapeCast _ (select (broadcastInDim S16384x1x20 ![0, 1] bcast_S16384x1_S16384x1x20_0_1 (inside ids)) (rows tbl ids)
    (broadcastInDim S16384x1x20 ![] bcast_S_S16384x1x20 (constant S_ .f32 0x7FC00000#32))) shapeCasts_S16384x1x20_S16384x20

/-- The genres' layer. -/
def genres (a : FVec Ideal S16384x1x20 .f32) (W : FVec Ideal S20x8 .f32) (b : FVec Ideal S8 .f32) : FVec Ideal S16384x8 .f32 :=
  shapeCast _ (maximumf (addf (Host.dotGeneral dot_S16384x1x20_S20x8_S16384x1x8_2_0_01_1_n_n none a W) (broadcastInDim S16384x1x8 ![0, 1, 2] bcast_S1x1x8_S16384x1x8_0_1_2 (broadcastInDim S1x1x8 ![2] bcast_S8_S1x1x8_2 b)))
    (broadcastInDim S16384x1x8 ![] bcast_S_S16384x1x8 (constant S_ .f32 0x00000000#32))) shapeCasts_S16384x1x8_S16384x8

/-- The features side by side. -/
def feats (x y : FVec Ideal S16384x20 .f32) (g : FVec Ideal S16384x8 .f32) (v : FVec Ideal S16384x1 .f32) : FVec Ideal S16384x49 .f32 :=
  concatenate S16384x49 1 [⟨S16384x20, x⟩, ⟨S16384x20, y⟩, ⟨S16384x8, g⟩, ⟨S16384x1, v⟩] concatenates_S16384x20_S16384x20_S16384x8_S16384x1_S16384x49_d1

/-- The four layers. -/
def lay1 (x : FVec Ideal S16384x49 .f32) (W : FVec Ideal S49x128 .f32) (b : FVec Ideal S128 .f32) : FVec Ideal S16384x128 .f32 :=
  maximumf (addf (Host.dotGeneral dot_S16384x49_S49x128_S16384x128_1_0_0_1_n_n none x W) (broadcastInDim S16384x128 ![0, 1] bcast_S1x128_S16384x128_0_1 (broadcastInDim S1x128 ![1] bcast_S128_S1x128_1 b)))
    (broadcastInDim S16384x128 ![] bcast_S_S16384x128 (constant S_ .f32 0x00000000#32))
def lay2 (x : FVec Ideal S16384x128 .f32) (W : FVec Ideal S128x64 .f32) (b : FVec Ideal S64 .f32) : FVec Ideal S16384x64 .f32 :=
  maximumf (addf (Host.dotGeneral dot_S16384x128_S128x64_S16384x64_1_0_0_1_n_n none x W) (broadcastInDim S16384x64 ![0, 1] bcast_S1x64_S16384x64_0_1 (broadcastInDim S1x64 ![1] bcast_S64_S1x64_1 b)))
    (broadcastInDim S16384x64 ![] bcast_S_S16384x64 (constant S_ .f32 0x00000000#32))
def lay3 (x : FVec Ideal S16384x64 .f32) (W : FVec Ideal S64x32 .f32) (b : FVec Ideal S32 .f32) : FVec Ideal S16384x32 .f32 :=
  maximumf (addf (Host.dotGeneral dot_S16384x64_S64x32_S16384x32_1_0_0_1_n_n none x W) (broadcastInDim S16384x32 ![0, 1] bcast_S1x32_S16384x32_0_1 (broadcastInDim S1x32 ![1] bcast_S32_S1x32_1 b)))
    (broadcastInDim S16384x32 ![] bcast_S_S16384x32 (constant S_ .f32 0x00000000#32))
def lay4 (x : FVec Ideal S16384x32 .f32) (W : FVec Ideal S32x5 .f32) (b : FVec Ideal S5 .f32) : FVec Ideal S16384x5 .f32 :=
  maximumf (addf (Host.dotGeneral dot_S16384x32_S32x5_S16384x5_1_0_0_1_n_n none x W) (broadcastInDim S16384x5 ![0, 1] bcast_S1x5_S16384x5_0_1 (broadcastInDim S1x5 ![1] bcast_S5_S1x5_1 b)))
    (broadcastInDim S16384x5 ![] bcast_S_S16384x5 (constant S_ .f32 0x00000000#32))

/-- The exponentials, each row's largest entry subtracted, -/
def exps (x : FVec Ideal S16384x5 .f32) : FVec Ideal S16384x5 .f32 :=
  Host.exp (subf x (broadcastInDim S16384x5 ![0, 1] bcast_S16384x1_S16384x5_0_1 (broadcastInDim S16384x1 ![0] bcast_S16384_S16384x1_0
    (maximumf (broadcastInDim S16384 ![] bcast_S_S16384 (constant S_ .f32 0xFF800000#32)) (Host.reduce FloatOps.maximumf x (constant S_ .f32 0xFF800000#32) reducesTo_S16384x5_S16384_d1 h_S_)))))
/-- and the scores. -/
def scores (x : FVec Ideal S16384x5 .f32) : FVec Ideal S16384x5 .f32 :=
  Host.divf (exps x) (broadcastInDim S16384x5 ![0, 1] bcast_S16384x1_S16384x5_0_1 (broadcastInDim S16384x1 ![0] bcast_S16384_S16384x1_0
    (Host.reduceAdd (exps x) (constant S_ .f32 0x00000000#32) reducesTo_S16384x5_S16384_d1 h_S_)))

section Whole

variable (m : (ℓ : Loc nD τ sig) → Buf (Elt Ideal) ℓ) (c : Dev nD)

/-- The reference's result by its steps. -/
theorem res_steps : Value.res_main_v41 m c
    = scores (lay4 (lay3 (lay2 (lay1 (feats (taken (m ((c.tc : Thread nD τ).loc main_arg5)) (m ((c.tc : Thread nD τ).loc main_arg1)))
        (taken (m ((c.tc : Thread nD τ).loc main_arg6)) (m ((c.tc : Thread nD τ).loc main_arg0)))
        (genres (m ((c.tc : Thread nD τ).loc main_arg2)) (m ((c.tc : Thread nD τ).loc main_arg7)) (m ((c.tc : Thread nD τ).loc main_arg8)))
        (m ((c.tc : Thread nD τ).loc main_arg3)))
      (m ((c.tc : Thread nD τ).loc main_arg9)) (m ((c.tc : Thread nD τ).loc main_arg10))) (m ((c.tc : Thread nD τ).loc main_arg11)) (m ((c.tc : Thread nD τ).loc main_arg12)))
      (m ((c.tc : Thread nD τ).loc main_arg13)) (m ((c.tc : Thread nD τ).loc main_arg14))) (m ((c.tc : Thread nD τ).loc main_arg15)) (m ((c.tc : Thread nD τ).loc main_arg16))) := by
  unfold Value.res_main_v41 scores exps lay4 lay3 lay2 lay1 feats genres taken rows inside numbers
  rfl

end Whole

/-! ## Read at an index -/

/-- The genres' layer is a dense layer, -/
theorem genres_apply (a : FVec Ideal S16384x1x20 .f32) (W : FVec Ideal S20x8 .f32) (b : FVec Ideal S8 .f32) (i : Fin 16384) (n : Fin 8) :
    genres a W b (ix2 i n) = layer (fun k => a (ix3 i 0 k)) (fun k n => W (ix2 k n)) (fun n => b (ix1 n)) n := by
  unfold genres layer
  pointwise

/-- and so is each of the four, -/
theorem lay1_apply (x : FVec Ideal S16384x49 .f32) (W : FVec Ideal S49x128 .f32) (b : FVec Ideal S128 .f32) (i : Fin 16384) (n : Fin 128) :
    lay1 x W b (ix2 i n) = layer (fun k => x (ix2 i k)) (fun k n => W (ix2 k n)) (fun n => b (ix1 n)) n := by
  unfold lay1 layer
  pointwise

theorem lay2_apply (x : FVec Ideal S16384x128 .f32) (W : FVec Ideal S128x64 .f32) (b : FVec Ideal S64 .f32) (i : Fin 16384) (n : Fin 64) :
    lay2 x W b (ix2 i n) = layer (fun k => x (ix2 i k)) (fun k n => W (ix2 k n)) (fun n => b (ix1 n)) n := by
  unfold lay2 layer
  pointwise

theorem lay3_apply (x : FVec Ideal S16384x64 .f32) (W : FVec Ideal S64x32 .f32) (b : FVec Ideal S32 .f32) (i : Fin 16384) (n : Fin 32) :
    lay3 x W b (ix2 i n) = layer (fun k => x (ix2 i k)) (fun k n => W (ix2 k n)) (fun n => b (ix1 n)) n := by
  unfold lay3 layer
  pointwise

theorem lay4_apply (x : FVec Ideal S16384x32 .f32) (W : FVec Ideal S32x5 .f32) (b : FVec Ideal S5 .f32) (i : Fin 16384) (n : Fin 5) :
    lay4 x W b (ix2 i n) = layer (fun k => x (ix2 i k)) (fun k n => W (ix2 k n)) (fun n => b (ix1 n)) n := by
  unfold lay4 layer
  pointwise

/-- The exponentials, -/
theorem exps_apply (x : FVec Ideal S16384x5 .f32) (i : Fin 16384) (n : Fin 5) :
    exps x (ix2 i n) = Ideal.exp (x (ix2 i n) - top fun k => x (ix2 i k)) := by
  unfold exps top
  pointwise
  rw [max_eq_right ((Finset.le_fold_max _).mpr (Or.inl le_rfl))]

/-- and the softmax. -/
theorem scores_apply (x : FVec Ideal S16384x5 .f32) (i : Fin 16384) (n : Fin 5) :
    scores x (ix2 i n) = soft (fun k => x (ix2 i k)) n := by
  unfold scores soft
  simp only [← exps_apply]
  pointwise

/-- A row number in range is itself, -/
theorem numbers_apply (ids : IVec S16384x1 32) (h : ∀ y, (ids y).toNat < 100000) (i : Fin 16384) : numbers ids (ix3 i 0 0) = ids (ix2 i 0) := by
  have e : numbers ids (ix3 i 0 0) = Scalar.select (IntOp.cmpi .slt (ids (ix2 i 0)) 0#32) (IntOp.addi (ids (ix2 i 0)) 100000#32) (ids (ix2 i 0)) := by
    unfold numbers
    pointwise
  refine e.trans (if_neg ?_)
  show ¬ IntOp.cmpi .slt (ids (ix2 i 0)) 0#32 = 1#1
  have := h (ix2 i 0)
  have one (p : Bool) : (BitVec.ofBool p = 1#1) ↔ p = true := by cases p <;> decide
  simp only [IntOp.cmpi, one, BitVec.slt_eq_decide, decide_eq_true_eq, BitVec.toInt_eq_toNat_cond, BitVec.toNat_ofNat]
  omega

/-- it passes the test, -/
theorem inside_one (ids : IVec S16384x1 32) (h : ∀ y, (ids y).toNat < 100000) (y : S16384x1.Idx) : inside ids y = 1#1 := by
  unfold inside
  refine Host.reduce_andi_one _ _ _ _ _ rfl fun j => ?_
  have e : numbers ids j = ids (ix2 (j 0) 0) := by
    have hj : j = ix3 (j 0) 0 0 := by
      funext a
      match a with
      | ⟨0, _⟩ => rfl
      | ⟨1, _⟩ => exact Subsingleton.elim (α := Fin 1) _ _
      | ⟨2, _⟩ => exact Subsingleton.elim (α := Fin 1) _ _
    rw [hj]
    exact numbers_apply ids h (j 0)
  show IntOp.andi (IntOp.cmpi .sge (numbers ids j) 0#32) (IntOp.cmpi .sle (numbers ids j) 99999#32) = 1#1
  rw [e]
  have := h (ix2 (j 0) 0)
  have one (p : Bool) : (BitVec.ofBool p = 1#1) ↔ p = true := by cases p <;> decide
  refine IntOp.andi_eq_one.mpr ⟨?_, ?_⟩ <;>
  · simp only [IntOp.cmpi, one, BitVec.sle_eq_decide, decide_eq_true_eq, BitVec.toInt_eq_toNat_cond, BitVec.toNat_ofNat]
    omega

/-- and the row read is the one it names. -/
theorem rows_apply (tbl : FVec Ideal S100000x20 .f32) (ids : IVec S16384x1 32) (h : ∀ y, (ids y).toNat < 100000) (i : Fin 16384) (k : Fin 20) :
    rows tbl ids (ix3 i 0 k) = tbl (ix2 (row (ids (ix2 i 0))) k) := by
  unfold rows Host.gather
  refine congrArg tbl (funext fun a => Fin.ext ?_)
  have h' := h (ix2 i 0)
  let d := gather_S100000x20_S16384x1x1_S16384x1x20_2_0_n_n_0_2_120
  match a with
  | ⟨0, _⟩ =>
    show d.start (ix3 i 0 k) (numbers ids) 0 + d.batchCoord (ix3 i 0 k) 0 + d.offCoord (ix3 i 0 k) 0 = _
    rw [d.batchCoord_eq_zero _ _ List.not_mem_nil, d.offCoord_eq_zero _ _ (fun hm => ((d.mem_sKept _).mp hm).1 (List.mem_singleton.mpr rfl))]
    simp only [Nat.add_zero]
    unfold GatherDims.start
    rw [dif_pos (show (0 : Fin 2) ∈ d.startIndexMap from List.mem_singleton.mpr rfl)]
    have hsi : d.siIdx (ix3 i 0 k) ⟨d.startIndexMap.idxOf 0, List.idxOf_lt_length_iff.2 (List.mem_singleton.mpr rfl)⟩ = ix3 i 0 0 := by
      funext b
      refine Fin.ext ?_
      match b with
      | ⟨0, _⟩ => rfl
      | ⟨1, _⟩ => rfl
      | ⟨2, _⟩ => rfl
    rw [hsi, numbers_apply ids h i, row_of_lt h']
    show min (ids (ix2 i 0)).toInt.toNat (100000 - 1) = (ids (ix2 i 0)).toNat
    rw [BitVec.toInt_eq_toNat_cond]
    omega
  | ⟨1, _⟩ =>
    have hk : (1 : Fin 2) ∈ d.sKept := (d.mem_sKept 1).2 ⟨by decide, List.not_mem_nil⟩
    have hm : (1 : Fin 2) ∉ d.startIndexMap := by decide
    show d.start (ix3 i 0 k) (numbers ids) 1 + d.batchCoord (ix3 i 0 k) 1 + d.offCoord (ix3 i 0 k) 1 = _
    rw [d.batchCoord_eq_zero _ _ List.not_mem_nil, Nat.add_zero]
    unfold GatherDims.start GatherDims.offCoord
    rw [dif_neg hm, dif_pos hk, Nat.zero_add]
    rfl

/-- So the rows taken are the table's. -/
theorem taken_apply (tbl : FVec Ideal S100000x20 .f32) (ids : IVec S16384x1 32) (h : ∀ y, (ids y).toNat < 100000) (i : Fin 16384) (k : Fin 20) :
    taken tbl ids (ix2 i k) = tbl (ix2 (row (ids (ix2 i 0))) k) := by
  rw [← rows_apply tbl ids h i k]
  unfold taken
  pointwise
  rw [inside_one ids h]
  rfl

/-- A sum over the features, in their four parts. -/
theorem sum_parts (f : Fin 49 → EReal) : ∑ k, f k = ∑ k : Fin 20, f ⟨k.val, by omega⟩ + ∑ k : Fin 20, f ⟨20 + k.val, by omega⟩
    + ∑ k : Fin 8, f ⟨40 + k.val, by omega⟩ + f 48 := by
  have e := Fin.sum_univ_add (a := 48) (b := 1) f
  have e' := Fin.sum_univ_add (a := 40) (b := 8) fun k => f (Fin.castAdd 1 k)
  have e'' := Fin.sum_univ_add (a := 20) (b := 20) fun k => f (Fin.castAdd 1 (Fin.castAdd 8 k))
  rw [Fin.sum_univ_one] at e
  exact e.trans (congrArg (· + _) (e'.trans (congrArg (· + _) e'')))

/-- The first layer in the parts its input has. -/
theorem first_apply (x y : FVec Ideal S16384x20 .f32) (g : FVec Ideal S16384x8 .f32) (v : FVec Ideal S16384x1 .f32) (W : FVec Ideal S49x128 .f32)
    (b : FVec Ideal S128 .f32) (i : Fin 16384) (n : Fin 128) :
    lay1 (feats x y g v) W b (ix2 i n) = first (fun k => x (ix2 i k)) (fun k => y (ix2 i k)) (fun k => g (ix2 i k)) (v (ix2 i 0))
      (fun k n => W (ix2 ⟨k.val, by omega⟩ n)) (fun k n => W (ix2 ⟨20 + k.val, by omega⟩ n)) (fun k n => W (ix2 ⟨40 + k.val, by omega⟩ n))
      (fun n => W (ix2 48 n)) (fun n => b (ix1 n)) n := by
  unfold lay1 feats first
  pointwise
  rw [sum_parts]
  rfl

/-- An entry of the reference's result. -/
theorem res_apply (m : (ℓ : Loc nD τ sig) → Buf (Elt Ideal) ℓ) (c : Dev nD)
    (h0 : ∀ y, ((m ((c.tc : Thread nD τ).loc main_arg0) : IVec S16384x1 32) y).toNat < 100000)
    (h1 : ∀ y, ((m ((c.tc : Thread nD τ).loc main_arg1) : IVec S16384x1 32) y).toNat < 100000) (i : Fin 16384) (n : Fin 5) :
    (Value.res_main_v41 m c : S16384x5.Idx → EReal) (ix2 i n) = spec (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) (m ((c.tc : Thread nD τ).loc main_arg16)) i n := by
  rw [res_steps]
  refine (scores_apply _ i n).trans ?_
  simp only [lay4_apply, lay3_apply, lay2_apply, first_apply, genres_apply, taken_apply _ _ h0, taken_apply _ _ h1]
  rfl

end Cert.Proof.R
-- ==== Proof.Alg.lean ====
/- The value claim: the kernel's ideal form and the reference end with the same scores. -/
module

public import proofs.«01_k».proof.Proof.ARef
public import proofs.«01_k».proof.Proof.Frames

@[expose] public section

noncomputable section

namespace Cert.Proof

open Idealize.ShloMosaic Idealize.SL.Sem Cert Cert.Proof.A

/-- The scores both programs end with, from the kernel's arguments. -/
def scoresOf (m : (ℓ : Loc Cert.KernelIdeal.nD Cert.KernelIdeal.τ Cert.KernelIdeal.sig) → Buf (Elt Ideal) ℓ) (c : Dev Cert.KernelIdeal.nD) :
    Cert.KernelIdeal.S16384x5.Idx → EReal := fun j =>
  spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
    (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    (m ((c.tc : Thread Cert.KernelIdeal.nD Cert.KernelIdeal.τ).loc Cert.KernelIdeal.main_arg16)) (j 0) (j 1)

/-- The value claim. -/
theorem algebraic : algebraic_KernelIdeal_ReferenceIdeal (hKernelIdeal := Cert.KernelIdeal.Gen.facts) (hReferenceIdeal := Cert.ReferenceIdeal.Gen.facts)
    (hPre_ids_in_range := Cert.Pre_ids_in_range.Gen.facts) := fun m g m' g' hpre hargs => by
  have r0 := fun d => (range_of_pre _ _ (hpre d)).1
  have r1 := fun d => (range_of_pre _ _ (hpre d)).2
  refine ⟨scoresOf m, ?_, ?_⟩
  · refine (θ_run (Cert.KernelIdeal.defs (F := Ideal)) _ _).mono (fun r h c => ⟨?_, (h.1 c).2 Cert.KernelIdeal.main_arg0 (by decide), (h.1 c).2 Cert.KernelIdeal.main_arg1 (by decide), (h.1 c).2 Cert.KernelIdeal.main_arg2 (by decide), (h.1 c).2 Cert.KernelIdeal.main_arg3 (by decide), (h.1 c).2 Cert.KernelIdeal.main_arg4 (by decide), (h.1 c).2 Cert.KernelIdeal.main_arg5 (by decide), (h.1 c).2 Cert.KernelIdeal.main_arg6 (by decide), (h.1 c).2 Cert.KernelIdeal.main_arg7 (by decide), (h.1 c).2 Cert.KernelIdeal.main_arg8 (by decide), (h.1 c).2 Cert.KernelIdeal.main_arg9 (by decide), (h.1 c).2 Cert.KernelIdeal.main_arg10 (by decide), (h.1 c).2 Cert.KernelIdeal.main_arg11 (by decide), (h.1 c).2 Cert.KernelIdeal.main_arg12 (by decide), (h.1 c).2 Cert.KernelIdeal.main_arg13 (by decide), (h.1 c).2 Cert.KernelIdeal.main_arg14 (by decide), (h.1 c).2 Cert.KernelIdeal.main_arg15 (by decide), (h.1 c).2 Cert.KernelIdeal.main_arg16 (by decide)⟩)
      (I.run_of_range m g r0 r1)
    funext j
    have e : j = ix2 (j 0) (j 1) := by
      funext a
      match a with
      | ⟨0, _⟩ => rfl
      | ⟨1, _⟩ => rfl
    rw [e]
    exact result_apply (I.val0 m c) (r0 c) (r1 c) _ (h.1 c).1 (j 0) (j 1)
  · refine (θ_run (Cert.ReferenceIdeal.defs (F := Ideal)) _ _).mono (fun r h c => ⟨(h c).1.trans ?_, (h c).2⟩) (Cert.ReferenceIdeal.Value.run (F := Ideal) m' g')
    obtain ⟨h0, h1, h2, h3, -, h5, h6, h7, h8, h9, h10, h11, h12, h13, h14, h15, h16⟩ := hargs c
    funext j
    have e : j = ix2 (j 0) (j 1) := by
      funext a
      match a with
      | ⟨0, _⟩ => rfl
      | ⟨1, _⟩ => rfl
    rw [e]
    refine (R.res_apply m' c (fun y => ?_) (fun y => ?_) (j 0) (j 1)).trans ?_
    · exact (congrArg BitVec.toNat (congrFun h0 y)).trans_lt (r0 c y)
    · exact (congrArg BitVec.toNat (congrFun h1 y)).trans_lt (r1 c y)
    · exact spec_congr h0 h1 h2 h3 h5 h6 h7 h8 h9 h10 h11 h12 h13 h14 h15 h16 (j 0) (j 1)

end Cert.Proof
-- ==== Proof.lean ====
module

public import proofs.«01_k».proof.Defs
public import proofs.«01_k».proof.Proof.Frames
public import proofs.«01_k».proof.Proof.Alg
public import proofs.«01_k».proof.Proof.Gen.ReferenceIdeal.Run

@[expose] public section

noncomputable section

namespace Cert.Proof

theorem claim : Cert.Claim :=
  ⟨Cert.Kernel.Gen.facts, Cert.KernelIdeal.Gen.facts, Cert.ReferenceIdeal.Gen.facts, Cert.Pre_ids_in_range.Gen.facts,
    frame_kernel, frame_ideal, frame_reference, trivial, algebraic⟩

end Cert.Proof

end
